-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S32768x1024 : Shape := ⟨2, ![32768, 1024]⟩
abbrev S1024 : Shape := ⟨1, ![1024]⟩
abbrev S1024x2688 : Shape := ⟨2, ![1024, 2688]⟩
abbrev S4x1344 : Shape := ⟨2, ![4, 1344]⟩
abbrev S1344 : Shape := ⟨1, ![1344]⟩
abbrev S16x84x84 : Shape := ⟨3, ![16, 84, 84]⟩
abbrev S1344x1024 : Shape := ⟨2, ![1344, 1024]⟩
abbrev S1024x1344 : Shape := ⟨2, ![1024, 1344]⟩
abbrev S_ : Shape := ⟨0, ![]⟩
abbrev S1024x1408 : Shape := ⟨2, ![1024, 1408]⟩
abbrev S1024x2816 : Shape := ⟨2, ![1024, 2816]⟩
abbrev S1x1024 : Shape := ⟨2, ![1, 1024]⟩
abbrev S4x1408 : Shape := ⟨2, ![4, 1408]⟩
abbrev S1x1344 : Shape := ⟨2, ![1, 1344]⟩
abbrev S1x1408 : Shape := ⟨2, ![1, 1408]⟩
abbrev S16x16 : Shape := ⟨2, ![16, 16]⟩
abbrev S16x84x1x84 : Shape := ⟨4, ![16, 84, 1, 84]⟩
abbrev S16x1x16x1 : Shape := ⟨4, ![16, 1, 16, 1]⟩
abbrev S16x84x16x84 : Shape := ⟨4, ![16, 84, 16, 84]⟩
abbrev S1344x1344 : Shape := ⟨2, ![1344, 1344]⟩
abbrev S1408x1408 : Shape := ⟨2, ![1408, 1408]⟩
abbrev S384x128 : Shape := ⟨2, ![384, 128]⟩
abbrev S384x256 : Shape := ⟨2, ![384, 256]⟩
abbrev S1x384x256 : Shape := ⟨3, ![1, 384, 256]⟩
abbrev S11x384x256 : Shape := ⟨3, ![11, 384, 256]⟩
abbrev S1408x1024 : Shape := ⟨2, ![1408, 1024]⟩
abbrev S512x1024 : Shape := ⟨2, ![512, 1024]⟩
abbrev S2x536x2816 : Shape := ⟨3, ![2, 536, 2816]⟩
abbrev S512x1408 : Shape := ⟨2, ![512, 1408]⟩
abbrev S8x1408 : Shape := ⟨2, ![8, 1408]⟩
abbrev S24x1408 : Shape := ⟨2, ![24, 1408]⟩
abbrev S1x24x1408 : Shape := ⟨3, ![1, 24, 1408]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x512x256 : Shape := ⟨3, ![1, 512, 256]⟩
abbrev S1x512x1408 : Shape := ⟨3, ![1, 512, 1408]⟩
abbrev S512x384 : Shape := ⟨2, ![512, 384]⟩
abbrev S512x128 : Shape := ⟨2, ![512, 128]⟩
abbrev S1x128 : Shape := ⟨2, ![1, 128]⟩

abbrev nBuf : Space → Nat
  | .hbm => 126
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2688, .f32⟩
  | .hbm, ⟨3, _⟩ => ⟨S4x1344, .f32⟩
  | .hbm, ⟨4, _⟩ => ⟨S1344, .f32⟩
  | .hbm, ⟨5, _⟩ => ⟨S16x84x84, .f32⟩
  | .hbm, ⟨6, _⟩ => ⟨S1344, .f32⟩
  | .hbm, ⟨7, _⟩ => ⟨S16x84x84, .f32⟩
  | .hbm, ⟨8, _⟩ => ⟨S1344, .f32⟩
  | .hbm, ⟨9, _⟩ => ⟨S1344, .f32⟩
  | .hbm, ⟨10, _⟩ => ⟨S1344x1024, .f32⟩
  | .hbm, ⟨11, _⟩ => ⟨S1024, .f32⟩
  | .hbm, ⟨12, _⟩ => ⟨S1024x1344, .f32⟩
  | .hbm, ⟨13, _⟩ => ⟨S_, .i32⟩
  | .hbm, ⟨14, _⟩ => ⟨S_, .f32⟩
  | .hbm, ⟨15, _⟩ => ⟨S1024x1408, .f32⟩
  | .hbm, ⟨16, _⟩ => ⟨S1024x1344, .f32⟩
  | .hbm, ⟨17, _⟩ => ⟨S_, .i32⟩
  | .hbm, ⟨18, _⟩ => ⟨S_, .f32⟩
  | .hbm, ⟨19, _⟩ => ⟨S1024x1408, .f32⟩
  | .hbm, ⟨20, _⟩ => ⟨S1024x2816, .f32⟩
  | .hbm, ⟨21, _⟩ => ⟨S1x1024, .f32⟩
  | .hbm, ⟨22, _⟩ => ⟨S1024x2816, .bf16⟩
  | .hbm, ⟨23, _⟩ => ⟨S_, .i32⟩
  | .hbm, ⟨24, _⟩ => ⟨S_, .f32⟩
  | .hbm, ⟨25, _⟩ => ⟨S4x1408, .f32⟩
  | .hbm, ⟨26, _⟩ => ⟨S1x1344, .f32⟩
  | .hbm, ⟨27, _⟩ => ⟨S_, .i32⟩
  | .hbm, ⟨28, _⟩ => ⟨S_, .f32⟩
  | .hbm, ⟨29, _⟩ => ⟨S1x1408, .f32⟩
  | .hbm, ⟨30, _⟩ => ⟨S16x16, .i32⟩
  | .hbm, ⟨31, _⟩ => ⟨S16x16, .i32⟩
  | .hbm, ⟨32, _⟩ => ⟨S_, .i32⟩
  | .hbm, ⟨33, _⟩ => ⟨S16x16, .i32⟩
  | .hbm, ⟨34, _⟩ => ⟨S16x16, .i32⟩
  | .hbm, ⟨35, _⟩ => ⟨S16x16, .i1⟩
  | .hbm, ⟨36, _⟩ => ⟨S16x16, .f32⟩
  | .hbm, ⟨37, _⟩ => ⟨S16x84x1x84, .f32⟩
  | .hbm, ⟨38, _⟩ => ⟨S16x1x16x1, .f32⟩
  | .hbm, ⟨39, _⟩ => ⟨S16x84x16x84, .f32⟩
  | .hbm, ⟨40, _⟩ => ⟨S16x84x16x84, .f32⟩
  | .hbm, ⟨41, _⟩ => ⟨S16x84x16x84, .f32⟩
  | .hbm, ⟨42, _⟩ => ⟨S1344x1344, .f32⟩
  | .hbm, ⟨43, _⟩ => ⟨S_, .i32⟩
  | .hbm, ⟨44, _⟩ => ⟨S_, .f32⟩
  | .hbm, ⟨45, _⟩ => ⟨S1408x1408, .f32⟩
  | .hbm, ⟨46, _⟩ => ⟨S16x16, .i32⟩
  | .hbm, ⟨47, _⟩ => ⟨S16x16, .i32⟩
  | .hbm, ⟨48, _⟩ => ⟨S_, .i32⟩
  | .hbm, ⟨49, _⟩ => ⟨S16x16, .i32⟩
  | .hbm, ⟨50, _⟩ => ⟨S16x16, .i32⟩
  | .hbm, ⟨51, _⟩ => ⟨S16x16, .i1⟩
  | .hbm, ⟨52, _⟩ => ⟨S16x16, .f32⟩
  | .hbm, ⟨53, _⟩ => ⟨S16x84x1x84, .f32⟩
  | .hbm, ⟨54, _⟩ => ⟨S16x1x16x1, .f32⟩
  | .hbm, ⟨55, _⟩ => ⟨S16x84x16x84, .f32⟩
  | .hbm, ⟨56, _⟩ => ⟨S16x84x16x84, .f32⟩
  | .hbm, ⟨57, _⟩ => ⟨S16x84x16x84, .f32⟩
  | .hbm, ⟨58, _⟩ => ⟨S1344x1344, .f32⟩
  | .hbm, ⟨59, _⟩ => ⟨S_, .i32⟩
  | .hbm, ⟨60, _⟩ => ⟨S_, .f32⟩
  | .hbm, ⟨61, _⟩ => ⟨S1408x1408, .f32⟩
  | .hbm, ⟨62, _⟩ => ⟨S384x128, .f32⟩
  | .hbm, ⟨63, _⟩ => ⟨S384x128, .f32⟩
  | .hbm, ⟨64, _⟩ => ⟨S384x256, .f32⟩
  | .hbm, ⟨65, _⟩ => ⟨S384x128, .f32⟩
  | .hbm, ⟨66, _⟩ => ⟨S384x128, .f32⟩
  | .hbm, ⟨67, _⟩ => ⟨S384x256, .f32⟩
  | .hbm, ⟨68, _⟩ => ⟨S384x128, .f32⟩
  | .hbm, ⟨69, _⟩ => ⟨S384x128, .f32⟩
  | .hbm, ⟨70, _⟩ => ⟨S384x256, .f32⟩
  | .hbm, ⟨71, _⟩ => ⟨S384x128, .f32⟩
  | .hbm, ⟨72, _⟩ => ⟨S384x128, .f32⟩
  | .hbm, ⟨73, _⟩ => ⟨S384x256, .f32⟩
  | .hbm, ⟨74, _⟩ => ⟨S384x128, .f32⟩
  | .hbm, ⟨75, _⟩ => ⟨S384x128, .f32⟩
  | .hbm, ⟨76, _⟩ => ⟨S384x256, .f32⟩
  | .hbm, ⟨77, _⟩ => ⟨S384x128, .f32⟩
  | .hbm, ⟨78, _⟩ => ⟨S384x128, .f32⟩
  | .hbm, ⟨79, _⟩ => ⟨S384x256, .f32⟩
  | .hbm, ⟨80, _⟩ => ⟨S384x128, .f32⟩
  | .hbm, ⟨81, _⟩ => ⟨S384x128, .f32⟩
  | .hbm, ⟨82, _⟩ => ⟨S384x256, .f32⟩
  | .hbm, ⟨83, _⟩ => ⟨S384x128, .f32⟩
  | .hbm, ⟨84, _⟩ => ⟨S384x128, .f32⟩
  | .hbm, ⟨85, _⟩ => ⟨S384x256, .f32⟩
  | .hbm, ⟨86, _⟩ => ⟨S384x128, .f32⟩
  | .hbm, ⟨87, _⟩ => ⟨S384x128, .f32⟩
  | .hbm, ⟨88, _⟩ => ⟨S384x256, .f32⟩
  | .hbm, ⟨89, _⟩ => ⟨S384x128, .f32⟩
  | .hbm, ⟨90, _⟩ => ⟨S384x128, .f32⟩
  | .hbm, ⟨91, _⟩ => ⟨S384x256, .f32⟩
  | .hbm, ⟨92, _⟩ => ⟨S384x128, .f32⟩
  | .hbm, ⟨93, _⟩ => ⟨S384x128, .f32⟩
  | .hbm, ⟨94, _⟩ => ⟨S384x256, .f32⟩
  | .hbm, ⟨95, _⟩ => ⟨S1x384x256, .f32⟩
  | .hbm, ⟨96, _⟩ => ⟨S1x384x256, .f32⟩
  | .hbm, ⟨97, _⟩ => ⟨S1x384x256, .f32⟩
  | .hbm, ⟨98, _⟩ => ⟨S1x384x256, .f32⟩
  | .hbm, ⟨99, _⟩ => ⟨S1x384x256, .f32⟩
  | .hbm, ⟨100, _⟩ => ⟨S1x384x256, .f32⟩
  | .hbm, ⟨101, _⟩ => ⟨S1x384x256, .f32⟩
  | .hbm, ⟨102, _⟩ => ⟨S1x384x256, .f32⟩
  | .hbm, ⟨103, _⟩ => ⟨S1x384x256, .f32⟩
  | .hbm, ⟨104, _⟩ => ⟨S1x384x256, .f32⟩
  | .hbm, ⟨105, _⟩ => ⟨S1x384x256, .f32⟩
  | .hbm, ⟨106, _⟩ => ⟨S11x384x256, .f32⟩
  | .hbm, ⟨107, _⟩ => ⟨S11x384x256, .bf16⟩
  | .hbm, ⟨108, _⟩ => ⟨S1x1344, .f32⟩
  | .hbm, ⟨109, _⟩ => ⟨S_, .i32⟩
  | .hbm, ⟨110, _⟩ => ⟨S_, .f32⟩
  | .hbm, ⟨111, _⟩ => ⟨S1x1408, .f32⟩
  | .hbm, ⟨112, _⟩ => ⟨S1x1344, .f32⟩
  | .hbm, ⟨113, _⟩ => ⟨S_, .i32⟩
  | .hbm, ⟨114, _⟩ => ⟨S_, .f32⟩
  | .hbm, ⟨115, _⟩ => ⟨S1x1408, .f32⟩
  | .hbm, ⟨116, _⟩ => ⟨S1x1344, .f32⟩
  | .hbm, ⟨117, _⟩ => ⟨S_, .i32⟩
  | .hbm, ⟨118, _⟩ => ⟨S_, .f32⟩
  | .hbm, ⟨119, _⟩ => ⟨S1x1408, .f32⟩
  | .hbm, ⟨120, _⟩ => ⟨S_, .i32⟩
  | .hbm, ⟨121, _⟩ => ⟨S_, .f32⟩
  | .hbm, ⟨122, _⟩ => ⟨S1408x1024, .f32⟩
  | .hbm, ⟨123, _⟩ => ⟨S1408x1024, .bf16⟩
  | .hbm, ⟨124, _⟩ => ⟨S1x1024, .f32⟩
  | .hbm, ⟨125, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x2816, .bf16⟩
  | .local _ .vmem, ⟨6, _⟩ => ⟨S4x1408, .f32⟩
  | .local _ .vmem, ⟨7, _⟩ => ⟨S1x1408, .f32⟩
  | .local _ .vmem, ⟨8, _⟩ => ⟨S11x384x256, .bf16⟩
  | .local _ .vmem, ⟨9, _⟩ => ⟨S1x1408, .f32⟩
  | .local _ .vmem, ⟨10, _⟩ => ⟨S1x1408, .f32⟩
  | .local _ .vmem, ⟨11, _⟩ => ⟨S1x1408, .f32⟩
  | .local _ .vmem, ⟨12, _⟩ => ⟨S1408x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S2x536x2816, .f32⟩
  | .local _ .vmem, ⟨17, _⟩ => ⟨S512x1408, .f32⟩
  | .local _ .vmem, ⟨18, _⟩ => ⟨S512x1408, .f32⟩
  | .local _ .vmem, ⟨19, _⟩ => ⟨S8x1408, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_call1_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_call2_v0 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_call3_v0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_3 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_call4_v0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_6 : Ref sig .tc := ⟨.hbm, 59, rfl⟩
abbrev main_call5_v0 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_c_7 : Ref sig .tc := ⟨.hbm, 109, rfl⟩
abbrev main_call6_v0 : Ref sig .tc := ⟨.hbm, 110, rfl⟩
abbrev main_v83 : Ref sig .tc := ⟨.hbm, 111, rfl⟩
abbrev main_v84 : Ref sig .tc := ⟨.hbm, 112, rfl⟩
abbrev main_c_8 : Ref sig .tc := ⟨.hbm, 113, rfl⟩
abbrev main_call7_v0 : Ref sig .tc := ⟨.hbm, 114, rfl⟩
abbrev main_v85 : Ref sig .tc := ⟨.hbm, 115, rfl⟩
abbrev main_v86 : Ref sig .tc := ⟨.hbm, 116, rfl⟩
abbrev main_c_9 : Ref sig .tc := ⟨.hbm, 117, rfl⟩
abbrev main_call8_v0 : Ref sig .tc := ⟨.hbm, 118, rfl⟩
abbrev main_v87 : Ref sig .tc := ⟨.hbm, 119, rfl⟩
abbrev main_c_10 : Ref sig .tc := ⟨.hbm, 120, rfl⟩
abbrev main_call9_v0 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c1_i32 : BitVec 32 := 1#32
  let v4 : BitVec 32 := Scalar.andi arg0 c1_i32
  let c0_i32_2 : BitVec 32 := 0#32
  let v5 : BitVec 1 := Scalar.cmpi .eq v4 c0_i32_2
  let v6 : BitVec 1 := Scalar.andi v3 v5
  let v7 : BitVec 32 := Scalar.extui v6
  let c0_i32_3 : BitVec 32 := 0#32
  let v8 : BitVec 1 := Scalar.cmpi .ne v7 c0_i32_3
  v8

def k0_cond3 (i : grid0.Coords) : BitVec 1 :=
  let arg0 : BitVec 32 := BitVec.ofNat 32 (i 0).val
  let c0_i32_4 : BitVec 32 := 0#32
  let v9 : BitVec 1 := Scalar.cmpi .sgt arg0 c0_i32_4
  let c1_i32_5 : BitVec 32 := 1#32
  let v10 : BitVec 32 := Scalar.andi arg0 c1_i32_5
  let c1_i32_6 : BitVec 32 := 1#32
  let v11 : BitVec 1 := Scalar.cmpi .eq v10 c1_i32_6
  let v12 : BitVec 1 := Scalar.andi v9 v11
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x384x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1408 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1408 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1408x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S32768x1024 : Shape := ⟨2, ![32768, 1024]⟩
abbrev S1024 : Shape := ⟨1, ![1024]⟩
abbrev S1024x2688 : Shape := ⟨2, ![1024, 2688]⟩
abbrev S4x1344 : Shape := ⟨2, ![4, 1344]⟩
abbrev S1344 : Shape := ⟨1, ![1344]⟩
abbrev S16x84x84 : Shape := ⟨3, ![16, 84, 84]⟩
abbrev S1344x1024 : Shape := ⟨2, ![1344, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024x1344 : Shape := ⟨2, ![1024, 1344]⟩
abbrev S32768x1344 : Shape := ⟨2, ![32768, 1344]⟩
abbrev S4096x8x1344 : Shape := ⟨3, ![4096, 8, 1344]⟩
abbrev S4099x8x1344 : Shape := ⟨3, ![4099, 8, 1344]⟩
abbrev S1x1344 : Shape := ⟨2, ![1, 1344]⟩
abbrev S1x1x1344 : Shape := ⟨3, ![1, 1, 1344]⟩
abbrev S4096x8x16x84 : Shape := ⟨4, ![4096, 8, 16, 84]⟩
abbrev S16x84x4096x8 : Shape := ⟨4, ![16, 84, 4096, 8]⟩
abbrev S8x1344 : Shape := ⟨2, ![8, 1344]⟩
abbrev S1x8x1344 : Shape := ⟨3, ![1, 8, 1344]⟩

abbrev nBuf : Space → Nat
  | .hbm => 206
  | .vmem => 0
  | .smem => 0
  | _ => 0

abbrev hbmTy0_0 (i : Nat) : BufTy := match i % 128 with
  | 0 => ⟨S32768x1024, .f32⟩
  | 1 => ⟨S1024, .f32⟩
  | 2 => ⟨S1024x2688, .f32⟩
  | 3 => ⟨S4x1344, .f32⟩
  | 4 => ⟨S1344, .f32⟩
  | 5 => ⟨S16x84x84, .f32⟩
  | 6 => ⟨S1344, .f32⟩
  | 7 => ⟨S16x84x84, .f32⟩
  | 8 => ⟨S1344, .f32⟩
  | 9 => ⟨S1344, .f32⟩
  | 10 => ⟨S1344x1024, .f32⟩
  | 11 => ⟨S1024, .f32⟩
  | 12 => ⟨S32768x1024, .f32⟩
  | 13 => ⟨S_, .f32⟩
  | 14 => ⟨S32768, .f32⟩
  | 15 => ⟨S32768x1, .f32⟩
  | 16 => ⟨S_, .f32⟩
  | 17 => ⟨S32768x1, .f32⟩
  | 18 => ⟨S32768x1, .f32⟩
  | 19 => ⟨S_, .f32⟩
  | 20 => ⟨S32768x1, .f32⟩
  | 21 => ⟨S32768x1, .f32⟩
  | 22 => ⟨S32768x1, .f32⟩
  | 23 => ⟨S32768x1024, .f32⟩
  | 24 => ⟨S32768x1024, .f32⟩
  | 25 => ⟨S1x1024, .f32⟩
  | 26 => ⟨S32768x1024, .f32⟩
  | 27 => ⟨S32768x1024, .f32⟩
  | 28 => ⟨S1024x1344, .f32⟩
  | 29 => ⟨S32768x1344, .f32⟩
  | 30 => ⟨S4096x8x1344, .f32⟩
  | 31 => ⟨S_, .i32⟩
  | 32 => ⟨S_, .f32⟩
  | 33 => ⟨S4099x8x1344, .f32⟩
  | 34 => ⟨S4096x8x1344, .f32⟩
  | 35 => ⟨S1x1344, .f32⟩
  | 36 => ⟨S1344, .f32⟩
  | 37 => ⟨S1x1x1344, .f32⟩
  | 38 => ⟨S4096x8x1344, .f32⟩
  | 39 => ⟨S4096x8x1344, .f32⟩
  | 40 => ⟨S1x1x1344, .f32⟩
  | 41 => ⟨S4096x8x1344, .f32⟩
  | 42 => ⟨S4096x8x1344, .f32⟩
  | 43 => ⟨S4096x8x1344, .f32⟩
  | 44 => ⟨S1x1344, .f32⟩
  | 45 => ⟨S1344, .f32⟩
  | 46 => ⟨S1x1x1344, .f32⟩
  | 47 => ⟨S4096x8x1344, .f32⟩
  | 48 => ⟨S4096x8x1344, .f32⟩
  | 49 => ⟨S4096x8x1344, .f32⟩
  | 50 => ⟨S4096x8x1344, .f32⟩
  | 51 => ⟨S1x1344, .f32⟩
  | 52 => ⟨S1344, .f32⟩
  | 53 => ⟨S1x1x1344, .f32⟩
  | 54 => ⟨S4096x8x1344, .f32⟩
  | 55 => ⟨S4096x8x1344, .f32⟩
  | 56 => ⟨S4096x8x1344, .f32⟩
  | 57 => ⟨S4096x8x1344, .f32⟩
  | 58 => ⟨S1x1344, .f32⟩
  | 59 => ⟨S1344, .f32⟩
  | 60 => ⟨S1x1x1344, .f32⟩
  | 61 => ⟨S4096x8x1344, .f32⟩
  | 62 => ⟨S4096x8x1344, .f32⟩
  | 63 => ⟨S4096x8x1344, .f32⟩
  | 64 => ⟨S4096x8x16x84, .f32⟩
  | 65 => ⟨S16x84x4096x8, .f32⟩
  | 66 => ⟨S4096x8x16x84, .f32⟩
  | 67 => ⟨S4096x8x1344, .f32⟩
  | 68 => ⟨S1x1x1344, .f32⟩
  | 69 => ⟨S4096x8x1344, .f32⟩
  | 70 => ⟨S4096x8x1344, .f32⟩
  | 71 => ⟨S4096x8x1344, .f32⟩
  | 72 => ⟨S4096x8x1344, .f32⟩
  | 73 => ⟨S_, .f32⟩
  | 74 => ⟨S4096x8x1344, .f32⟩
  | 75 => ⟨S4096x8x1344, .f32⟩
  | 76 => ⟨S_, .f32⟩
  | 77 => ⟨S4096x8x1344, .f32⟩
  | 78 => ⟨S4096x8x1344, .f32⟩
  | 79 => ⟨S16x84x4096x8, .f32⟩
  | 80 => ⟨S4096x8x16x84, .f32⟩
  | 81 => ⟨S4096x8x1344, .f32⟩
  | 82 => ⟨S1x1x1344, .f32⟩
  | 83 => ⟨S4096x8x1344, .f32⟩
  | 84 => ⟨S4096x8x1344, .f32⟩
  | 85 => ⟨S4096x8x1344, .f32⟩
  | 86 => ⟨S4096x8x1344, .f32⟩
  | 87 => ⟨S_, .f32⟩
  | 88 => ⟨S4096x8x1344, .f32⟩
  | 89 => ⟨S4096x8x1344, .f32⟩
  | 90 => ⟨S_, .f32⟩
  | 91 => ⟨S4096x8x1344, .f32⟩
  | 92 => ⟨S4096x8x1344, .f32⟩
  | 93 => ⟨S_, .f32⟩
  | 94 => ⟨S4096x8x1344, .f32⟩
  | 95 => ⟨S4096x8x1344, .f32⟩
  | 96 => ⟨S1344, .f32⟩
  | 97 => ⟨S_, .f32⟩
  | 98 => ⟨S1344, .f32⟩
  | 99 => ⟨S1344, .f32⟩
  | 100 => ⟨S1344, .f32⟩
  | 101 => ⟨S1344, .f32⟩
  | 102 => ⟨S1344, .i1⟩
  | 103 => ⟨S1344, .f32⟩
  | 104 => ⟨S1344, .f32⟩
  | 105 => ⟨S1344, .f32⟩
  | 106 => ⟨S1344, .f32⟩
  | 107 => ⟨S1344, .f32⟩
  | 108 => ⟨S1344, .f32⟩
  | 109 => ⟨S1344, .f32⟩
  | 110 => ⟨S1344, .f32⟩
  | 111 => ⟨S1x1x1344, .f32⟩
  | 112 => ⟨S4096x8x1344, .f32⟩
  | 113 => ⟨S4096x8x1344, .f32⟩
  | 114 => ⟨S4096x8x1344, .f32⟩
  | 115 => ⟨S_, .f32⟩
  | 116 => ⟨S4096x8x1344, .f32⟩
  | 117 => ⟨S4096x8x1344, .f32⟩
  | 118 => ⟨S4096x8x1344, .f32⟩
  | 119 => ⟨S4096x8x1344, .f32⟩
  | 120 => ⟨S4096x8x1344, .f32⟩
  | 121 => ⟨S4096x8x1344, .f32⟩
  | 122 => ⟨S4096x8x1344, .f32⟩
  | 123 => ⟨S_, .f32⟩
  | 124 => ⟨S8x1344, .f32⟩
  | 125 => ⟨S_, .f32⟩
  | 126 => ⟨S4096x8x1344, .f32⟩
  | 127 => ⟨S_, .i32⟩
  | _ => ⟨S32768x1024, .f32⟩

abbrev hbmTy0_1 (i : Nat) : BufTy := match i % 128 with
  | 0 => ⟨S4096x8x1344, .f32⟩
  | 1 => ⟨S4096x8x1344, .f32⟩
  | 2 => ⟨S_, .i32⟩
  | 3 => ⟨S8x1344, .f32⟩
  | 4 => ⟨S4096x8x1344, .f32⟩
  | 5 => ⟨S_, .i32⟩
  | 6 => ⟨S_, .i1⟩
  | 7 => ⟨S_, .i32⟩
  | 8 => ⟨S_, .i32⟩
  | 9 => ⟨S1x8x1344, .f32⟩
  | 10 => ⟨S8x1344, .f32⟩
  | 11 => ⟨S_, .i32⟩
  | 12 => ⟨S_, .i32⟩
  | 13 => ⟨S1x8x1344, .f32⟩
  | 14 => ⟨S8x1344, .f32⟩
  | 15 => ⟨S8x1344, .f32⟩
  | 16 => ⟨S8x1344, .f32⟩
  | 17 => ⟨S1x8x1344, .f32⟩
  | 18 => ⟨S_, .i32⟩
  | 19 => ⟨S_, .i32⟩
  | 20 => ⟨S4096x8x1344, .f32⟩
  | 21 => ⟨S_, .i32⟩
  | 22 => ⟨S_, .i32⟩
  | 23 => ⟨S32768x1024, .f32⟩
  | 24 => ⟨S_, .f32⟩
  | 25 => ⟨S32768, .f32⟩
  | 26 => ⟨S32768x1, .f32⟩
  | 27 => ⟨S_, .f32⟩
  | 28 => ⟨S32768x1, .f32⟩
  | 29 => ⟨S32768x1, .f32⟩
  | 30 => ⟨S_, .f32⟩
  | 31 => ⟨S32768x1, .f32⟩
  | 32 => ⟨S32768x1, .f32⟩
  | 33 => ⟨S32768x1, .f32⟩
  | 34 => ⟨S32768x1024, .f32⟩
  | 35 => ⟨S32768x1024, .f32⟩
  | 36 => ⟨S1x1024, .f32⟩
  | 37 => ⟨S32768x1024, .f32⟩
  | 38 => ⟨S32768x1024, .f32⟩
  | 39 => ⟨S1024x1344, .f32⟩
  | 40 => ⟨S32768x1344, .f32⟩
  | 41 => ⟨S32768x1344, .f32⟩
  | 42 => ⟨S32768x1344, .f32⟩
  | 43 => ⟨S_, .f32⟩
  | 44 => ⟨S32768x1344, .f32⟩
  | 45 => ⟨S32768x1344, .f32⟩
  | 46 => ⟨S32768x1344, .f32⟩
  | 47 => ⟨S_, .f32⟩
  | 48 => ⟨S32768x1344, .f32⟩
  | 49 => ⟨S32768x1344, .f32⟩
  | 50 => ⟨S32768x1344, .f32⟩
  | 51 => ⟨S_, .f32⟩
  | 52 => ⟨S32768x1344, .f32⟩
  | 53 => ⟨S32768x1344, .f32⟩
  | 54 => ⟨S_, .f32⟩
  | 55 => ⟨S32768x1344, .f32⟩
  | 56 => ⟨S32768x1344, .f32⟩
  | 57 => ⟨S32768x1344, .f32⟩
  | 58 => ⟨S32768x1344, .f32⟩
  | 59 => ⟨S32768x1344, .f32⟩
  | 60 => ⟨S32768x1024, .f32⟩
  | 61 => ⟨S32768x1024, .f32⟩
  | 62 => ⟨S_, .f32⟩
  | 63 => ⟨S32768, .f32⟩
  | 64 => ⟨S32768x1, .f32⟩
  | 65 => ⟨S_, .f32⟩
  | 66 => ⟨S32768x1, .f32⟩
  | 67 => ⟨S32768x1, .f32⟩
  | 68 => ⟨S_, .f32⟩
  | 69 => ⟨S32768x1, .f32⟩
  | 70 => ⟨S32768x1, .f32⟩
  | 71 => ⟨S32768x1, .f32⟩
  | 72 => ⟨S32768x1024, .f32⟩
  | 73 => ⟨S32768x1024, .f32⟩
  | 74 => ⟨S1x1024, .f32⟩
  | 75 => ⟨S32768x1024, .f32⟩
  | 76 => ⟨S32768x1024, .f32⟩
  | 77 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_call0_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_2 : Ref sig .tc := ⟨.hbm, 73, rfl⟩
abbrev main_v56 : Ref sig .tc := ⟨.hbm, 74, rfl⟩
abbrev main_v57 : Ref sig .tc := ⟨.hbm, 75, rfl⟩
abbrev main_cst_3 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_4 : Ref sig .tc := ⟨.hbm, 87, rfl⟩
abbrev main_v68 : Ref sig .tc := ⟨.hbm, 88, rfl⟩
abbrev main_v69 : Ref sig .tc := ⟨.hbm, 89, rfl⟩
abbrev main_cst_5 : Ref sig .tc := ⟨.hbm, 90, rfl⟩
abbrev main_v70 : Ref sig .tc := ⟨.hbm, 91, rfl⟩
abbrev main_v71 : Ref sig .tc := ⟨.hbm, 92, rfl⟩
abbrev main_cst_6 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call1_cst : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_v6 : Ref sig .tc := ⟨.hbm, 104, rfl⟩
abbrev main_call1_v7 : Ref sig .tc := ⟨.hbm, 105, rfl⟩
abbrev main_call1_v8 : Ref sig .tc := ⟨.hbm, 106, rfl⟩
abbrev main_call1_v9 : Ref sig .tc := ⟨.hbm, 107, rfl⟩
abbrev main_call1_v10 : Ref sig .tc := ⟨.hbm, 108, rfl⟩
abbrev main_call1_v11 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_7 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_8 : Ref sig .tc := ⟨.hbm, 123, rfl⟩
abbrev main_v87 : Ref sig .tc := ⟨.hbm, 124, rfl⟩
abbrev main_cst_9 : Ref sig .tc := ⟨.hbm, 125, rfl⟩
abbrev main_v88 : Ref sig .tc := ⟨.hbm, 126, rfl⟩
abbrev main_c_10 : Ref sig .tc := ⟨.hbm, 127, rfl⟩
abbrev main_v89_0 : Ref sig .tc := ⟨.hbm, 128, rfl⟩
abbrev main_v89_1 : Ref sig .tc := ⟨.hbm, 129, rfl⟩
abbrev main_v89_2 : Ref sig .tc := ⟨.hbm, 130, rfl⟩
abbrev main_v89_3 : Ref sig .tc := ⟨.hbm, 131, rfl⟩
abbrev main_v89_4 : Ref sig .tc := ⟨.hbm, 132, rfl⟩
abbrev main_while0c_c_25 : Ref sig .tc := ⟨.hbm, 133, rfl⟩
abbrev main_while0c_v135 : Ref sig .tc := ⟨.hbm, 134, rfl⟩
abbrev main_while0b_call2_c : Ref sig .tc := ⟨.hbm, 135, rfl⟩
abbrev main_while0b_call2_c_0 : Ref sig .tc := ⟨.hbm, 136, rfl⟩
abbrev main_while0b_call2_v0 : Ref sig .tc := ⟨.hbm, 137, rfl⟩
abbrev main_while0b_v135 : Ref sig .tc := ⟨.hbm, 138, rfl⟩
abbrev main_while0b_call3_c : Ref sig .tc := ⟨.hbm, 139, rfl⟩
abbrev main_while0b_call3_c_0 : Ref sig .tc := ⟨.hbm, 140, rfl⟩
abbrev main_while0b_call3_v0 : Ref sig .tc := ⟨.hbm, 141, rfl⟩
abbrev main_while0b_v136 : Ref sig .tc := ⟨.hbm, 142, rfl⟩
abbrev main_while0b_v137 : Ref sig .tc := ⟨.hbm, 143, rfl⟩
abbrev main_while0b_v138 : Ref sig .tc := ⟨.hbm, 144, rfl⟩
abbrev main_while0b_call4_v0 : Ref sig .tc := ⟨.hbm, 145, rfl⟩
abbrev main_while0b_call4_c : Ref sig .tc := ⟨.hbm, 146, rfl⟩
abbrev main_while0b_call4_c_0 : Ref sig .tc := ⟨.hbm, 147, rfl⟩
abbrev main_while0b_v139 : Ref sig .tc := ⟨.hbm, 148, rfl⟩
abbrev main_while0b_c_25 : Ref sig .tc := ⟨.hbm, 149, rfl⟩
abbrev main_while0b_v140 : Ref sig .tc := ⟨.hbm, 150, rfl⟩
abbrev main_v90 : Ref sig .tc := ⟨.hbm, 151, rfl⟩
abbrev main_cst_11 : Ref sig .tc := ⟨.hbm, 152, rfl⟩
abbrev main_v91 : Ref sig .tc := ⟨.hbm, 153, rfl⟩
abbrev main_v92 : Ref sig .tc := ⟨.hbm, 154, rfl⟩
abbrev main_cst_12 : Ref sig .tc := ⟨.hbm, 155, rfl⟩
abbrev main_v93 : Ref sig .tc := ⟨.hbm, 156, rfl⟩
abbrev main_v94 : Ref sig .tc := ⟨.hbm, 157, rfl⟩
abbrev main_cst_13 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_14 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_cst_15 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_cst_16 : Ref sig .tc := ⟨.hbm, 179, rfl⟩
abbrev main_v113 : Ref sig .tc := ⟨.hbm, 180, rfl⟩
abbrev main_v114 : Ref sig .tc := ⟨.hbm, 181, rfl⟩
abbrev main_cst_17 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_cst_18 : Ref sig .tc := ⟨.hbm, 190, rfl⟩
abbrev main_v122 : Ref sig .tc := ⟨.hbm, 191, rfl⟩
abbrev main_v123 : Ref sig .tc := ⟨.hbm, 192, rfl⟩
abbrev main_cst_19 : Ref sig .tc := ⟨.hbm, 193, rfl⟩
abbrev main_v124 : Ref sig .tc := ⟨.hbm, 194, rfl⟩
abbrev main_v125 : Ref sig .tc := ⟨.hbm, 195, rfl⟩
abbrev main_cst_20 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S32768x1024 : Shape := ⟨2, ![32768, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1x1024 : Shape := ⟨3, ![2, 1, 1024]⟩
abbrev S512x1024 : Shape := ⟨2, ![512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S2x512x1024 : Shape := ⟨3, ![2, 512, 1024]⟩
abbrev S1x512x1024 : Shape := ⟨3, ![1, 512, 1024]⟩
abbrev S1024x2816 : Shape := ⟨2, ![1024, 2816]⟩
abbrev S512x2816 : Shape := ⟨2, ![512, 2816]⟩
abbrev S1x1024 : Shape := ⟨2, ![1, 1024]⟩
abbrev S512 : Shape := ⟨1, ![512]⟩
abbrev S512x1 : Shape := ⟨2, ![512, 1]⟩
abbrev S2816x1024 : Shape := ⟨2, ![2816, 1024]⟩

abbrev nBuf : Space → Nat
  | .hbm => 12
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S2x1024, .f32⟩
  | .hbm, ⟨6, _⟩ => ⟨S2x1x1024, .f32⟩
  | .hbm, ⟨7, _⟩ => ⟨S2x1024x2816, .bf16⟩
  | .hbm, ⟨8, _⟩ => ⟨S2x1024x2816, .bf16⟩
  | .hbm, ⟨9, _⟩ => ⟨S2x2816x1024, .bf16⟩
  | .hbm, ⟨10, _⟩ => ⟨S2x1x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1024x2816, .bf16⟩
  | .local _ .vmem, ⟨6, _⟩ => ⟨S1x1024x2816, .bf16⟩
  | .local _ .vmem, ⟨7, _⟩ => ⟨S1x2816x1024, .bf16⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S2x512x1024, .bf16⟩
  | .local _ .vmem, ⟨12, _⟩ => ⟨S2x512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![66], ![false]⟩

def k0_cond1 (i : grid0.Coords) : BitVec 1 :=
  let arg0 : BitVec 32 := BitVec.ofNat 32 (i 0).val
  let c1_i32_0 : BitVec 32 := 1#32
  let v1 : BitVec 1 := Scalar.cmpi .sge arg0 c1_i32_0
  let c64_i32 : BitVec 32 := 64#32
  let v2 : BitVec 1 := Scalar.cmpi .sle arg0 c64_i32
  let v3 : BitVec 1 := Scalar.andi v1 v2
  let v4 : BitVec 32 := Scalar.extui v3
  let c0_i32 : BitVec 32 := 0#32
  let v5 : BitVec 1 := Scalar.cmpi .ne v4 c0_i32
  v5

def k0_off1 (i : grid0.Coords) : Fin 3 → Nat :=
  let c1_i32_2 : BitVec 32 := 1#32
  let arg0 : BitVec 32 := BitVec.ofNat 32 (i 0).val
  let c1_i32 : BitVec 32 := 1#32
  let v0 : BitVec 32 := Scalar.andi arg0 c1_i32
  let v9 : BitVec 32 := Scalar.subi c1_i32_2 v0
  let v10 : Index := Scalar.indexCast v9
  let c0 : Index := 0#32
  let c0_3 : Index := 0#32
  ![v10.toNat, 0, 0]
def k0_off2 (i : grid0.Coords) : Fin 3 → Nat :=
  let arg0 : BitVec 32 := BitVec.ofNat 32 (i 0).val
  let c1_i32 : BitVec 32 := 1#32
  let v0 : BitVec 32 := Scalar.andi arg0 c1_i32
  let v17 : Index := Scalar.indexCast v0
  let c0_9 : Index := 0#32
  let c0_10 : Index := 0#32
  ![v17.toNat, 0, 0]
def k0_cond2 (i : grid0.Coords) : BitVec 1 :=
  let arg0 : BitVec 32 := BitVec.ofNat 32 (i 0).val
  let c1_i32_0 : BitVec 32 := 1#32
  let v1 : BitVec 1 := Scalar.cmpi .sge arg0 c1_i32_0
  let c64_i32 : BitVec 32 := 64#32
  let v2 : BitVec 1 := Scalar.cmpi .sle arg0 c64_i32
  let v3 : BitVec 1 := Scalar.andi v1 v2
  let v_true : BitVec 1 := 1#1
  let v6 : BitVec 1 := Scalar.xori v3 v_true
  let v7 : BitVec 32 := Scalar.extui v6
  let c0_i32_1 : BitVec 32 := 0#32
  let v8 : BitVec 1 := Scalar.cmpi .ne v7 c0_i32_1
  v8

def k0_off3 (i : grid0.Coords) : Fin 3 → Nat :=
  let arg0 : BitVec 32 := BitVec.ofNat 32 (i 0).val
  let c1_i32 : BitVec 32 := 1#32
  let v0 : BitVec 32 := Scalar.andi arg0 c1_i32
  let v13 : Index := Scalar.indexCast v0
  let c0_5 : Index := 0#32
  let c0_6 : Index := 0#32
  ![v13.toNat, 0, 0]
def cc0_transform_0 (i : grid0.Coords) : Fin 2 → Nat :=
  let arg0 : BitVec 32 := BitVec.ofNat 32 (i 0).val
  let c0_i32 : BitVec 32 := 0#32
  let c63_i32 : BitVec 32 := 63#32
  let v0 : BitVec 32 := Scalar.maxsi c0_i32 arg0
  let v1 : BitVec 32 := Scalar.minsi c63_i32 v0
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S32768x1024 : Shape := ⟨2, ![32768, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x2816 : Shape := ⟨3, ![1, 1024, 2816]⟩
abbrev S1024x2816 : Shape := ⟨2, ![1024, 2816]⟩
abbrev S32768x2816 : Shape := ⟨2, ![32768, 2816]⟩
abbrev S1x2816x1024 : Shape := ⟨3, ![1, 2816, 1024]⟩
abbrev S2816x1024 : Shape := ⟨2, ![2816, 1024]⟩

abbrev nBuf : Space → Nat
  | .hbm => 65
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S2x1024, .f32⟩
  | .hbm, ⟨6, _⟩ => ⟨S1x1024, .f32⟩
  | .hbm, ⟨7, _⟩ => ⟨S1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S1x1024x2816, .f32⟩
  | .hbm, ⟨25, _⟩ => ⟨S1024x2816, .f32⟩
  | .hbm, ⟨26, _⟩ => ⟨S32768x2816, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S32768x2816, .f32⟩
  | .hbm, ⟨36, _⟩ => ⟨S1x1024x2816, .f32⟩
  | .hbm, ⟨37, _⟩ => ⟨S1024x2816, .f32⟩
  | .hbm, ⟨38, _⟩ => ⟨S32768x2816, .f32⟩
  | .hbm, ⟨39, _⟩ => ⟨S32768x2816, .f32⟩
  | .hbm, ⟨40, _⟩ => ⟨S1x2816x1024, .f32⟩
  | .hbm, ⟨41, _⟩ => ⟨S2816x1024, .f32⟩
  | .hbm, ⟨42, _⟩ => ⟨S32768x1024, .f32⟩
  | .hbm, ⟨43, _⟩ => ⟨S1x1024, .f32⟩
  | .hbm, ⟨44, _⟩ => ⟨S1024, .f32⟩
  | .hbm, ⟨45, _⟩ => ⟨S32768x1024, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x1, .f32⟩
  | .hbm, ⟨56, _⟩ => ⟨S32768x1024, .f32⟩
  | .hbm, ⟨57, _⟩ => ⟨S32768x1024, .f32⟩
  | .hbm, ⟨58, _⟩ => ⟨S1x1024, .f32⟩
  | .hbm, ⟨59, _⟩ => ⟨S32768x1024, .f32⟩
  | .hbm, ⟨60, _⟩ => ⟨S32768x1024, .f32⟩
  | .hbm, ⟨61, _⟩ => ⟨S_, .f32⟩
  | .hbm, ⟨62, _⟩ => ⟨S32768x1024, .f32⟩
  | .hbm, ⟨63, _⟩ => ⟨S32768x1024, .f32⟩
  | .hbm, ⟨64, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x2048 : Shape := ⟨2, ![1024, 2048]⟩
abbrev S1024x16 : Shape := ⟨2, ![1024, 16]⟩
abbrev S16 : Shape := ⟨1, ![16]⟩
abbrev S1x1024 : Shape := ⟨2, ![1, 1024]⟩
abbrev S1024x1024 : Shape := ⟨2, ![1024, 1024]⟩
abbrev S_ : Shape := ⟨0, ![]⟩
abbrev S1024x128 : Shape := ⟨2, ![1024, 128]⟩
abbrev S1x16 : Shape := ⟨2, ![1, 16]⟩
abbrev S1x128 : Shape := ⟨2, ![1, 128]⟩
abbrev S8x8x4096x128 : Shape := ⟨4, ![8, 8, 4096, 128]⟩
abbrev S8x4096x128 : Shape := ⟨3, ![8, 4096, 128]⟩
abbrev S8x16x4096 : Shape := ⟨3, ![8, 16, 4096]⟩
abbrev S8x128x1024 : Shape := ⟨3, ![8, 128, 1024]⟩
abbrev S8x8x128x128 : Shape := ⟨4, ![8, 8, 128, 128]⟩
abbrev S8x128x128 : Shape := ⟨3, ![8, 128, 128]⟩
abbrev S8x16x128 : Shape := ⟨3, ![8, 16, 128]⟩
abbrev S128x8x128 : Shape := ⟨3, ![128, 8, 128]⟩
abbrev S8x128 : Shape := ⟨2, ![8, 128]⟩
abbrev S1024x1 : Shape := ⟨2, ![1024, 1]⟩
abbrev S1x8x128 : Shape := ⟨3, ![1, 8, 128]⟩
abbrev S1x128x128 : Shape := ⟨3, ![1, 128, 128]⟩
abbrev S128x128 : Shape := ⟨2, ![128, 128]⟩
abbrev S16x128 : Shape := ⟨2, ![16, 128]⟩
abbrev S1x16x128 : Shape := ⟨3, ![1, 16, 128]⟩
abbrev S8x1x128x128 : Shape := ⟨4, ![8, 1, 128, 128]⟩

abbrev nBuf : Space → Nat
  | .hbm => 22
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2048, .f32⟩
  | .hbm, ⟨3, _⟩ => ⟨S1024x16, .f32⟩
  | .hbm, ⟨4, _⟩ => ⟨S16, .f32⟩
  | .hbm, ⟨5, _⟩ => ⟨S1x1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1x16, .f32⟩
  | .hbm, ⟨15, _⟩ => ⟨S_, .i32⟩
  | .hbm, ⟨16, _⟩ => ⟨S_, .f32⟩
  | .hbm, ⟨17, _⟩ => ⟨S1x128, .f32⟩
  | .hbm, ⟨18, _⟩ => ⟨S8x8x4096x128, .bf16⟩
  | .hbm, ⟨19, _⟩ => ⟨S8x8x4096x128, .bf16⟩
  | .hbm, ⟨20, _⟩ => ⟨S8x4096x128, .f32⟩
  | .hbm, ⟨21, _⟩ => ⟨S8x16x4096, .f32⟩
  | .local _ .vmem, ⟨0, _⟩ => ⟨S8x128x1024, .f32⟩
  | .local _ .vmem, ⟨1, _⟩ => ⟨S8x128x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S1x128, .f32⟩
  | .local _ .vmem, ⟨7, _⟩ => ⟨S8x8x128x128, .bf16⟩
  | .local _ .vmem, ⟨8, _⟩ => ⟨S8x8x128x128, .bf16⟩
  | .local _ .vmem, ⟨9, _⟩ => ⟨S8x8x128x128, .bf16⟩
  | .local _ .vmem, ⟨10, _⟩ => ⟨S8x8x128x128, .bf16⟩
  | .local _ .vmem, ⟨11, _⟩ => ⟨S8x128x128, .f32⟩
  | .local _ .vmem, ⟨12, _⟩ => ⟨S8x128x128, .f32⟩
  | .local _ .vmem, ⟨13, _⟩ => ⟨S8x16x128, .f32⟩
  | .local _ .vmem, ⟨14, _⟩ => ⟨S8x16x128, .f32⟩
  | .local _ .vmem, ⟨15, _⟩ => ⟨S128x8x128, .f32⟩
  | .local _ .vmem, ⟨16, _⟩ => ⟨S8x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x8x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x8x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S8x4096x1024 : Shape := ⟨3, ![8, 4096, 1024]⟩
abbrev S1024 : Shape := ⟨1, ![1024]⟩
abbrev S1024x2048 : Shape := ⟨2, ![1024, 2048]⟩
abbrev S1024x16 : Shape := ⟨2, ![1024, 16]⟩
abbrev S16 : Shape := ⟨1, ![16]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2048 : Shape := ⟨3, ![8, 4096, 2048]⟩
abbrev S8x4096x2x8x128 : Shape := ⟨5, ![8, 4096, 2, 8, 128]⟩
abbrev S2x8x8x4096x128 : Shape := ⟨5, ![2, 8, 8, 4096, 128]⟩
abbrev S1x8x8x4096x128 : Shape := ⟨5, ![1, 8, 8, 4096, 128]⟩
abbrev S8x8x4096x128 : Shape := ⟨4, ![8, 8, 4096, 128]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2048, .f32⟩
  | .hbm, ⟨3, _⟩ => ⟨S1024x16, .f32⟩
  | .hbm, ⟨4, _⟩ => ⟨S16, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x2048, .f32⟩
  | .hbm, ⟨22, _⟩ => ⟨S8x4096x2x8x128, .f32⟩
  | .hbm, ⟨23, _⟩ => ⟨S2x8x8x4096x128, .f32⟩
  | .hbm, ⟨24, _⟩ => ⟨S1x8x8x4096x128, .f32⟩
  | .hbm, ⟨25, _⟩ => ⟨S8x8x4096x128, .f32⟩
  | .hbm, ⟨26, _⟩ => ⟨S8x8x4096x128, .bf16⟩
  | .hbm, ⟨27, _⟩ => ⟨S1x8x8x4096x128, .f32⟩
  | .hbm, ⟨28, _⟩ => ⟨S8x8x4096x128, .f32⟩
  | .hbm, ⟨29, _⟩ => ⟨S8x8x4096x128, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.LruSame.lean ====
/-
  The printed body of the recurrent block is the short programs, one in each of its three branches.
-/
module

public import proofs.«01_k».proof.Proof.LruProg
public import Idealize.ShloMosaic.Lib.Tactic

@[expose] public section

set_option maxRecDepth 65536

noncomputable section

namespace Cert.Kernel.Hand

open Cert.Kernel Cert.Kernel.Gen
open Idealize.ShloMosaic Idealize.ShloMosaic.TcCoe
open Idealize.SL.Sem

variable {F : FTy → Type} [FloatOps F]

/-- A program run under a condition, before the rest. -/
def branch (q : Prop) [Decidable q] (x r : Pr F PUnit) : Pr F PUnit := if q then x >>= fun _ => r else r

/-- The printed body is its three branches in a row. -/
theorem body_eq (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S4x1408 .f32) (harg5 : arg5.IsWhole) (arg6 : Memref sig .tc .vmem S1x1408 .f32) (harg6 : arg6.IsWhole) (arg7 : Memref sig .tc .vmem S11x384x256 .bf16) (harg7 : arg7.IsWhole) (arg8 : Memref sig .tc .vmem S1x1408 .f32) (harg8 : arg8.IsWhole) (arg9 : Memref sig .tc .vmem S1x1408 .f32) (harg9 : arg9.IsWhole) (arg10 : Memref sig .tc .vmem S1x1408 .f32) (harg10 : arg10.IsWhole) (arg11 : Memref sig .tc .vmem S1408x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S2x536x2816 .f32) (harg14 : arg14.IsWhole) (arg15 : Memref sig .tc .vmem S512x1408 .f32) (harg15 : arg15.IsWhole) (arg16 : Memref sig .tc .vmem S512x1408 .f32) (harg16 : arg16.IsWhole) (arg17 : Memref sig .tc .vmem S8x1408 .f32) (harg17 : arg17.IsWhole) :
    cc0_rglru (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      = branch (Scalar.cmpi .ne (Scalar.extui (Scalar.cmpi .eq (BitVec.ofNat 32 (i 0).val) 0#32)) 0#32 = 1#1) (firstProg arg1 arg3 arg4 arg14 arg17)
          (branch (k0_cond2 i = 1#1) (tileProg arg1 arg2 arg3 arg4 arg5 arg6 arg7 arg8 arg9 arg10 arg11 arg12 arg13 arg14 arg15 arg16 arg17 0 1 (by decide) (by decide))
            (branch (k0_cond3 i = 1#1) (tileProg arg1 arg2 arg3 arg4 arg5 arg6 arg7 arg8 arg9 arg10 arg11 arg12 arg13 arg14 arg15 arg16 arg17 1 0 (by decide) (by decide)) (pure ⟨⟩))) := by
  sl_kernel_rfl

end Cert.Kernel.Hand

end
-- ==== Proof.LruProgIdeal.lean ====
/-
  The recurrent block's body, retold as a short program: the projection of one tile, the convolution of the tile
  before it, its gates chunk by chunk, the scan of its rows and the output projection. The printed body of either
  parity is this program, by unfolding.
-/
module

public import proofs.«01_k».proof.Proof.Gen.KernelIdeal.Skeleton
public import proofs.«01_k».proof.Proof.Gen.KernelIdeal.Frame

@[expose] public section

set_option maxRecDepth 65536

noncomputable section

namespace Cert.KernelIdeal.Hand

open Cert.KernelIdeal Cert.KernelIdeal.Gen
open Idealize.ShloMosaic Idealize.ShloMosaic.TcCoe
open Idealize.SL.Sem

variable {F : FTy → Type} [FloatOps F]

/-- A program of the kernel's core. -/
abbrev Pr (F : FTy → Type) [FloatOps F] (α : Type) := Prog (TpuEff nD τ sig (Elt F) Λ₀ .tc) α

/-- The first lane of chunk `j`'s band. -/
def bandLo (j : ℕ) : ℕ := min (128 * (j - 1)) 1024

theorem inb_proj (s j : ℕ) (hs : s < 2) (hj : j < 11) : ∀ a, (![s, 24, 256 * j] : Fin 3 → ℕ) a + S1x512x256.size a ≤ S2x536x2816.size a := by
  intro a; fin_cases a <;> simp <;> omega
theorem inb_wcols (j : ℕ) (hj : j < 11) : ∀ a, (![0, 256 * j] : Fin 2 → ℕ) a + S1024x256.size a ≤ S1024x2816.size a := by
  intro a; fin_cases a <;> simp <;> omega
theorem inb_tap (q k : ℕ) (hq : q < 2) (hk : k < 4) : ∀ a, (![q, 8 * k, 1408] : Fin 3 → ℕ) a + S1x512x1408.size a ≤ S2x536x2816.size a := by
  intro a; fin_cases a <;> simp <;> omega
theorem inb_tail (q : ℕ) (hq : q < 2) : ∀ a, (![q, 512, 1408] : Fin 3 → ℕ) a + S1x24x1408.size a ≤ S2x536x2816.size a := by
  intro a; fin_cases a <;> simp <;> omega
theorem inb_halo (s : ℕ) (hs : s < 2) : ∀ a, (![s, 0, 1408] : Fin 3 → ℕ) a + S1x24x1408.size a ≤ S2x536x2816.size a := by
  intro a; fin_cases a <;> simp <;> omega
theorem inb_gate (q : ℕ) (hq : q < 2) : ∀ a, (![q, 24, 0] : Fin 3 → ℕ) a + S1x512x1408.size a ≤ S2x536x2816.size a := by
  intro a; fin_cases a <;> simp <;> omega
theorem inb_wrow (k : ℕ) (hk : k < 4) : ∀ a, (![k, 0] : Fin 2 → ℕ) a + S1x1408.size a ≤ S4x1408.size a := by
  intro a; fin_cases a <;> simp <;> omega
theorem inb_band (j : ℕ) (hj : j < 11) : ∀ a, (![j, 0, 0] : Fin 3 → ℕ) a + S1x384x256.size a ≤ S11x384x256.size a := by
  intro a; fin_cases a <;> simp <;> omega
theorem inb_bias (j : ℕ) (hj : j < 11) : ∀ a, (![0, 128 * j] : Fin 2 → ℕ) a + S1x128.size a ≤ S1x1408.size a := by
  intro a; fin_cases a <;> simp <;> omega
theorem inb_chunk (j : ℕ) (hj : j < 11) : ∀ a, (![0, 128 * j] : Fin 2 → ℕ) a + S512x128.size a ≤ S512x1408.size a := by
  intro a; fin_cases a <;> simp <;> omega
theorem inb_rows (t : ℕ) (ht : t < 64) : ∀ a, (![8 * t, 0] : Fin 2 → ℕ) a + S8x1408.size a ≤ S512x1408.size a := by
  intro a; fin_cases a <;> simp <;> omega

theorem slices_band (j : ℕ) (hj : j < 11) : S512x1408.Slices ![0, bandLo j] S512x384 := by
  refine ⟨rfl, fun a => ?_⟩; unfold bandLo; fin_cases a <;> simp <;> omega
theorem slices_chunk (j : ℕ) (hj : j < 11) : S512x1408.Slices ![0, 128 * j] S512x128 := by
  refine ⟨rfl, fun a => ?_⟩; fin_cases a <;> simp <;> omega
theorem slices_row (j : ℕ) (hj : j < 11) : S1x1408.Slices ![0, 128 * j] S1x128 := by
  refine ⟨rfl, fun a => ?_⟩; fin_cases a <;> simp <;> omega

/-! ## The values -/

/-- Columns of a tile's projection: the normalised rows times 256 columns of the weight. -/
def projVal (xn : FVec F S512x1024 .bf16) (w : Vec F S1024x256 .bf16) : FVec F S1x512x256 .f32 :=
  shapeCast S1x512x256 (matmul dot_S512x1024_S1024x256_S512x256_1_0_0_1_n_n none xn (shapeCast S1024x256 w shapeCasts_S1024x256_S1024x256)
    (constant S512x256 .f32 0x00000000#32)) shapeCasts_S512x256_S1x512x256

/-- Both gates' sums of a chunk of channels, before the biases. -/
def gateSum (j : ℕ) (hj : j < 11) (yb : FVec F S512x1408 .bf16) (wb : Vec F S1x384x256 .bf16) : FVec F S512x256 .f32 :=
  matmul dot_S512x384_S384x256_S512x256_1_0_0_1_n_n none (extractStridedSlice S512x384 ![0, bandLo j] yb (slices_band j hj))
    (shapeCast S384x256 wb shapeCasts_S1x384x256_S384x256) (constant S512x256 .f32 0x00000000#32)

/-- The recurrence gate of a chunk. -/
def recGate (j : ℕ) (hj : j < 11) (yb : FVec F S512x1408 .bf16) (wb : Vec F S1x384x256 .bf16) (ba : Vec F S1x128 .f32) : FVec F S512x128 .f32 :=
  logistic (addf (extractStridedSlice S512x128 ![0, 0] (gateSum j hj yb wb) slices_S512x256_o0_0_S512x128)
    (broadcastTo S512x128 (shapeCast S1x128 ba shapeCasts_S1x128_S1x128) broadcasts_S1x128_S512x128))

/-- The input gate of a chunk. -/
def inGate (j : ℕ) (hj : j < 11) (yb : FVec F S512x1408 .bf16) (wb : Vec F S1x384x256 .bf16) (bx : Vec F S1x128 .f32) : FVec F S512x128 .f32 :=
  logistic (addf (extractStridedSlice S512x128 ![0, 128] (gateSum j hj yb wb) slices_S512x256_o0_128_S512x128)
    (broadcastTo S512x128 (shapeCast S1x128 bx shapeCasts_S1x128_S1x128) broadcasts_S1x128_S512x128))

/-- The logarithm of a chunk's decay. -/
def logDecay (j : ℕ) (hj : j < 11) (sp : FVec F S1x1408 .f32) (r : FVec F S512x128 .f32) : FVec F S512x128 .f32 :=
  mulf (mulf (broadcast S512x128 (Scalar.ofBits .f32 0xC1000000#32 : F .f32)) r)
    (broadcastTo S512x128 (extractStridedSlice S1x128 ![0, 128 * j] sp (slices_row j hj)) broadcasts_S1x128_S512x128)

/-- A chunk's decay. -/
def decay (j : ℕ) (hj : j < 11) (sp : FVec F S1x1408 .f32) (r : FVec F S512x128 .f32) : FVec F S512x128 .f32 :=
  exp (logDecay j hj sp r)

/-- One minus the square of a chunk's decay, from the hyperbolic tangent. -/
def oneMinusSq (j : ℕ) (hj : j < 11) (sp : FVec F S1x1408 .f32) (r : FVec F S512x128 .f32) : FVec F S512x128 .f32 :=
  mulf (subf (broadcast S512x128 (Scalar.ofBits .f32 0x00000000#32 : F .f32)) (tanh (logDecay j hj sp r)))
    (addf (broadcast S512x128 (Scalar.ofBits .f32 0x3F800000#32 : F .f32)) (mulf (decay j hj sp r) (decay j hj sp r)))

/-- A chunk's input to the recurrence. -/
def drive (j : ℕ) (hj : j < 11) (sp : FVec F S1x1408 .f32) (r i : FVec F S512x128 .f32) (y : FVec F S512x1408 .f32) : FVec F S512x128 .f32 :=
  mulf (select (cmpf .ogt (oneMinusSq j hj sp r) (broadcast S512x128 (Scalar.ofBits .f32 0x00000000#32 : F .f32)))
      (mulf (oneMinusSq j hj sp r) (rsqrt (oneMinusSq j hj sp r))) (broadcast S512x128 (Scalar.ofBits .f32 0x00000000#32 : F .f32)))
    (mulf i (extractStridedSlice S512x128 ![0, 128 * j] y (slices_chunk j hj)))

/-- One row block of the recurrence. -/
def advance (a h u : FVec F S8x1408 .f32) : FVec F S8x1408 .f32 := addf (mulf a h) u

/-! ## The program -/

section
variable (arg1 : Memref sig .tc .vmem S512x1024 .f32) (arg2 : Memref sig .tc .vmem S512x1024 .f32) (arg3 : Memref sig .tc .vmem S1x1024 .f32)
  (arg4 : Memref sig .tc .vmem S1024x2816 .bf16) (arg5 : Memref sig .tc .vmem S4x1408 .f32) (arg6 : Memref sig .tc .vmem S1x1408 .f32)
  (arg7 : Memref sig .tc .vmem S11x384x256 .bf16) (arg8 : Memref sig .tc .vmem S1x1408 .f32) (arg9 : Memref sig .tc .vmem S1x1408 .f32)
  (arg10 : Memref sig .tc .vmem S1x1408 .f32) (arg11 : Memref sig .tc .vmem S1408x1024 .bf16) (arg12 : Memref sig .tc .vmem S1x1024 .f32)
  (arg13 : Memref sig .tc .vmem S512x1024 .f32) (arg14 : Memref sig .tc .vmem S2x536x2816 .f32) (arg15 : Memref sig .tc .vmem S512x1408 .f32)
  (arg16 : Memref sig .tc .vmem S512x1408 .f32) (arg17 : Memref sig .tc .vmem S8x1408 .f32)

/-- One chunk of a tile's projection into the tile's slot. -/
def projStep (s : ℕ) (hs : s < 2) (j : ℕ) (hj : j < 11) (xn : FVec F S512x1024 .bf16) : Pr F PUnit := do
  let w : Vec F S1024x256 .bf16 ← Prog.lift (.load arg4 (Rect.unit (s := S1024x2816) ![0, 256 * j] S1024x256.size (inb_wcols j hj)).toLoadRect (View.loadsAt_vmem h_S1024x256))
  let _ : Vec F S1x512x256 .f32 ← Prog.lift (.load arg14 (Rect.unit (s := S2x536x2816) ![s, 24, 256 * j] S1x512x256.size (inb_proj s j hs hj)).toLoadRect (View.loadsAt_vmem h_S1x512x256))
  Prog.lift (.store arg14 (Rect.unit (s := S2x536x2816) ![s, 24, 256 * j] S1x512x256.size (inb_proj s j hs hj)) (projVal xn w) Finset.univ (View.stores_vmem_bits_univ h_S1x512x256 rfl) (.inl rfl))

/-- A chunk's second half: its gates, its decay and its input to the recurrence, stored. -/
def gateRest (j : ℕ) (hj : j < 11) (yb : FVec F S512x1408 .bf16) (y : FVec F S512x1408 .f32) (sp : FVec F S1x1408 .f32) (wb : Vec F S1x384x256 .bf16) : Pr F PUnit := do
  let ba : Vec F S1x128 .f32 ← Prog.lift (.load arg8 (Rect.unit (s := S1x1408) ![0, 128 * j] S1x128.size (inb_bias j hj)).toLoadRect (View.loadsAt_vmem h_S1x128))
  let bx : Vec F S1x128 .f32 ← Prog.lift (.load arg9 (Rect.unit (s := S1x1408) ![0, 128 * j] S1x128.size (inb_bias j hj)).toLoadRect (View.loadsAt_vmem h_S1x128))
  let _ : Vec F S512x128 .f32 ← Prog.lift (.load arg15 (Rect.unit (s := S512x1408) ![0, 128 * j] S512x128.size (inb_chunk j hj)).toLoadRect (View.loadsAt_vmem h_S512x128))
  Prog.lift (.store arg15 (Rect.unit (s := S512x1408) ![0, 128 * j] S512x128.size (inb_chunk j hj)) (shapeCast S512x128 (decay j hj sp (recGate j hj yb wb ba)) shapeCasts_S512x128_S512x128) Finset.univ (View.stores_vmem_bits_univ h_S512x128 rfl) (.inl rfl))
  let _ : Vec F S512x128 .f32 ← Prog.lift (.load arg16 (Rect.unit (s := S512x1408) ![0, 128 * j] S512x128.size (inb_chunk j hj)).toLoadRect (View.loadsAt_vmem h_S512x128))
  Prog.lift (.store arg16 (Rect.unit (s := S512x1408) ![0, 128 * j] S512x128.size (inb_chunk j hj)) (shapeCast S512x128 (drive j hj sp (recGate j hj yb wb ba) (inGate j hj yb wb bx) y) shapeCasts_S512x128_S512x128) Finset.univ (View.stores_vmem_bits_univ h_S512x128 rfl) (.inl rfl))

/-- A chunk of channels, with the chunk `p` of the next tile's projection when there is one. -/
def gateStep (s : ℕ) (hs : s < 2) (j : ℕ) (hj : j < 11) (p : Option (Fin 11)) (xn : FVec F S512x1024 .bf16) (yb : FVec F S512x1408 .bf16) (y : FVec F S512x1408 .f32) (sp : FVec F S1x1408 .f32) : Pr F PUnit := do
  let wb : Vec F S1x384x256 .bf16 ← Prog.lift (.load arg7 (Rect.unit (s := S11x384x256) ![j, 0, 0] S1x384x256.size (inb_band j hj)).toLoadRect (View.loadsAt_vmem h_S1x384x256))
  match p with
  | none => gateRest arg8 arg9 arg15 arg16 j hj yb y sp wb
  | some p => do
    projStep arg4 arg14 s hs p.val p.isLt xn
    gateRest arg8 arg9 arg15 arg16 j hj yb y sp wb

/-- One row block of the scan. -/
def scanStep (t : ℕ) (ht : t < 64) (h : FVec F S8x1408 .f32) : Pr F (FVec F S8x1408 .f32) := do
  let a : Vec F S8x1408 .f32 ← Prog.lift (.load arg15 (Rect.unit (s := S512x1408) ![8 * t, 0] S8x1408.size (inb_rows t ht)).toLoadRect (View.loadsAt_vmem h_S8x1408))
  let u : Vec F S8x1408 .f32 ← Prog.lift (.load arg16 (Rect.unit (s := S512x1408) ![8 * t, 0] S8x1408.size (inb_rows t ht)).toLoadRect (View.loadsAt_vmem h_S8x1408))
  let _ : Vec F S8x1408 .f32 ← Prog.lift (.load arg16 (Rect.unit (s := S512x1408) ![8 * t, 0] S8x1408.size (inb_rows t ht)).toLoadRect (View.loadsAt_vmem h_S8x1408))
  Prog.lift (.store arg16 (Rect.unit (s := S512x1408) ![8 * t, 0] S8x1408.size (inb_rows t ht)) (shapeCast S8x1408 (advance a h u) shapeCasts_S8x1408_S8x1408) Finset.univ (View.stores_vmem_bits_univ h_S8x1408 rfl) (.inl rfl))
  pure (advance a h u)

/-- `n` row blocks of the scan from block `t`. -/
def scanFrom : (n t : ℕ) → t + n ≤ 64 → FVec F S8x1408 .f32 → Pr F (FVec F S8x1408 .f32)
  | 0, _, _, h => pure h
  | n + 1, t, ht, h => do
    let h' ← scanStep arg15 arg16 t (by omega) h
    scanFrom n (t + 1) (by omega) h'

/-- The convolution of the tile before. -/
def convVal (cb c0 c1 c2 c3 : Vec F S1x1408 .f32) (g0 g1 g2 g3 : Vec F S1x512x1408 .f32) : FVec F S512x1408 .f32 :=
  k0_pay24 (k0_pay22 cb) (k0_pay23 c0) g0 c1 g1 c2 g2 c3 g3

/-- The output of the tile before. -/
def outVal (gt : Vec F S1x512x1408 .f32) (hs : Vec F S512x1408 .f32) (wo : Vec F S1408x1024 .bf16) (x : Vec F S512x1024 .f32) (g : Vec F S1x1024 .f32) : FVec F S512x1024 .f32 :=
  k0_pay2 (k0_pay254 (k0_pay489 gt) (k0_pay490 gt) k0_pay491 hs wo) x (k0_pay255 g) (k0_pay256 (k0_pay489 gt) (k0_pay490 gt) k0_pay491 hs wo)

/-- The first stretch: two chunks of the projection, the convolution of the tile before, its last rows copied as the
    next tile's halo, the decay rates. -/
def headProg (s q : ℕ) (hs : s < 2) (hq : q < 2) (K : FVec F S512x1024 .bf16 → FVec F S512x1408 .f32 → FVec F S1x1408 .f32 → Pr F PUnit) : Pr F PUnit := do
  let x : Vec F S512x1024 .f32 ← Prog.lift (.load arg1 (Rect.unit (s := S512x1024) ![0, 0] S512x1024.size inb_S512x1024_S512x1024_0_0).toLoadRect (View.loadsAt_vmem h_S512x1024))
  let g : Vec F S1x1024 .f32 ← Prog.lift (.load arg3 (Rect.unit (s := S1x1024) ![0, 0] S1x1024.size inb_S1x1024_S1x1024_0_0).toLoadRect (View.loadsAt_vmem h_S1x1024))
  projStep arg4 arg14 s hs 0 (by decide) (k0_pay19 x g)
  projStep arg4 arg14 s hs 1 (by decide) (k0_pay19 x g)
  let cb : Vec F S1x1408 .f32 ← Prog.lift (.load arg6 (Rect.unit (s := S1x1408) ![0, 0] S1x1408.size inb_S1x1408_S1x1408_0_0).toLoadRect (View.loadsAt_vmem h_S1x1408))
  let c0 : Vec F S1x1408 .f32 ← Prog.lift (.load arg5 (Rect.unit (s := S4x1408) ![0, 0] S1x1408.size (inb_wrow 0 (by decide))).toLoadRect (View.loadsAt_vmem h_S1x1408))
  let g0 : Vec F S1x512x1408 .f32 ← Prog.lift (.load arg14 (Rect.unit (s := S2x536x2816) ![q, 0, 1408] S1x512x1408.size (inb_tap q 0 hq (by decide))).toLoadRect (View.loadsAt_vmem h_S1x512x1408))
  let c1 : Vec F S1x1408 .f32 ← Prog.lift (.load arg5 (Rect.unit (s := S4x1408) ![1, 0] S1x1408.size (inb_wrow 1 (by decide))).toLoadRect (View.loadsAt_vmem h_S1x1408))
  let g1 : Vec F S1x512x1408 .f32 ← Prog.lift (.load arg14 (Rect.unit (s := S2x536x2816) ![q, 8, 1408] S1x512x1408.size (inb_tap q 1 hq (by decide))).toLoadRect (View.loadsAt_vmem h_S1x512x1408))
  let c2 : Vec F S1x1408 .f32 ← Prog.lift (.load arg5 (Rect.unit (s := S4x1408) ![2, 0] S1x1408.size (inb_wrow 2 (by decide))).toLoadRect (View.loadsAt_vmem h_S1x1408))
  let g2 : Vec F S1x512x1408 .f32 ← Prog.lift (.load arg14 (Rect.unit (s := S2x536x2816) ![q, 16, 1408] S1x512x1408.size (inb_tap q 2 hq (by decide))).toLoadRect (View.loadsAt_vmem h_S1x512x1408))
  let c3 : Vec F S1x1408 .f32 ← Prog.lift (.load arg5 (Rect.unit (s := S4x1408) ![3, 0] S1x1408.size (inb_wrow 3 (by decide))).toLoadRect (View.loadsAt_vmem h_S1x1408))
  let g3 : Vec F S1x512x1408 .f32 ← Prog.lift (.load arg14 (Rect.unit (s := S2x536x2816) ![q, 24, 1408] S1x512x1408.size (inb_tap q 3 hq (by decide))).toLoadRect (View.loadsAt_vmem h_S1x512x1408))
  let tl : Vec F S1x24x1408 .f32 ← Prog.lift (.load arg14 (Rect.unit (s := S2x536x2816) ![q, 512, 1408] S1x24x1408.size (inb_tail q hq)).toLoadRect (View.loadsAt_vmem h_S1x24x1408))
  let _ : Vec F S1x24x1408 .f32 ← Prog.lift (.load arg14 (Rect.unit (s := S2x536x2816) ![s, 0, 1408] S1x24x1408.size (inb_halo s hs)).toLoadRect (View.loadsAt_vmem h_S1x24x1408))
  Prog.lift (.store arg14 (Rect.unit (s := S2x536x2816) ![s, 0, 1408] S1x24x1408.size (inb_halo s hs)) (k0_pay25 tl) Finset.univ (View.stores_vmem_bits_univ h_S1x24x1408 rfl) (.inl rfl))
  let lam : Vec F S1x1408 .f32 ← Prog.lift (.load arg10 (Rect.unit (s := S1x1408) ![0, 0] S1x1408.size inb_S1x1408_S1x1408_0_0).toLoadRect (View.loadsAt_vmem h_S1x1408))
  K (k0_pay19 x g) (convVal cb c0 c1 c2 c3 g0 g1 g2 g3) (k0_pay28 (k0_pay27 lam) (Scalar.ofBits .f32 0x00000000#32 : F .f32))

/-- Which chunk of the projection stands inside a chunk of the gates. -/
def inside : Fin 11 → Option (Fin 11) := ![some 2, some 3, some 4, none, some 5, some 6, none, some 7, some 8, none, some 9]

/-- The gates from chunk `11 - n` on. -/
def gatesFrom (s : ℕ) (hs : s < 2) (xn : FVec F S512x1024 .bf16) (y : FVec F S512x1408 .f32) (sp : FVec F S1x1408 .f32) :
    (n j : ℕ) → j + n ≤ 11 → Pr F PUnit
  | 0, _, _ => pure ⟨⟩
  | n + 1, j, hj => do
    gateStep arg4 arg7 arg8 arg9 arg14 arg15 arg16 s hs j (by omega) (inside ⟨j, by omega⟩) xn (truncf .bf16 y bitsLt_bf16_f32) y sp
    gatesFrom s hs xn y sp n (j + 1) (by omega)

/-- The scan's state carried over, and the output of the tile before. -/
def tailProg (q : ℕ) (hq : q < 2) (h : FVec F S8x1408 .f32) : Pr F PUnit := do
  let _ : Vec F S8x1408 .f32 ← Prog.lift (.load arg17 (Rect.unit (s := S8x1408) ![0, 0] S8x1408.size inb_S8x1408_S8x1408_0_0).toLoadRect (View.loadsAt_vmem h_S8x1408))
  Prog.lift (.store arg17 (Rect.unit (s := S8x1408) ![0, 0] S8x1408.size inb_S8x1408_S8x1408_0_0) (shapeCast S8x1408 h shapeCasts_S8x1408_S8x1408) Finset.univ (View.stores_vmem_bits_univ h_S8x1408 rfl) (.inl rfl))
  let gt : Vec F S1x512x1408 .f32 ← Prog.lift (.load arg14 (Rect.unit (s := S2x536x2816) ![q, 24, 0] S1x512x1408.size (inb_gate q hq)).toLoadRect (View.loadsAt_vmem h_S1x512x1408))
  let hh : Vec F S512x1408 .f32 ← Prog.lift (.load arg16 (Rect.unit (s := S512x1408) ![0, 0] S512x1408.size inb_S512x1408_S512x1408_0_0).toLoadRect (View.loadsAt_vmem h_S512x1408))
  let wo : Vec F S1408x1024 .bf16 ← Prog.lift (.load arg11 (Rect.unit (s := S1408x1024) ![0, 0] S1408x1024.size inb_S1408x1024_S1408x1024_0_0).toLoadRect (View.loadsAt_vmem h_S1408x1024))
  let x : Vec F S512x1024 .f32 ← Prog.lift (.load arg2 (Rect.unit (s := S512x1024) ![0, 0] S512x1024.size inb_S512x1024_S512x1024_0_0).toLoadRect (View.loadsAt_vmem h_S512x1024))
  let g : Vec F S1x1024 .f32 ← Prog.lift (.load arg12 (Rect.unit (s := S1x1024) ![0, 0] S1x1024.size inb_S1x1024_S1x1024_0_0).toLoadRect (View.loadsAt_vmem h_S1x1024))
  let _ : Vec F S512x1024 .f32 ← Prog.lift (.load arg13 (Rect.unit (s := S512x1024) ![0, 0] S512x1024.size inb_S512x1024_S512x1024_0_0).toLoadRect (View.loadsAt_vmem h_S512x1024))
  Prog.lift (.store arg13 (Rect.unit (s := S512x1024) ![0, 0] S512x1024.size inb_S512x1024_S512x1024_0_0) (outVal gt hh wo x g) Finset.univ (View.stores_vmem_bits_univ h_S512x1024 rfl) (.inl rfl))
  pure ⟨⟩

/-- The last chunk of the projection, the scan and the output. -/
def restProg (s q : ℕ) (hs : s < 2) (hq : q < 2) (xn : FVec F S512x1024 .bf16) : Pr F PUnit := do
  projStep arg4 arg14 s hs 10 (by decide) xn
  let h0 : Vec F S8x1408 .f32 ← Prog.lift (.load arg17 (Rect.unit (s := S8x1408) ![0, 0] S8x1408.size inb_S8x1408_S8x1408_0_0).toLoadRect (View.loadsAt_vmem h_S8x1408))
  let h ← scanFrom arg15 arg16 64 0 (by decide) h0
  tailProg arg2 arg11 arg12 arg13 arg14 arg16 arg17 q hq h

/-- A tile's program: slot `s` receives the tile, slot `q` holds the tile before. -/
def tileProg (s q : ℕ) (hs : s < 2) (hq : q < 2) : Pr F PUnit :=
  headProg arg1 arg3 arg4 arg5 arg6 arg10 arg14 s q hs hq fun xn y sp => do
    gatesFrom arg4 arg7 arg8 arg9 arg14 arg15 arg16 s hs xn y sp 11 0 (by decide)
    restProg arg2 arg4 arg11 arg12 arg13 arg14 arg15 arg16 arg17 s q hs hq xn

/-- The first tile: the halo and the state cleared, the projection stored. -/
def firstFrom (xn : FVec F S512x1024 .bf16) : (n j : ℕ) → j + n ≤ 11 → Pr F PUnit
  | 0, _, _ => pure ⟨⟩
  | n + 1, j, hj => do
    projStep arg4 arg14 0 (by decide) j (by omega) xn
    firstFrom xn n (j + 1) (by omega)

/-- The first grid point's program. -/
def firstProg : Pr F PUnit := do
  let _ : Vec F S1x24x1408 .f32 ← Prog.lift (.load arg14 (Rect.unit (s := S2x536x2816) ![0, 0, 1408] S1x24x1408.size (inb_halo 0 (by decide))).toLoadRect (View.loadsAt_vmem h_S1x24x1408))
  Prog.lift (.store arg14 (Rect.unit (s := S2x536x2816) ![0, 0, 1408] S1x24x1408.size (inb_halo 0 (by decide))) k0_pay4 Finset.univ (View.stores_vmem_bits_univ h_S1x24x1408 rfl) (.inl rfl))
  let _ : Vec F S8x1408 .f32 ← Prog.lift (.load arg17 (Rect.unit (s := S8x1408) ![0, 0] S8x1408.size inb_S8x1408_S8x1408_0_0).toLoadRect (View.loadsAt_vmem h_S8x1408))
  Prog.lift (.store arg17 (Rect.unit (s := S8x1408) ![0, 0] S8x1408.size inb_S8x1408_S8x1408_0_0) k0_pay5 Finset.univ (View.stores_vmem_bits_univ h_S8x1408 rfl) (.inl rfl))
  let x : Vec F S512x1024 .f32 ← Prog.lift (.load arg1 (Rect.unit (s := S512x1024) ![0, 0] S512x1024.size inb_S512x1024_S512x1024_0_0).toLoadRect (View.loadsAt_vmem h_S512x1024))
  let g : Vec F S1x1024 .f32 ← Prog.lift (.load arg3 (Rect.unit (s := S1x1024) ![0, 0] S1x1024.size inb_S1x1024_S1x1024_0_0).toLoadRect (View.loadsAt_vmem h_S1x1024))
  firstFrom arg4 arg14 (k0_pay19 x g) 11 0 (by decide)
  pure ⟨⟩

end

end Cert.KernelIdeal.Hand

end
-- ==== Proof.LruRunIdeal.lean ====
/-
  Runs of the recurrent block's pieces: what each leaves in the buffers it touches.
-/
module

public import proofs.«01_k».proof.Proof.LruProgIdeal
public import Idealize.ShloMosaic.Lib.VecWindow
public import Idealize.ShloMosaic.Lib.WholeRead
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load at the head of a program: the memref's contents are kept and the program goes on with their window. -/
theorem wp_ld (c : Dev nD) {s : Shape} {e : EltTy} (m : Memref sig .tc .vmem s e) (hm : m.IsWhole) (x : Vec F s e)
    (off size : Fin s.rank → ℕ) (inb : ∀ a, off a + size a ≤ s.size a) (hl : m.view.LoadsAt (Rect.unit off size inb).toLoadRect)
    {α : Type} (κ : ((Rect.unit off size inb).toLoadRect.shape.Idx → Elt F e) → Pr F α) (E : Set ℕ) (K : α → sProp 𝕄) :
    iprop(owns (c : Thread nD τ) m fullShare x ∗ (owns (c : Thread nD τ) m fullShare x
        -∗ wp frame (wpE (defs₀ (F := F)) Variants.none c none) E (κ (VecWindow.window x off size inb)) K))
      ⊢ wp frame (wpE (defs₀ (F := F)) Variants.none c none) E (Prog.lift (.load m (Rect.unit off size inb).toLoadRect hl) >>= κ) K := by
  unfold owns
  iintro ⟨⟨%f, %hf, H⟩, Hk⟩
  obtain rfl := hm.eq_unread hf
  sl_exec
  have hr : m.view.readAt (Elt F) (Rect.unit off size inb).toLoadRect (hm.unread x) = VecWindow.window x off size inb := by
    refine (View.readAt_unit m.view _ inb rfl inb).trans ?_
    rw [hm.read_unread]
  rw [hr]
  iapply Hk
  iexists _; isplitr; · ipureintro; exact hm.read_unread _
  iexact H

/-- A store at the head of a program: the program goes on with the payload put into the memref's contents. -/
theorem wp_st (c : Dev nD) {s : Shape} {e : EltTy} (m : Memref sig .tc .vmem s e) (hm : m.IsWhole) (x : Vec F s e)
    (off size : Fin s.rank → ℕ) (inb : ∀ a, off a + size a ≤ s.size a) (w : (Rect.unit off size inb).shape.Idx → Elt F e)
    (hx : (m.access (Rect.unit off size inb)).Stores Finset.univ) (hmm : Finset.univ = Finset.univ ∨ _)
    {α : Type} (κ : PUnit → Pr F α) (E : Set ℕ) (K : α → sProp 𝕄) :
    iprop(owns (c : Thread nD τ) m fullShare x ∗ (owns (c : Thread nD τ) m fullShare (VecWindow.put x off size w)
        -∗ wp frame (wpE (defs₀ (F := F)) Variants.none c none) E (κ ⟨⟩) K))
      ⊢ wp frame (wpE (defs₀ (F := F)) Variants.none c none) E (Prog.lift (.store m (Rect.unit off size inb) w Finset.univ hx hmm) >>= κ) K := by
  unfold owns
  iintro ⟨⟨%f, %hf, H⟩, Hk⟩
  obtain rfl := hm.eq_unread hf
  sl_exec
  iapply Hk
  iexists _; isplitr; swap; · iexact H
  ipureintro
  refine (View.read_writes_cons_put m.view _ inb w [] rfl).trans ?_
  rw [View.writes_nil, hm.read_unread]

/-! ## Boxes read at an index -/

/-- A put read inside its box is the payload. -/
theorem put_in {α : Type} {s : Shape} (x : s.Idx → α) (off size : Fin s.rank → ℕ) (w : ((a : Fin s.rank) → Fin (size a)) → α) (y : s.Idx)
    (z : (a : Fin s.rank) → Fin (size a)) (h : ∀ a, (y a).val = off a + (z a).val) : VecWindow.put x off size w y = w z := by
  have h' : ∀ a, off a ≤ (y a).val ∧ (y a).val < off a + size a := fun a => by have := (z a).isLt; have := h a; omega
  refine (dif_pos h').trans (congrArg w (funext fun a => Fin.ext ?_))
  show (y a).val - off a = (z a).val
  have := h a; omega

/-- A put read outside its box is what was there. -/
theorem put_out {α : Type} {s : Shape} (x : s.Idx → α) (off size : Fin s.rank → ℕ) (w : ((a : Fin s.rank) → Fin (size a)) → α) (y : s.Idx)
    (a : Fin s.rank) (ha : (y a).val < off a ∨ off a + size a ≤ (y a).val) : VecWindow.put x off size w y = x y :=
  dif_neg fun h => by have := h a; omega

/-- A window read at an index. -/
theorem window_at {α : Type} {s : Shape} (x : s.Idx → α) (off size : Fin s.rank → ℕ) (inb : ∀ a, off a + size a ≤ s.size a)
    (z : (a : Fin s.rank) → Fin (size a)) (y : s.Idx) (h : ∀ a, (y a).val = off a + (z a).val) : VecWindow.window x off size inb z = x y := by
  refine congrArg x (funext fun a => Fin.ext ?_)
  show off a + 1 * (z a).val = (y a).val
  rw [h a, Nat.one_mul]

/-- The window that is everything. -/
theorem window_all {α : Type} {s : Shape} (x : s.Idx → α) (off : Fin s.rank → ℕ) (h0 : ∀ a, off a = 0) (inb : ∀ a, off a + s.size a ≤ s.size a) :
    VecWindow.window x off s.size inb = x :=
  funext fun z => window_at x off s.size inb z z fun a => by rw [h0 a, Nat.zero_add]

/-- The put of everything. -/
theorem put_all {α : Type} {s : Shape} (x : s.Idx → α) (off : Fin s.rank → ℕ) (h0 : ∀ a, off a = 0) (w : s.Idx → α) :
    VecWindow.put x off s.size w = w :=
  funext fun z => put_in x off s.size w z z fun a => by rw [h0 a, Nat.zero_add]

/-! ## What the pieces compute, whole -/

/-- A tile's projection, every column. -/
def projAll (xn : FVec F S512x1024 .bf16) (x4 : Vec F S1024x2816 .bf16) (r : Fin 512) (l : Fin 2816) : F .f32 :=
  projVal xn (VecWindow.window x4 ![0, 256 * (l.val / 256)] S1024x256.size (inb_wcols _ (by omega))) (ix3 0 r ⟨l.val % 256, by omega⟩)

/-- The two slots with a chunk of a projection stored. -/
def projPut (s j : ℕ) (hj : j < 11) (xn : FVec F S512x1024 .bf16) (x4 : Vec F S1024x2816 .bf16) (d : Vec F S2x536x2816 .f32) : Vec F S2x536x2816 .f32 :=
  VecWindow.put d ![s, 24, 256 * j] S1x512x256.size (projVal xn (VecWindow.window x4 ![0, 256 * j] S1024x256.size (inb_wcols j hj)))

theorem projPut_in (s j : ℕ) (hj : j < 11) (hs : s < 2) (xn : FVec F S512x1024 .bf16) (x4 : Vec F S1024x2816 .bf16) (d : Vec F S2x536x2816 .f32)
    (r : Fin 512) (l : Fin 2816) (h : l.val / 256 = j) :
    projPut s j hj xn x4 d (ix3 ⟨s, hs⟩ ⟨24 + r.val, by omega⟩ l) = projAll xn x4 r l := by
  subst h
  refine put_in d _ S1x512x256.size _ _ (ix3 (n0 := 1) (n1 := 512) (n2 := 256) 0 r ⟨l.val % 256, by omega⟩) fun a => ?_
  fin_cases a <;> simp [ix3] <;> omega

theorem projPut_out (s j : ℕ) (hj : j < 11) (xn : FVec F S512x1024 .bf16) (x4 : Vec F S1024x2816 .bf16) (d : Vec F S2x536x2816 .f32)
    (b : Fin 2) (r : Fin 536) (l : Fin 2816) (h : b.val ≠ s ∨ r.val < 24 ∨ l.val / 256 ≠ j) :
    projPut s j hj xn x4 d (ix3 b r l) = d (ix3 b r l) := by
  rcases h with h | h | h
  · refine put_out _ _ _ _ _ 0 ?_; simp [ix3]; omega
  · refine put_out _ _ _ _ _ 1 ?_; simp [ix3]; omega
  · refine put_out _ _ _ _ _ 2 ?_; simp [ix3]; omega

/-- The two slots with the halo stored. -/
def haloPut (s : ℕ) (w : FVec F S1x24x1408 .f32) (d : Vec F S2x536x2816 .f32) : Vec F S2x536x2816 .f32 :=
  VecWindow.put d ![s, 0, 1408] S1x24x1408.size w

theorem haloPut_in (s : ℕ) (hs : s < 2) (w : FVec F S1x24x1408 .f32) (d : Vec F S2x536x2816 .f32) (r : Fin 24) (l : Fin 1408) :
    haloPut s w d (ix3 ⟨s, hs⟩ ⟨r.val, by omega⟩ ⟨1408 + l.val, by omega⟩) = w (ix3 0 r l) := by
  refine put_in d _ S1x24x1408.size _ _ (ix3 (n0 := 1) (n1 := 24) (n2 := 1408) 0 r l) fun a => ?_
  fin_cases a <;> simp [ix3]

theorem haloPut_out (s : ℕ) (w : FVec F S1x24x1408 .f32) (d : Vec F S2x536x2816 .f32) (b : Fin 2) (r : Fin 536) (l : Fin 2816)
    (h : b.val ≠ s ∨ 24 ≤ r.val) : haloPut s w d (ix3 b r l) = d (ix3 b r l) := by
  rcases h with h | h
  · refine put_out _ _ _ _ _ 0 ?_; simp [ix3]; omega
  · refine put_out _ _ _ _ _ 1 ?_; simp [ix3]; omega

/-- Every channel's decay. -/
def decayAll (yb : FVec F S512x1408 .bf16) (sp : FVec F S1x1408 .f32) (x7 : Vec F S11x384x256 .bf16) (x8 : Vec F S1x1408 .f32) : Vec F S512x1408 .f32 :=
  fun i => have hj : (i 1).val / 128 < 11 := by have := (i 1).isLt; simp at this; omega
    shapeCast S512x128 (decay _ hj sp (recGate _ hj yb (VecWindow.window x7 ![(i 1).val / 128, 0, 0] S1x384x256.size (inb_band _ hj))
      (VecWindow.window x8 ![0, 128 * ((i 1).val / 128)] S1x128.size (inb_bias _ hj)))) shapeCasts_S512x128_S512x128 (ix2 (i 0) ⟨(i 1).val % 128, by omega⟩)

/-- Every channel's input to the recurrence. -/
def driveAll (y : FVec F S512x1408 .f32) (sp : FVec F S1x1408 .f32) (x7 : Vec F S11x384x256 .bf16) (x8 x9 : Vec F S1x1408 .f32) : Vec F S512x1408 .f32 :=
  fun i => have hj : (i 1).val / 128 < 11 := by have := (i 1).isLt; simp at this; omega
    shapeCast S512x128 (drive _ hj sp
      (recGate _ hj (truncf .bf16 y bitsLt_bf16_f32) (VecWindow.window x7 ![(i 1).val / 128, 0, 0] S1x384x256.size (inb_band _ hj))
        (VecWindow.window x8 ![0, 128 * ((i 1).val / 128)] S1x128.size (inb_bias _ hj)))
      (inGate _ hj (truncf .bf16 y bitsLt_bf16_f32) (VecWindow.window x7 ![(i 1).val / 128, 0, 0] S1x384x256.size (inb_band _ hj))
        (VecWindow.window x9 ![0, 128 * ((i 1).val / 128)] S1x128.size (inb_bias _ hj))) y) shapeCasts_S512x128_S512x128 (ix2 (i 0) ⟨(i 1).val % 128, by omega⟩)

/-- A store of chunk `j` of a function of the channels keeps agreeing with it, one chunk further. -/
theorem put_chunk (G : Vec F S512x1408 .f32) (d : Vec F S512x1408 .f32) (j : ℕ) (w : FVec F S512x128 .f32)
    (hw : ∀ (r : Fin 512) (l : Fin 1408), l.val / 128 = j → G (ix2 r l) = w (ix2 r ⟨l.val % 128, by omega⟩))
    (hd : ∀ (r : Fin 512) (l : Fin 1408), l.val < 128 * j → d (ix2 r l) = G (ix2 r l)) (r : Fin 512) (l : Fin 1408) (hl : l.val < 128 * (j + 1)) :
    VecWindow.put d ![0, 128 * j] S512x128.size w (ix2 r l) = G (ix2 r l) := by
  by_cases h : l.val < 128 * j
  · rw [put_out _ _ _ _ _ 1 (by left; simpa [ix2] using h)]; exact hd r l h
  · have e : l.val / 128 = j := by omega
    rw [hw r l e]
    refine put_in d _ S512x128.size _ _ (ix2 (n0 := 512) (n1 := 128) r ⟨l.val % 128, by omega⟩) fun a => ?_
    fin_cases a <;> simp [ix2]; omega

/-- Row block `t` of a tile. -/
def rowsAt (d : Vec F S512x1408 .f32) (t : ℕ) : FVec F S8x1408 .f32 :=
  fun i => d (ix2 ⟨(8 * t + (i 0).val) % 512, Nat.mod_lt _ (by decide)⟩ (i 1))

/-- The recurrence's state after `t` row blocks. -/
def stateAt (a u : Vec F S512x1408 .f32) (h : FVec F S8x1408 .f32) : ℕ → FVec F S8x1408 .f32
  | 0 => h
  | t + 1 => advance (rowsAt a t) (stateAt a u h t) (rowsAt u t)

/-- The tile with its first `t` row blocks scanned. -/
def scanned (a u : Vec F S512x1408 .f32) (h : FVec F S8x1408 .f32) (t : ℕ) : Vec F S512x1408 .f32 :=
  fun i => if (i 0).val < 8 * t then stateAt a u h ((i 0).val / 8 + 1) (ix2 ⟨(i 0).val % 8, Nat.mod_lt _ (by decide)⟩ (i 1)) else u i

theorem rowsAt_eq (d : Vec F S512x1408 .f32) (t : ℕ) (ht : t < 64) :
    VecWindow.window d ![8 * t, 0] S8x1408.size (inb_rows t ht) = rowsAt d t := by
  funext z
  have h0 : (z 0).val < 8 := (z 0).isLt
  refine window_at d ![8 * t, 0] S8x1408.size (inb_rows t ht) z _ fun a => ?_
  fin_cases a
  · show (8 * t + (z 0).val) % 512 = 8 * t + (z 0).val; omega
  · show (z 1).val = 0 + (z 1).val; omega

theorem rowsAt_scanned (a u : Vec F S512x1408 .f32) (h : FVec F S8x1408 .f32) (t : ℕ) (ht : t < 64) : rowsAt (scanned a u h t) t = rowsAt u t := by
  funext z
  have h0 : (z 0).val < 8 := (z 0).isLt
  refine if_neg ?_
  show ¬ (8 * t + (z 0).val) % 512 < 8 * t
  omega

theorem scanned_succ (a u : Vec F S512x1408 .f32) (h : FVec F S8x1408 .f32) (t : ℕ) (ht : t < 64) (w : FVec F S8x1408 .f32)
    (hw : w = stateAt a u h (t + 1)) :
    VecWindow.put (scanned a u h t) ![8 * t, 0] S8x1408.size w = scanned a u h (t + 1) := by
  funext z
  have h0 : (z 0).val < 512 := (z 0).isLt
  by_cases hz : 8 * t ≤ (z 0).val ∧ (z 0).val < 8 * t + 8
  · refine (put_in (scanned a u h t) _ S8x1408.size _ z (ix2 (n0 := 8) (n1 := 1408) ⟨(z 0).val % 8, Nat.mod_lt _ (by decide)⟩ (z 1)) fun a => ?_).trans ?_
    · fin_cases a
      · show (z 0).val = 8 * t + (z 0).val % 8; omega
      · show (z 1).val = 0 + (z 1).val; omega
    · refine Eq.symm ((if_pos (by omega)).trans ?_)
      rw [hw, show (z 0).val / 8 + 1 = t + 1 by omega]
  · rw [put_out _ _ _ _ z 0 (by show (z 0).val < 8 * t ∨ 8 * t + 8 ≤ (z 0).val; omega)]
    by_cases h1 : (z 0).val < 8 * t
    · exact (if_pos h1).trans (if_pos (by omega)).symm
    · exact (if_neg h1).trans (if_neg (by omega)).symm

end Cert.KernelIdeal.Hand

end
-- ==== Proof.LruTileIdeal.lean ====
/-
  Runs of the recurrent block's stretches: the projection, the gates, the scan.
-/
module

public import proofs.«01_k».proof.Proof.LruRunIdeal
public import Idealize.ShloMosaic.Lib.VecWindow
public import Idealize.ShloMosaic.Lib.WholeRead
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The weakest precondition of a program on core `c`. -/
abbrev W (c : Dev nD) {α : Type} (E : Set ℕ) (p : Pr F α) (K : α → sProp 𝕄) : sProp 𝕄 := wp frame (wpE (defs₀ (F := F)) Variants.none c none) E p K

/-- One chunk of a projection. -/
theorem projStep_wp (c : Dev nD) (arg4 : Memref sig .tc .vmem S1024x2816 .bf16) (harg4 : arg4.IsWhole) (arg14 : Memref sig .tc .vmem S2x536x2816 .f32) (harg14 : arg14.IsWhole)
    (s : ℕ) (hs : s < 2) (j : ℕ) (hj : j < 11) (xn : FVec F S512x1024 .bf16) (x4 : Vec F S1024x2816 .bf16) (d14 : Vec F S2x536x2816 .f32)
    {α : Type} (κ : PUnit → Pr F α) (E : Set ℕ) (K : α → sProp 𝕄) :
    iprop(owns (c : Thread nD τ) arg4 fullShare x4 ∗ owns (c : Thread nD τ) arg14 fullShare d14
        ∗ (iprop(owns (c : Thread nD τ) arg4 fullShare x4 ∗ owns (c : Thread nD τ) arg14 fullShare (projPut s j hj xn x4 d14)) -∗ W c E (κ ⟨⟩) K))
      ⊢ W c E (projStep arg4 arg14 s hs j hj xn >>= κ) K := by
  unfold projStep
  simp only [bind_assoc]
  iintro ⟨H4, H14, Hk⟩
  iapply (wp_ld c arg4 harg4 x4); isplitl [H4]; · iexact H4
  iintro H4
  iapply (wp_ld c arg14 harg14 d14); isplitl [H14]; · iexact H14
  iintro H14
  iapply (wp_st c arg14 harg14 d14); isplitl [H14]; · iexact H14
  iintro H14
  iapply Hk
  isplitl [H4]
  · iexact H4
  iexact H14

/-- A chunk's gates: the decay and the drive stored. -/
theorem gateRest_wp (c : Dev nD) (arg8 : Memref sig .tc .vmem S1x1408 .f32) (harg8 : arg8.IsWhole) (arg9 : Memref sig .tc .vmem S1x1408 .f32) (harg9 : arg9.IsWhole)
    (arg15 : Memref sig .tc .vmem S512x1408 .f32) (harg15 : arg15.IsWhole) (arg16 : Memref sig .tc .vmem S512x1408 .f32) (harg16 : arg16.IsWhole)
    (j : ℕ) (hj : j < 11) (y : FVec F S512x1408 .f32) (sp : FVec F S1x1408 .f32) (x7 : Vec F S11x384x256 .bf16) (x8 x9 : Vec F S1x1408 .f32)
    (d15 d16 : Vec F S512x1408 .f32)
    (h15 : ∀ (r : Fin 512) (l : Fin 1408), l.val < 128 * j → d15 (ix2 r l) = decayAll (truncf .bf16 y bitsLt_bf16_f32) sp x7 x8 (ix2 r l))
    (h16 : ∀ (r : Fin 512) (l : Fin 1408), l.val < 128 * j → d16 (ix2 r l) = driveAll y sp x7 x8 x9 (ix2 r l))
    {α : Type} (κ : PUnit → Pr F α) (E : Set ℕ) (K : α → sProp 𝕄) :
    iprop(owns (c : Thread nD τ) arg8 fullShare x8 ∗ owns (c : Thread nD τ) arg9 fullShare x9 ∗ owns (c : Thread nD τ) arg15 fullShare d15 ∗ owns (c : Thread nD τ) arg16 fullShare d16
        ∗ (∀ d15' : Vec F S512x1408 .f32, ∀ d16' : Vec F S512x1408 .f32,
            iprop(⌜(∀ (r : Fin 512) (l : Fin 1408), l.val < 128 * (j + 1) → d15' (ix2 r l) = decayAll (truncf .bf16 y bitsLt_bf16_f32) sp x7 x8 (ix2 r l))
                ∧ (∀ (r : Fin 512) (l : Fin 1408), l.val < 128 * (j + 1) → d16' (ix2 r l) = driveAll y sp x7 x8 x9 (ix2 r l))⌝
              ∗ owns (c : Thread nD τ) arg8 fullShare x8 ∗ owns (c : Thread nD τ) arg9 fullShare x9 ∗ owns (c : Thread nD τ) arg15 fullShare d15' ∗ owns (c : Thread nD τ) arg16 fullShare d16')
            -∗ W c E (κ ⟨⟩) K))
      ⊢ W c E (gateRest arg8 arg9 arg15 arg16 j hj (truncf .bf16 y bitsLt_bf16_f32) y sp (VecWindow.window x7 ![j, 0, 0] S1x384x256.size (inb_band j hj)) >>= κ) K := by
  unfold gateRest
  simp only [bind_assoc]
  iintro ⟨H8, H9, H15, H16, Hk⟩
  iapply (wp_ld c arg8 harg8 x8); isplitl [H8]; · iexact H8
  iintro H8
  iapply (wp_ld c arg9 harg9 x9); isplitl [H9]; · iexact H9
  iintro H9
  iapply (wp_ld c arg15 harg15 d15); isplitl [H15]; · iexact H15
  iintro H15
  iapply (wp_st c arg15 harg15 d15); isplitl [H15]; · iexact H15
  iintro H15
  iapply (wp_ld c arg16 harg16 d16); isplitl [H16]; · iexact H16
  iintro H16
  iapply (wp_st c arg16 harg16 d16); isplitl [H16]; · iexact H16
  iintro H16
  iapply Hk $$ %_ %_
  isplitr; swap
  · isplitl [H8]
    · iexact H8
    isplitl [H9]
    · iexact H9
    isplitl [H15]
    · iexact H15
    iexact H16
  ipureintro
  constructor
  · intro r l hl
    refine put_chunk (decayAll (truncf .bf16 y bitsLt_bf16_f32) sp x7 x8) d15 j _ ?_ h15 r l hl
    intro r l e; subst e; rfl
  · intro r l hl
    refine put_chunk (driveAll y sp x7 x8 x9) d16 j _ ?_ h16 r l hl
    intro r l e; subst e; rfl

/-- The slots after the projection chunk that stands inside a chunk of the gates, if any. -/
def insidePut (s : ℕ) (p : Option (Fin 11)) (xn : FVec F S512x1024 .bf16) (x4 : Vec F S1024x2816 .bf16) (d : Vec F S2x536x2816 .f32) : Vec F S2x536x2816 .f32 :=
  match p with
  | none => d
  | some p => projPut s p.val p.isLt xn x4 d

/-- The slots after the gates from chunk `j` on. -/
def gatesPut (s : ℕ) (xn : FVec F S512x1024 .bf16) (x4 : Vec F S1024x2816 .bf16) : (n j : ℕ) → j + n ≤ 11 → Vec F S2x536x2816 .f32 → Vec F S2x536x2816 .f32
  | 0, _, _, d => d
  | n + 1, j, hj, d => gatesPut s xn x4 n (j + 1) (by omega) (insidePut s (inside ⟨j, by omega⟩) xn x4 d)

section
variable (c : Dev nD) (arg4 : Memref sig .tc .vmem S1024x2816 .bf16) (harg4 : arg4.IsWhole) (arg7 : Memref sig .tc .vmem S11x384x256 .bf16) (harg7 : arg7.IsWhole)
    (arg8 : Memref sig .tc .vmem S1x1408 .f32) (harg8 : arg8.IsWhole) (arg9 : Memref sig .tc .vmem S1x1408 .f32) (harg9 : arg9.IsWhole)
    (arg14 : Memref sig .tc .vmem S2x536x2816 .f32) (harg14 : arg14.IsWhole)
    (arg15 : Memref sig .tc .vmem S512x1408 .f32) (harg15 : arg15.IsWhole) (arg16 : Memref sig .tc .vmem S512x1408 .f32) (harg16 : arg16.IsWhole)
include harg4 harg7 harg8 harg9 harg14 harg15 harg16

/-- The gates from chunk `j` on: every channel's decay and drive, and the projection chunks between. -/
theorem gatesFrom_wp (s : ℕ) (hs : s < 2) (xn : FVec F S512x1024 .bf16) (x4 : Vec F S1024x2816 .bf16)
    (y : FVec F S512x1408 .f32) (sp : FVec F S1x1408 .f32) (x7 : Vec F S11x384x256 .bf16) (x8 x9 : Vec F S1x1408 .f32)
    {α : Type} (κ : PUnit → Pr F α) (E : Set ℕ) (K : α → sProp 𝕄) (e : ℕ) :
    ∀ (n j : ℕ) (hj : j + n ≤ 11) (he : j + n = e) (d14 : Vec F S2x536x2816 .f32) (d15 d16 : Vec F S512x1408 .f32)
      (h15 : ∀ (r : Fin 512) (l : Fin 1408), l.val < 128 * j → d15 (ix2 r l) = decayAll (truncf .bf16 y bitsLt_bf16_f32) sp x7 x8 (ix2 r l))
      (h16 : ∀ (r : Fin 512) (l : Fin 1408), l.val < 128 * j → d16 (ix2 r l) = driveAll y sp x7 x8 x9 (ix2 r l)),
    iprop(owns (c : Thread nD τ) arg4 fullShare x4 ∗ owns (c : Thread nD τ) arg7 fullShare x7 ∗ owns (c : Thread nD τ) arg8 fullShare x8 ∗ owns (c : Thread nD τ) arg9 fullShare x9 ∗ owns (c : Thread nD τ) arg14 fullShare d14 ∗ owns (c : Thread nD τ) arg15 fullShare d15 ∗ owns (c : Thread nD τ) arg16 fullShare d16
        ∗ (∀ d15' : Vec F S512x1408 .f32, ∀ d16' : Vec F S512x1408 .f32,
            iprop(⌜(∀ (r : Fin 512) (l : Fin 1408), l.val < 128 * e → d15' (ix2 r l) = decayAll (truncf .bf16 y bitsLt_bf16_f32) sp x7 x8 (ix2 r l))
                ∧ (∀ (r : Fin 512) (l : Fin 1408), l.val < 128 * e → d16' (ix2 r l) = driveAll y sp x7 x8 x9 (ix2 r l))⌝
              ∗ owns (c : Thread nD τ) arg4 fullShare x4 ∗ owns (c : Thread nD τ) arg7 fullShare x7 ∗ owns (c : Thread nD τ) arg8 fullShare x8 ∗ owns (c : Thread nD τ) arg9 fullShare x9 ∗ owns (c : Thread nD τ) arg14 fullShare (gatesPut s xn x4 n j hj d14) ∗ owns (c : Thread nD τ) arg15 fullShare d15' ∗ owns (c : Thread nD τ) arg16 fullShare d16')
            -∗ W c E (κ ⟨⟩) K))
      ⊢ W c E (gatesFrom arg4 arg7 arg8 arg9 arg14 arg15 arg16 s hs xn y sp n j hj >>= κ) K
  | 0, j, hj, he, d14, d15, d16, h15, h16 => by
    unfold gatesFrom
    simp only [pure_bind]
    iintro ⟨H4, H7, H8, H9, H14, H15, H16, Hk⟩
    iapply Hk $$ %d15 %d16
    isplitr
    · ipureintro; rw [Nat.add_zero] at he; subst he; exact ⟨h15, h16⟩
    isplitl [H4]
    · iexact H4
    isplitl [H7]
    · iexact H7
    isplitl [H8]
    · iexact H8
    isplitl [H9]
    · iexact H9
    isplitl [H14]
    · iexact H14
    isplitl [H15]
    · iexact H15
    iexact H16
  | n + 1, j, hj, he, d14, d15, d16, h15, h16 => by
    unfold gatesFrom gateStep
    simp only [bind_assoc]
    unfold gatesPut
    iintro ⟨H4, H7, H8, H9, H14, H15, H16, Hk⟩
    iapply (wp_ld c arg7 harg7 x7); isplitl [H7]; · iexact H7
    iintro H7
    have key : ∀ d14' : Vec F S2x536x2816 .f32, iprop(owns (c : Thread nD τ) arg4 fullShare x4 ∗ owns (c : Thread nD τ) arg7 fullShare x7 ∗ owns (c : Thread nD τ) arg8 fullShare x8 ∗ owns (c : Thread nD τ) arg9 fullShare x9 ∗ owns (c : Thread nD τ) arg14 fullShare d14' ∗ owns (c : Thread nD τ) arg15 fullShare d15 ∗ owns (c : Thread nD τ) arg16 fullShare d16
          ∗ (∀ d15' : Vec F S512x1408 .f32, ∀ d16' : Vec F S512x1408 .f32,
            iprop(⌜(∀ (r : Fin 512) (l : Fin 1408), l.val < 128 * e → d15' (ix2 r l) = decayAll (truncf .bf16 y bitsLt_bf16_f32) sp x7 x8 (ix2 r l))
                ∧ (∀ (r : Fin 512) (l : Fin 1408), l.val < 128 * e → d16' (ix2 r l) = driveAll y sp x7 x8 x9 (ix2 r l))⌝
              ∗ owns (c : Thread nD τ) arg4 fullShare x4 ∗ owns (c : Thread nD τ) arg7 fullShare x7 ∗ owns (c : Thread nD τ) arg8 fullShare x8 ∗ owns (c : Thread nD τ) arg9 fullShare x9 ∗ owns (c : Thread nD τ) arg14 fullShare (gatesPut s xn x4 n (j + 1) (by omega) d14') ∗ owns (c : Thread nD τ) arg15 fullShare d15' ∗ owns (c : Thread nD τ) arg16 fullShare d16')
            -∗ W c E (κ ⟨⟩) K))
        ⊢ W c E (gateRest arg8 arg9 arg15 arg16 j (by omega) (truncf .bf16 y bitsLt_bf16_f32) y sp (VecWindow.window x7 ![j, 0, 0] S1x384x256.size (inb_band j (by omega)))
            >>= fun _ => gatesFrom arg4 arg7 arg8 arg9 arg14 arg15 arg16 s hs xn y sp n (j + 1) (by omega) >>= κ) K := by
      intro d14'
      iintro ⟨H4, H7, H8, H9, H14, H15, H16, Hk⟩
      iapply (gateRest_wp c arg8 harg8 arg9 harg9 arg15 harg15 arg16 harg16 j _ y sp x7 x8 x9 d15 d16 h15 h16)
      isplitl [H8]; · iexact H8
      isplitl [H9]; · iexact H9
      isplitl [H15]; · iexact H15
      isplitl [H16]; · iexact H16
      iintro %e15 %e16 ⟨%hee, H8, H9, H15, H16⟩
      iapply (gatesFrom_wp s hs xn x4 y sp x7 x8 x9 κ E K e n (j + 1) _ (by omega) d14' e15 e16 hee.1 hee.2)
      isplitl [H4]; · iexact H4
      isplitl [H7]; · iexact H7
      isplitl [H8]; · iexact H8
      isplitl [H9]; · iexact H9
      isplitl [H14]; · iexact H14
      isplitl [H15]; · iexact H15
      isplitl [H16]; · iexact H16
      iexact Hk
    generalize inside ⟨j, by omega⟩ = p
    cases p with
    | none =>
      iapply (key d14)
      isplitl [H4]; · iexact H4
      isplitl [H7]; · iexact H7
      isplitl [H8]; · iexact H8
      isplitl [H9]; · iexact H9
      isplitl [H14]; · iexact H14
      isplitl [H15]; · iexact H15
      isplitl [H16]; · iexact H16
      iexact Hk
    | some p =>
      simp only [bind_assoc]
      iapply (projStep_wp c arg4 harg4 arg14 harg14 s hs p.val p.isLt xn x4 d14)
      isplitl [H4]; · iexact H4
      isplitl [H14]; · iexact H14
      iintro ⟨H4, H14⟩
      iapply (key (projPut s p.val p.isLt xn x4 d14))
      isplitl [H4]; · iexact H4
      isplitl [H7]; · iexact H7
      isplitl [H8]; · iexact H8
      isplitl [H9]; · iexact H9
      isplitl [H14]; · iexact H14
      isplitl [H15]; · iexact H15
      isplitl [H16]; · iexact H16
      iexact Hk
end

/-- The scan from row block `t` on. -/
theorem scanFrom_wp (c : Dev nD) (arg15 : Memref sig .tc .vmem S512x1408 .f32) (harg15 : arg15.IsWhole) (arg16 : Memref sig .tc .vmem S512x1408 .f32) (harg16 : arg16.IsWhole)
    (a u : Vec F S512x1408 .f32) (h0 : FVec F S8x1408 .f32) {α : Type} (κ : FVec F S8x1408 .f32 → Pr F α) (E : Set ℕ) (K : α → sProp 𝕄) (e : ℕ) :
    ∀ (n t : ℕ) (ht : t + n ≤ 64) (he : t + n = e),
    iprop(owns (c : Thread nD τ) arg15 fullShare a ∗ owns (c : Thread nD τ) arg16 fullShare (scanned a u h0 t)
        ∗ (iprop(owns (c : Thread nD τ) arg15 fullShare a ∗ owns (c : Thread nD τ) arg16 fullShare (scanned a u h0 e)) -∗ W c E (κ (stateAt a u h0 e)) K))
      ⊢ W c E (scanFrom arg15 arg16 n t ht (stateAt a u h0 t) >>= κ) K
  | 0, t, ht, he => by
    rw [Nat.add_zero] at he; subst he
    unfold scanFrom
    simp only [pure_bind]
    iintro ⟨H15, H16, Hk⟩
    iapply Hk
    isplitl [H15]
    · iexact H15
    iexact H16
  | n + 1, t, ht, he => by
    unfold scanFrom scanStep
    simp only [bind_assoc, pure_bind]
    iintro ⟨H15, H16, Hk⟩
    iapply (wp_ld c arg15 harg15 a); isplitl [H15]; · iexact H15
    iintro H15
    iapply (wp_ld c arg16 harg16 (scanned a u h0 t)); isplitl [H16]; · iexact H16
    iintro H16
    iapply (wp_ld c arg16 harg16 (scanned a u h0 t)); isplitl [H16]; · iexact H16
    iintro H16
    iapply (wp_st c arg16 harg16 (scanned a u h0 t)); isplitl [H16]; · iexact H16
    iintro H16
    have e1 : advance (VecWindow.window a ![8 * t, 0] S8x1408.size (inb_rows t (by omega))) (stateAt a u h0 t)
        (VecWindow.window (scanned a u h0 t) ![8 * t, 0] S8x1408.size (inb_rows t (by omega))) = stateAt a u h0 (t + 1) := by
      rw [rowsAt_eq a t (by omega), rowsAt_eq _ t (by omega), rowsAt_scanned a u h0 t (by omega)]; rfl
    have e2 : VecWindow.put (scanned a u h0 t) ![8 * t, 0] ![8, 1408] (shapeCast S8x1408 (stateAt a u h0 (t + 1)) shapeCasts_S8x1408_S8x1408) = scanned a u h0 (t + 1) :=
      scanned_succ a u h0 t (by omega) _ (shapeCast_id _ _)
    rw [e1]
    rw [e2]
    iapply (scanFrom_wp c arg15 harg15 arg16 harg16 a u h0 κ E K e n (t + 1) _ (by omega))
    isplitl [H15]; · iexact H15
    isplitl [H16]; · iexact H16
    iexact Hk

end Cert.KernelIdeal.Hand

end
-- ==== Proof.LruWholeIdeal.lean ====
/-
  The run of a whole tile: what a slot of the scratch holds, what a tile's output and state are as functions of it, and
  that the tile's program leaves them.
-/
module

public import proofs.«01_k».proof.Proof.LruTileIdeal
public import Idealize.ShloMosaic.Lib.VecWindow
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A slot's contents -/

/-- The chunks `L` of a projection stored into slot `s`, in order. -/
def puts (s : ℕ) (xn : FVec F S512x1024 .bf16) (x4 : Vec F S1024x2816 .bf16) : List (Fin 11) → Vec F S2x536x2816 .f32 → Vec F S2x536x2816 .f32
  | [], d => d
  | p :: L, d => puts s xn x4 L (projPut s p.val p.isLt xn x4 d)

theorem puts_out (s : ℕ) (xn : FVec F S512x1024 .bf16) (x4 : Vec F S1024x2816 .bf16) (b : Fin 2) (r : Fin 536) (l : Fin 2816)
    (h : b.val ≠ s ∨ r.val < 24) : ∀ (L : List (Fin 11)) (d : Vec F S2x536x2816 .f32), puts s xn x4 L d (ix3 b r l) = d (ix3 b r l)
  | [], d => rfl
  | p :: L, d => (puts_out s xn x4 b r l h L _).trans (projPut_out s p.val p.isLt xn x4 d b r l (by tauto))

theorem puts_keep (s : ℕ) (hs : s < 2) (xn : FVec F S512x1024 .bf16) (x4 : Vec F S1024x2816 .bf16) (r : Fin 512) (l : Fin 2816) :
    ∀ (L : List (Fin 11)) (d : Vec F S2x536x2816 .f32) (h : d (ix3 ⟨s, hs⟩ ⟨24 + r.val, by omega⟩ l) = projAll xn x4 r l),
      puts s xn x4 L d (ix3 ⟨s, hs⟩ ⟨24 + r.val, by omega⟩ l) = projAll xn x4 r l
  | [], d, h => h
  | p :: L, d, h => puts_keep s hs xn x4 r l L _ (by
      by_cases e : l.val / 256 = p.val
      · exact projPut_in s p.val p.isLt hs xn x4 d r l e
      · exact (projPut_out s p.val p.isLt xn x4 d _ _ _ (Or.inr (Or.inr e))).trans h)

theorem puts_in (s : ℕ) (hs : s < 2) (xn : FVec F S512x1024 .bf16) (x4 : Vec F S1024x2816 .bf16) (r : Fin 512) (l : Fin 2816) :
    ∀ (L : List (Fin 11)) (d : Vec F S2x536x2816 .f32) (h : ∃ p ∈ L, l.val / 256 = p.val),
      puts s xn x4 L d (ix3 ⟨s, hs⟩ ⟨24 + r.val, by omega⟩ l) = projAll xn x4 r l
  | [], d, h => by obtain ⟨p, hp, -⟩ := h; cases hp
  | p :: L, d, h => by
      by_cases e : l.val / 256 = p.val
      · exact puts_keep s hs xn x4 r l L _ (projPut_in s p.val p.isLt hs xn x4 d r l e)
      · refine puts_in s hs xn x4 r l L _ ?_
        obtain ⟨p', hp', e'⟩ := h
        rcases List.mem_cons.1 hp' with rfl | hp'
        · exact absurd e' e
        · exact ⟨p', hp', e'⟩

theorem puts_append (s : ℕ) (xn : FVec F S512x1024 .bf16) (x4 : Vec F S1024x2816 .bf16) (d : Vec F S2x536x2816 .f32) :
    projPut s 10 (by decide) xn x4 (gatesPut s xn x4 11 0 (by decide) d) = puts s xn x4 [2, 3, 4, 5, 6, 7, 8, 9, 10] d := rfl

/-- Slot `s` holds a tile: the recurrence's half with its halo, and the gate's half. -/
def SlotIs (s : ℕ) (hs : s < 2) (d : Vec F S2x536x2816 .f32) (R : Fin 536 → Fin 1408 → F .f32) (G : Fin 512 → Fin 1408 → F .f32) : Prop :=
  (∀ r l, d (ix3 ⟨s, hs⟩ r ⟨1408 + l.val, by omega⟩) = R r l) ∧ ∀ r l, d (ix3 ⟨s, hs⟩ ⟨24 + r.val, by omega⟩ ⟨l.val, by omega⟩) = G r l

/-- The last rows of a tile's recurrence half, stored as the halo of the next. -/
def tailOf (R : Fin 536 → Fin 1408 → F .f32) : FVec F S1x24x1408 .f32 := fun i => R ⟨(512 + (i 1).val) % 536, Nat.mod_lt _ (by decide)⟩ (i 2)

/-- A tile's recurrence half under a halo `w`. -/
def recOf (w : FVec F S1x24x1408 .f32) (xn : FVec F S512x1024 .bf16) (x4 : Vec F S1024x2816 .bf16) (r : Fin 536) (l : Fin 1408) : F .f32 :=
  if h : r.val < 24 then w (ix3 0 ⟨r.val, h⟩ l) else projAll xn x4 ⟨r.val - 24, by omega⟩ ⟨1408 + l.val, by omega⟩

/-- A tile's gate half. -/
def gateOf (xn : FVec F S512x1024 .bf16) (x4 : Vec F S1024x2816 .bf16) (r : Fin 512) (l : Fin 1408) : F .f32 :=
  projAll xn x4 r ⟨l.val, by omega⟩

/-- What the stores of a tile leave in its slot. -/
theorem slotIs_stored (s : ℕ) (hs : s < 2) (w : FVec F S1x24x1408 .f32) (xn : FVec F S512x1024 .bf16) (x4 : Vec F S1024x2816 .bf16) (d : Vec F S2x536x2816 .f32)
    (L M : List (Fin 11)) (hc : ∀ j : ℕ, j < 11 → (∃ p ∈ L, j = p.val) ∨ ∃ p ∈ M, j = p.val) :
    SlotIs s hs (puts s xn x4 M (haloPut s w (puts s xn x4 L d))) (recOf w xn x4) (gateOf xn x4) := by
  have hp : ∀ (r : Fin 512) (l : Fin 2816), puts s xn x4 M (haloPut s w (puts s xn x4 L d)) (ix3 ⟨s, hs⟩ ⟨24 + r.val, by omega⟩ l) = projAll xn x4 r l := by
    intro r l
    rcases hc (l.val / 256) (by omega) with h | h
    · refine puts_keep s hs xn x4 r l M _ ?_
      refine (haloPut_out s w _ _ _ _ (Or.inr (by show 24 ≤ 24 + r.val; omega))).trans ?_
      exact puts_in s hs xn x4 r l L d h
    · exact puts_in s hs xn x4 r l M _ h
  refine ⟨fun r l => ?_, fun r l => hp r _⟩
  unfold recOf
  split
  · rename_i h
    exact (puts_out s xn x4 _ _ _ (Or.inr h) M _).trans (haloPut_in s hs w _ ⟨r.val, h⟩ l)
  · rename_i h
    refine Eq.trans ?_ (hp ⟨r.val - 24, by omega⟩ ⟨1408 + l.val, by omega⟩)
    refine congrArg (fun r' : Fin 536 => puts s xn x4 M (haloPut s w (puts s xn x4 L d)) (ix3 ⟨s, hs⟩ r' ⟨1408 + l.val, by omega⟩)) (Fin.ext ?_)
    show r.val = 24 + (r.val - 24); omega

/-- The other slot is untouched by them. -/
theorem other_slot (s q : ℕ) (hq : q < 2) (hne : q ≠ s) (w : FVec F S1x24x1408 .f32) (xn : FVec F S512x1024 .bf16) (x4 : Vec F S1024x2816 .bf16) (d : Vec F S2x536x2816 .f32)
    (L M : List (Fin 11)) (r : Fin 536) (l : Fin 2816) :
    puts s xn x4 M (haloPut s w (puts s xn x4 L d)) (ix3 ⟨q, hq⟩ r l) = d (ix3 ⟨q, hq⟩ r l) :=
  (puts_out s xn x4 _ _ _ (Or.inl hne) M _).trans ((haloPut_out s w _ _ _ _ (Or.inl hne)).trans (puts_out s xn x4 _ _ _ (Or.inl hne) L d))

/-! ## A tile's values -/

/-- Tap `k` of the convolution. -/
def tapOf (R : Fin 536 → Fin 1408 → F .f32) (k : ℕ) : Vec F S1x512x1408 .f32 := fun i => R ⟨(8 * k + (i 1).val) % 536, Nat.mod_lt _ (by decide)⟩ (i 2)

/-- The gate half as the program reads it. -/
def gateVec (G : Fin 512 → Fin 1408 → F .f32) : Vec F S1x512x1408 .f32 := fun i => G (i 1) (i 2)

theorem window_tap (q : ℕ) (hq : q < 2) (d : Vec F S2x536x2816 .f32) (R : Fin 536 → Fin 1408 → F .f32) (k : ℕ) (hk : k < 4)
    (hR : ∀ r (l : Fin 1408), d (ix3 ⟨q, hq⟩ r ⟨1408 + l.val, by omega⟩) = R r l) :
    VecWindow.window d ![q, 8 * k, 1408] S1x512x1408.size (inb_tap q k hq hk) = tapOf R k := by
  funext z
  have h0 : (z 0).val < 1 := (z 0).isLt
  have h1 : (z 1).val < 512 := (z 1).isLt
  have h2 : (z 2).val < 1408 := (z 2).isLt
  refine Eq.trans (window_at d ![q, 8 * k, 1408] S1x512x1408.size (inb_tap q k hq hk) z
    (ix3 ⟨q, hq⟩ ⟨(8 * k + (z 1).val) % 536, Nat.mod_lt _ (by decide)⟩ ⟨1408 + (z 2).val, by omega⟩) fun a => ?_) (hR _ (z 2))
  fin_cases a
  · show q = q + (z 0).val; omega
  · show (8 * k + (z 1).val) % 536 = 8 * k + (z 1).val; omega
  · rfl

theorem window_tail (q : ℕ) (hq : q < 2) (d : Vec F S2x536x2816 .f32) (R : Fin 536 → Fin 1408 → F .f32)
    (hR : ∀ r (l : Fin 1408), d (ix3 ⟨q, hq⟩ r ⟨1408 + l.val, by omega⟩) = R r l) :
    VecWindow.window d ![q, 512, 1408] S1x24x1408.size (inb_tail q hq) = tailOf R := by
  funext z
  have h0 : (z 0).val < 1 := (z 0).isLt
  have h1 : (z 1).val < 24 := (z 1).isLt
  have h2 : (z 2).val < 1408 := (z 2).isLt
  refine Eq.trans (window_at d ![q, 512, 1408] S1x24x1408.size (inb_tail q hq) z
    (ix3 ⟨q, hq⟩ ⟨(512 + (z 1).val) % 536, Nat.mod_lt _ (by decide)⟩ ⟨1408 + (z 2).val, by omega⟩) fun a => ?_) (hR _ (z 2))
  fin_cases a
  · show q = q + (z 0).val; omega
  · show (512 + (z 1).val) % 536 = 512 + (z 1).val; omega
  · rfl

theorem window_gate (q : ℕ) (hq : q < 2) (d : Vec F S2x536x2816 .f32) (G : Fin 512 → Fin 1408 → F .f32)
    (hG : ∀ (r : Fin 512) (l : Fin 1408), d (ix3 ⟨q, hq⟩ ⟨24 + r.val, by omega⟩ ⟨l.val, by omega⟩) = G r l) :
    VecWindow.window d ![q, 24, 0] S1x512x1408.size (inb_gate q hq) = gateVec G := by
  funext z
  have h0 : (z 0).val < 1 := (z 0).isLt
  have h1 : (z 1).val < 512 := (z 1).isLt
  have h2 : (z 2).val < 1408 := (z 2).isLt
  refine Eq.trans (window_at d ![q, 24, 0] S1x512x1408.size (inb_gate q hq) z
    (ix3 ⟨q, hq⟩ ⟨24 + (z 1).val, by omega⟩ ⟨(z 2).val, by omega⟩) fun a => ?_) (hG (z 1) (z 2))
  fin_cases a
  · show q = q + (z 0).val; omega
  · rfl
  · show (z 2).val = 0 + (z 2).val; omega

/-- The convolution of a tile. -/
def yOf (R : Fin 536 → Fin 1408 → F .f32) (x5 : Vec F S4x1408 .f32) (x6 : Vec F S1x1408 .f32) : FVec F S512x1408 .f32 :=
  convVal x6 (VecWindow.window x5 ![0, 0] S1x1408.size (inb_wrow 0 (by decide))) (VecWindow.window x5 ![1, 0] S1x1408.size (inb_wrow 1 (by decide)))
    (VecWindow.window x5 ![2, 0] S1x1408.size (inb_wrow 2 (by decide))) (VecWindow.window x5 ![3, 0] S1x1408.size (inb_wrow 3 (by decide)))
    (tapOf R 0) (tapOf R 1) (tapOf R 2) (tapOf R 3)

/-- The decay rates. -/
def rateOf (x10 : Vec F S1x1408 .f32) : FVec F S1x1408 .f32 := k0_pay28 (k0_pay27 x10) (Scalar.ofBits .f32 0x00000000#32 : F .f32)

/-- A tile's decays. -/
def aOf (R : Fin 536 → Fin 1408 → F .f32) (x5 : Vec F S4x1408 .f32) (x6 : Vec F S1x1408 .f32) (x7 : Vec F S11x384x256 .bf16) (x8 x10 : Vec F S1x1408 .f32) : Vec F S512x1408 .f32 :=
  decayAll (truncf .bf16 (yOf R x5 x6) bitsLt_bf16_f32) (rateOf x10) x7 x8

/-- A tile's drives. -/
def uOf (R : Fin 536 → Fin 1408 → F .f32) (x5 : Vec F S4x1408 .f32) (x6 : Vec F S1x1408 .f32) (x7 : Vec F S11x384x256 .bf16) (x8 x9 x10 : Vec F S1x1408 .f32) : Vec F S512x1408 .f32 :=
  driveAll (yOf R x5 x6) (rateOf x10) x7 x8 x9

/-- The state after a tile. -/
def hOf (R : Fin 536 → Fin 1408 → F .f32) (h0 : FVec F S8x1408 .f32) (x5 : Vec F S4x1408 .f32) (x6 : Vec F S1x1408 .f32) (x7 : Vec F S11x384x256 .bf16) (x8 x9 x10 : Vec F S1x1408 .f32) : FVec F S8x1408 .f32 :=
  stateAt (aOf R x5 x6 x7 x8 x10) (uOf R x5 x6 x7 x8 x9 x10) h0 64

/-- A tile's output. -/
def outOf (R : Fin 536 → Fin 1408 → F .f32) (G : Fin 512 → Fin 1408 → F .f32) (h0 : FVec F S8x1408 .f32) (x2 : Vec F S512x1024 .f32)
    (x5 : Vec F S4x1408 .f32) (x6 : Vec F S1x1408 .f32) (x7 : Vec F S11x384x256 .bf16) (x8 x9 x10 : Vec F S1x1408 .f32) (x11 : Vec F S1408x1024 .bf16) (x12 : Vec F S1x1024 .f32) : FVec F S512x1024 .f32 :=
  outVal (gateVec G) (scanned (aOf R x5 x6 x7 x8 x10) (uOf R x5 x6 x7 x8 x9 x10) h0 64) x11 x2 x12

theorem zero2 : ∀ a : Fin 2, (![0, 0] : Fin 2 → ℕ) a = 0 := by decide

/-- A load of everything. -/
theorem wp_lda (c : Dev nD) {s : Shape} {e : EltTy} (m : Memref sig .tc .vmem s e) (hm : m.IsWhole) (x : Vec F s e)
    (off : Fin s.rank → ℕ) (h0 : ∀ a, off a = 0) (inb : ∀ a, off a + s.size a ≤ s.size a) (hl : m.view.LoadsAt (Rect.unit off s.size inb).toLoadRect)
    {α : Type} (κ : ((Rect.unit off s.size inb).toLoadRect.shape.Idx → Elt F e) → Pr F α) (E : Set ℕ) (K : α → sProp 𝕄) :
    iprop(owns (c : Thread nD τ) m fullShare x ∗ (owns (c : Thread nD τ) m fullShare x -∗ W c E (κ x) K))
      ⊢ W c E (Prog.lift (.load m (Rect.unit off s.size inb).toLoadRect hl) >>= κ) K := by
  have h := wp_ld c m hm x off s.size inb hl κ E K
  rwa [window_all x off h0 inb] at h

/-- A store of everything. -/
theorem wp_sta (c : Dev nD) {s : Shape} {e : EltTy} (m : Memref sig .tc .vmem s e) (hm : m.IsWhole) (x : Vec F s e)
    (off : Fin s.rank → ℕ) (h0 : ∀ a, off a = 0) (inb : ∀ a, off a + s.size a ≤ s.size a) (w : s.Idx → Elt F e)
    (hx : (m.access (Rect.unit off s.size inb)).Stores Finset.univ) (hmm : Finset.univ = Finset.univ ∨ _)
    {α : Type} (κ : PUnit → Pr F α) (E : Set ℕ) (K : α → sProp 𝕄) :
    iprop(owns (c : Thread nD τ) m fullShare x ∗ (owns (c : Thread nD τ) m fullShare w -∗ W c E (κ ⟨⟩) K))
      ⊢ W c E (Prog.lift (.store m (Rect.unit off s.size inb) w Finset.univ hx hmm) >>= κ) K := by
  have h := wp_st c m hm x off s.size inb w hx hmm κ E K
  rwa [put_all x off h0 w] at h

/-- The run of a tile's program: slot `q` holds the tile before, slot `s` receives this one; the output block is the tile
    before's, and the state moves past its rows. -/
theorem tile_wp (c : Dev nD) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S4x1408 .f32) (harg5 : arg5.IsWhole) (arg6 : Memref sig .tc .vmem S1x1408 .f32) (harg6 : arg6.IsWhole) (arg7 : Memref sig .tc .vmem S11x384x256 .bf16) (harg7 : arg7.IsWhole) (arg8 : Memref sig .tc .vmem S1x1408 .f32) (harg8 : arg8.IsWhole) (arg9 : Memref sig .tc .vmem S1x1408 .f32) (harg9 : arg9.IsWhole) (arg10 : Memref sig .tc .vmem S1x1408 .f32) (harg10 : arg10.IsWhole) (arg11 : Memref sig .tc .vmem S1408x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S2x536x2816 .f32) (harg14 : arg14.IsWhole) (arg15 : Memref sig .tc .vmem S512x1408 .f32) (harg15 : arg15.IsWhole) (arg16 : Memref sig .tc .vmem S512x1408 .f32) (harg16 : arg16.IsWhole) (arg17 : Memref sig .tc .vmem S8x1408 .f32) (harg17 : arg17.IsWhole)
    (s q : ℕ) (hs : s < 2) (hq : q < 2) (hne : q ≠ s) (x1 : Vec F S512x1024 .f32) (x2 : Vec F S512x1024 .f32) (x3 : Vec F S1x1024 .f32) (x4 : Vec F S1024x2816 .bf16) (x5 : Vec F S4x1408 .f32) (x6 : Vec F S1x1408 .f32) (x7 : Vec F S11x384x256 .bf16) (x8 : Vec F S1x1408 .f32) (x9 : Vec F S1x1408 .f32) (x10 : Vec F S1x1408 .f32) (x11 : Vec F S1408x1024 .bf16) (x12 : Vec F S1x1024 .f32) (d14 : Vec F S2x536x2816 .f32) (h0 : FVec F S8x1408 .f32)
    (R : Fin 536 → Fin 1408 → F .f32) (G : Fin 512 → Fin 1408 → F .f32) (hd : SlotIs q hq d14 R G)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ owns (c : Thread nD τ) arg14 fullShare d14 ∗ (∃ d, owns (c : Thread nD τ) arg15 fullShare d) ∗ (∃ d, owns (c : Thread nD τ) arg16 fullShare d) ∗ owns (c : Thread nD τ) arg17 fullShare h0
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (outOf R G h0 x2 x5 x6 x7 x8 x9 x10 x11 x12) ∗ (∃ d, iprop(⌜SlotIs s hs d (recOf (k0_pay25 (tailOf R)) (k0_pay19 x1 x3) x4) (gateOf (k0_pay19 x1 x3) x4)⌝ ∗ owns (c : Thread nD τ) arg14 fullShare d)) ∗ (∃ d, owns (c : Thread nD τ) arg15 fullShare d) ∗ (∃ d, owns (c : Thread nD τ) arg16 fullShare d) ∗ owns (c : Thread nD τ) arg17 fullShare (hOf R h0 x5 x6 x7 x8 x9 x10)) -∗ K ⟨⟩))
      ⊢ W c E (tileProg arg1 arg2 arg3 arg4 arg5 arg6 arg7 arg8 arg9 arg10 arg11 arg12 arg13 arg14 arg15 arg16 arg17 s q hs hq) K := by
  unfold tileProg headProg
  iintro ⟨H1, H2, H3, H4, H5, H6, H7, H8, H9, H10, H11, H12, ⟨%d13, H13⟩, H14, ⟨%d15, H15⟩, ⟨%d16, H16⟩, H17, Hk⟩
  iapply (wp_lda c arg1 harg1 x1 ![0, 0] zero2); isplitl [H1]; · iexact H1
  iintro H1
  iapply (wp_lda c arg3 harg3 x3 ![0, 0] zero2); isplitl [H3]; · iexact H3
  iintro H3
  iapply (projStep_wp c arg4 harg4 arg14 harg14 s hs 0 _ (k0_pay19 x1 x3) x4 d14)
  isplitl [H4]; · iexact H4
  isplitl [H14]; · iexact H14
  iintro ⟨H4, H14⟩
  iapply (projStep_wp c arg4 harg4 arg14 harg14 s hs 1 _ (k0_pay19 x1 x3) x4 (projPut s 0 (by decide) (k0_pay19 x1 x3) x4 d14))
  isplitl [H4]; · iexact H4
  isplitl [H14]; · iexact H14
  iintro ⟨H4, H14⟩
  have hR : ∀ r (l : Fin 1408), (puts s (k0_pay19 x1 x3) x4 [0, 1] d14) (ix3 ⟨q, hq⟩ r ⟨1408 + l.val, by omega⟩) = R r l :=
    fun r l => (puts_out s _ x4 _ _ _ (Or.inl hne) [0, 1] d14).trans (hd.1 r l)
  iapply (wp_lda c arg6 harg6 x6 ![0, 0] zero2); isplitl [H6]; · iexact H6
  iintro H6
  iapply (wp_ld c arg5 harg5 x5); isplitl [H5]; · iexact H5
  iintro H5
  iapply (wp_ld c arg14 harg14 (puts s (k0_pay19 x1 x3) x4 [0, 1] d14)); isplitl [H14]; · iexact H14
  iintro H14
  iapply (wp_ld c arg5 harg5 x5); isplitl [H5]; · iexact H5
  iintro H5
  iapply (wp_ld c arg14 harg14 (puts s (k0_pay19 x1 x3) x4 [0, 1] d14)); isplitl [H14]; · iexact H14
  iintro H14
  iapply (wp_ld c arg5 harg5 x5); isplitl [H5]; · iexact H5
  iintro H5
  iapply (wp_ld c arg14 harg14 (puts s (k0_pay19 x1 x3) x4 [0, 1] d14)); isplitl [H14]; · iexact H14
  iintro H14
  iapply (wp_ld c arg5 harg5 x5); isplitl [H5]; · iexact H5
  iintro H5
  iapply (wp_ld c arg14 harg14 (puts s (k0_pay19 x1 x3) x4 [0, 1] d14)); isplitl [H14]; · iexact H14
  iintro H14
  iapply (wp_ld c arg14 harg14 (puts s (k0_pay19 x1 x3) x4 [0, 1] d14)); isplitl [H14]; · iexact H14
  iintro H14
  iapply (wp_ld c arg14 harg14 (puts s (k0_pay19 x1 x3) x4 [0, 1] d14)); isplitl [H14]; · iexact H14
  iintro H14
  iapply (wp_st c arg14 harg14 (puts s (k0_pay19 x1 x3) x4 [0, 1] d14)); isplitl [H14]; · iexact H14
  iintro H14
  iapply (wp_lda c arg10 harg10 x10 ![0, 0] zero2); isplitl [H10]; · iexact H10
  iintro H10
  have t0 := window_tap q hq (puts s (k0_pay19 x1 x3) x4 [0, 1] d14) R 0 (by decide) hR
  have t1 := window_tap q hq (puts s (k0_pay19 x1 x3) x4 [0, 1] d14) R 1 (by decide) hR
  have t2 := window_tap q hq (puts s (k0_pay19 x1 x3) x4 [0, 1] d14) R 2 (by decide) hR
  have t3 := window_tap q hq (puts s (k0_pay19 x1 x3) x4 [0, 1] d14) R 3 (by decide) hR
  have t4 := window_tail q hq (puts s (k0_pay19 x1 x3) x4 [0, 1] d14) R hR
  rw [t0, t1, t2, t3, t4]
  iapply (gatesFrom_wp c arg4 harg4 arg7 harg7 arg8 harg8 arg9 harg9 arg14 harg14 arg15 harg15 arg16 harg16 s hs (k0_pay19 x1 x3) x4 (yOf R x5 x6) (rateOf x10) x7 x8 x9 _ E K 11 11 0
    (by decide) rfl (haloPut s (k0_pay25 (tailOf R)) (puts s (k0_pay19 x1 x3) x4 [0, 1] d14)) d15 d16 (fun r l h => absurd h (by omega)) (fun r l h => absurd h (by omega)))
  isplitl [H4]; · iexact H4
  isplitl [H7]; · iexact H7
  isplitl [H8]; · iexact H8
  isplitl [H9]; · iexact H9
  isplitl [H14]; · iexact H14
  isplitl [H15]; · iexact H15
  isplitl [H16]; · iexact H16
  iintro %e15 %e16 ⟨%he, H4, H7, H8, H9, H14, H15, H16⟩
  have hab : ∀ v w : Vec F S512x1408 .f32, (∀ (r : Fin 512) (l : Fin 1408), l.val < 128 * 11 → v (ix2 r l) = w (ix2 r l)) → v = w := by
    intro v w h; funext i
    have := h (i 0) (i 1) (i 1).isLt
    rwa [show ix2 (n0 := 512) (n1 := 1408) (i 0) (i 1) = i from funext fun a => by fin_cases a <;> rfl] at this
  obtain rfl := hab _ (aOf R x5 x6 x7 x8 x10) he.1
  obtain rfl := hab _ (uOf R x5 x6 x7 x8 x9 x10) he.2
  unfold restProg
  iapply (projStep_wp c arg4 harg4 arg14 harg14 s hs 10 _ (k0_pay19 x1 x3) x4 (gatesPut s (k0_pay19 x1 x3) x4 11 0 (by decide) (haloPut s (k0_pay25 (tailOf R)) (puts s (k0_pay19 x1 x3) x4 [0, 1] d14))))
  isplitl [H4]; · iexact H4
  isplitl [H14]; · iexact H14
  iintro ⟨H4, H14⟩
  rw [puts_append s (k0_pay19 x1 x3) x4 (haloPut s (k0_pay25 (tailOf R)) (puts s (k0_pay19 x1 x3) x4 [0, 1] d14))]
  iapply (wp_lda c arg17 harg17 h0 ![0, 0] zero2); isplitl [H17]; · iexact H17
  iintro H17
  have es : uOf R x5 x6 x7 x8 x9 x10 = scanned (aOf R x5 x6 x7 x8 x10) (uOf R x5 x6 x7 x8 x9 x10) h0 0 := funext fun i => (if_neg (Nat.not_lt_zero _)).symm
  rw [es]
  iapply (scanFrom_wp c arg15 harg15 arg16 harg16 (aOf R x5 x6 x7 x8 x10) (uOf R x5 x6 x7 x8 x9 x10) h0 _ E K 64 64 0 (by decide) rfl)
  isplitl [H15]; · iexact H15
  isplitl [H16]; · iexact H16
  iintro ⟨H15, H16⟩
  unfold tailProg
  iapply (wp_lda c arg17 harg17 h0 ![0, 0] zero2); isplitl [H17]; · iexact H17
  iintro H17
  iapply (wp_sta c arg17 harg17 h0 ![0, 0] zero2); isplitl [H17]; · iexact H17
  iintro H17
  iapply (wp_ld c arg14 harg14 (puts s (k0_pay19 x1 x3) x4 [2, 3, 4, 5, 6, 7, 8, 9, 10] (haloPut s (k0_pay25 (tailOf R)) (puts s (k0_pay19 x1 x3) x4 [0, 1] d14)))); isplitl [H14]; · iexact H14
  iintro H14
  iapply (wp_lda c arg16 harg16 (scanned (aOf R x5 x6 x7 x8 x10) (uOf R x5 x6 x7 x8 x9 x10) h0 64) ![0, 0] zero2); isplitl [H16]; · iexact H16
  iintro H16
  iapply (wp_lda c arg11 harg11 x11 ![0, 0] zero2); isplitl [H11]; · iexact H11
  iintro H11
  iapply (wp_lda c arg2 harg2 x2 ![0, 0] zero2); isplitl [H2]; · iexact H2
  iintro H2
  iapply (wp_lda c arg12 harg12 x12 ![0, 0] zero2); isplitl [H12]; · iexact H12
  iintro H12
  iapply (wp_ld c arg13 harg13 d13); isplitl [H13]; · iexact H13
  iintro H13
  iapply (wp_sta c arg13 harg13 d13 ![0, 0] zero2); isplitl [H13]; · iexact H13
  iintro H13
  have t5 := window_gate q hq (puts s (k0_pay19 x1 x3) x4 [2, 3, 4, 5, 6, 7, 8, 9, 10] (haloPut s (k0_pay25 (tailOf R)) (puts s (k0_pay19 x1 x3) x4 [0, 1] d14))) G (fun r l => (other_slot s q hq hne _ _ x4 d14 [0, 1] _ _ _).trans (hd.2 r l))
  rw [t5, shapeCast_id]
  unfold W; rw [wp_pure]; imodintro
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexists _; isplitr; swap; · iexact H14
    ipureintro; exact slotIs_stored s hs _ _ x4 d14 [0, 1] [2, 3, 4, 5, 6, 7, 8, 9, 10] (by decide)
  isplitl [H15]
  · iexists _; iexact H15
  isplitl [H16]
  · iexists _; iexact H16
  iexact H17

/-- The projections of the first tile. -/
theorem firstFrom_wp (c : Dev nD) (arg4 : Memref sig .tc .vmem S1024x2816 .bf16) (harg4 : arg4.IsWhole) (arg14 : Memref sig .tc .vmem S2x536x2816 .f32) (harg14 : arg14.IsWhole) (xn : FVec F S512x1024 .bf16) (x4 : Vec F S1024x2816 .bf16)
    {α : Type} (κ : PUnit → Pr F α) (E : Set ℕ) (K : α → sProp 𝕄) :
    ∀ (n j : ℕ) (hj : j + n ≤ 11) (d14 : Vec F S2x536x2816 .f32) (L : List (Fin 11)) (hL : L = (List.finRange 11).drop j) (hn : j + n = 11),
    iprop(owns (c : Thread nD τ) arg4 fullShare x4 ∗ owns (c : Thread nD τ) arg14 fullShare d14 ∗ (iprop(owns (c : Thread nD τ) arg4 fullShare x4 ∗ owns (c : Thread nD τ) arg14 fullShare (puts 0 xn x4 L d14)) -∗ W c E (κ ⟨⟩) K))
      ⊢ W c E (firstFrom arg4 arg14 xn n j hj >>= κ) K
  | 0, j, hj, d14, L, hL, hn => by
    have hL' : L = [] := by rw [hL]; apply List.drop_of_length_le; simp; omega
    subst hL'
    unfold firstFrom
    simp only [pure_bind]
    iintro ⟨H4, H14, Hk⟩
    iapply Hk
    isplitl [H4]
    · iexact H4
    iexact H14
  | n + 1, j, hj, d14, L, hL, hn => by
    have hL' : L = (⟨j, by omega⟩ : Fin 11) :: (List.finRange 11).drop (j + 1) := by
      rw [hL, List.drop_eq_getElem_cons (by simp; omega)]; simp
    subst hL'
    unfold firstFrom
    simp only [bind_assoc]
    iintro ⟨H4, H14, Hk⟩
    iapply (projStep_wp c arg4 harg4 arg14 harg14 0 _ j _ xn x4 d14)
    isplitl [H4]; · iexact H4
    isplitl [H14]; · iexact H14
    iintro ⟨H4, H14⟩
    iapply (firstFrom_wp c arg4 harg4 arg14 harg14 xn x4 κ E K n (j + 1) _ (projPut 0 j (by omega) xn x4 d14) _ rfl (by omega))
    isplitl [H4]; · iexact H4
    isplitl [H14]; · iexact H14
    iexact Hk

/-- The run of the first grid point's program: slot 0 receives the first tile under an empty halo, the state is cleared. -/
theorem first_wp (c : Dev nD) (arg1 : Memref sig .tc .vmem S512x1024 .f32) (harg1 : arg1.IsWhole) (arg3 : Memref sig .tc .vmem S1x1024 .f32) (harg3 : arg3.IsWhole) (arg4 : Memref sig .tc .vmem S1024x2816 .bf16) (harg4 : arg4.IsWhole) (arg14 : Memref sig .tc .vmem S2x536x2816 .f32) (harg14 : arg14.IsWhole) (arg17 : Memref sig .tc .vmem S8x1408 .f32) (harg17 : arg17.IsWhole)
    (x1 : Vec F S512x1024 .f32) (x3 : Vec F S1x1024 .f32) (x4 : Vec F S1024x2816 .bf16) (d14 : Vec F S2x536x2816 .f32)
    (E : Set ℕ) (K : PUnit → sProp 𝕄) :
    iprop(owns (c : Thread nD τ) arg1 fullShare x1 ∗ owns (c : Thread nD τ) arg3 fullShare x3 ∗ owns (c : Thread nD τ) arg4 fullShare x4 ∗ owns (c : Thread nD τ) arg14 fullShare d14 ∗ (∃ d, owns (c : Thread nD τ) arg17 fullShare d)
        ∗ (iprop(owns (c : Thread nD τ) arg1 fullShare x1 ∗ owns (c : Thread nD τ) arg3 fullShare x3 ∗ owns (c : Thread nD τ) arg4 fullShare x4 ∗ (∃ d, iprop(⌜SlotIs 0 (by decide) d (recOf k0_pay4 (k0_pay19 x1 x3) x4) (gateOf (k0_pay19 x1 x3) x4)⌝ ∗ owns (c : Thread nD τ) arg14 fullShare d)) ∗ owns (c : Thread nD τ) arg17 fullShare k0_pay5) -∗ K ⟨⟩))
      ⊢ W c E (firstProg arg1 arg3 arg4 arg14 arg17) K := by
  unfold firstProg
  iintro ⟨H1, H3, H4, H14, ⟨%d17, H17⟩, Hk⟩
  iapply (wp_ld c arg14 harg14 d14); isplitl [H14]; · iexact H14
  iintro H14
  iapply (wp_st c arg14 harg14 d14); isplitl [H14]; · iexact H14
  iintro H14
  iapply (wp_ld c arg17 harg17 d17); isplitl [H17]; · iexact H17
  iintro H17
  iapply (wp_sta c arg17 harg17 d17 ![0, 0] zero2); isplitl [H17]; · iexact H17
  iintro H17
  iapply (wp_lda c arg1 harg1 x1 ![0, 0] zero2); isplitl [H1]; · iexact H1
  iintro H1
  iapply (wp_lda c arg3 harg3 x3 ![0, 0] zero2); isplitl [H3]; · iexact H3
  iintro H3
  iapply (firstFrom_wp c arg4 harg4 arg14 harg14 (k0_pay19 x1 x3) x4 _ E K 11 0 _ (haloPut 0 k0_pay4 d14) (List.finRange 11) rfl rfl)
  isplitl [H4]; · iexact H4
  isplitl [H14]; · iexact H14
  iintro ⟨H4, H14⟩
  unfold W; rw [wp_pure]; imodintro
  iapply Hk
  isplitl [H1]
  · iexact H1
  isplitl [H3]
  · iexact H3
  isplitl [H4]
  · iexact H4
  isplitl [H14]
  · iexists _; isplitr; swap; · iexact H14
    ipureintro; exact slotIs_stored 0 (by decide) _ _ x4 d14 [] (List.finRange 11) (fun j hj => Or.inr ⟨⟨j, hj⟩, List.mem_finRange _, rfl⟩)
  iexact H17

end Cert.KernelIdeal.Hand

end
-- ==== Proof.LruSameIdeal.lean ====
/-
  The printed body of the recurrent block is the short programs, one in each of its three branches.
-/
module

public import proofs.«01_k».proof.Proof.LruProgIdeal
public import Idealize.ShloMosaic.Lib.Tactic

@[expose] public section

set_option maxRecDepth 65536

noncomputable section

namespace Cert.KernelIdeal.Hand

open Cert.KernelIdeal Cert.KernelIdeal.Gen
open Idealize.ShloMosaic Idealize.ShloMosaic.TcCoe
open Idealize.SL.Sem

variable {F : FTy → Type} [FloatOps F]

/-- A program run under a condition, before the rest. -/
def branch (q : Prop) [Decidable q] (x r : Pr F PUnit) : Pr F PUnit := if q then x >>= fun _ => r else r

/-- The printed body is its three branches in a row. -/
theorem body_eq (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S4x1408 .f32) (harg5 : arg5.IsWhole) (arg6 : Memref sig .tc .vmem S1x1408 .f32) (harg6 : arg6.IsWhole) (arg7 : Memref sig .tc .vmem S11x384x256 .bf16) (harg7 : arg7.IsWhole) (arg8 : Memref sig .tc .vmem S1x1408 .f32) (harg8 : arg8.IsWhole) (arg9 : Memref sig .tc .vmem S1x1408 .f32) (harg9 : arg9.IsWhole) (arg10 : Memref sig .tc .vmem S1x1408 .f32) (harg10 : arg10.IsWhole) (arg11 : Memref sig .tc .vmem S1408x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S2x536x2816 .f32) (harg14 : arg14.IsWhole) (arg15 : Memref sig .tc .vmem S512x1408 .f32) (harg15 : arg15.IsWhole) (arg16 : Memref sig .tc .vmem S512x1408 .f32) (harg16 : arg16.IsWhole) (arg17 : Memref sig .tc .vmem S8x1408 .f32) (harg17 : arg17.IsWhole) :
    cc0_rglru (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      = branch (Scalar.cmpi .ne (Scalar.extui (Scalar.cmpi .eq (BitVec.ofNat 32 (i 0).val) 0#32)) 0#32 = 1#1) (firstProg arg1 arg3 arg4 arg14 arg17)
          (branch (k0_cond2 i = 1#1) (tileProg arg1 arg2 arg3 arg4 arg5 arg6 arg7 arg8 arg9 arg10 arg11 arg12 arg13 arg14 arg15 arg16 arg17 0 1 (by decide) (by decide))
            (branch (k0_cond3 i = 1#1) (tileProg arg1 arg2 arg3 arg4 arg5 arg6 arg7 arg8 arg9 arg10 arg11 arg12 arg13 arg14 arg15 arg16 arg17 1 0 (by decide) (by decide)) (pure ⟨⟩))) := by
  sl_kernel_rfl

end Cert.KernelIdeal.Hand

end
-- ==== Proof.LruFrameIdeal.lean ====
/-
  The recurrent block's run: what the pipeline's buffers hold from point to point, and the frame.  Before a point
  other than the first, one slot of the scratch holds the projection of the last tile, under the halo of the tile before
  it, and the state is the recurrence's after every tile before that one.  The output block of a point is that last
  tile's.
-/
module

public import proofs.«01_k».proof.Proof.LruWholeIdeal
public import proofs.«01_k».proof.Proof.LruSameIdeal
public import proofs.«01_k».proof.Proof.Gen.KernelIdeal.Frame
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The first branch is taken at point 0. -/
theorem hcond1 : ∀ t : Fin cfg0.N, Scalar.cmpi .ne (Scalar.extui (Scalar.cmpi .eq (BitVec.ofNat 32 (grid0.coords t 0).val) 0#32)) 0#32 = 1#1 ↔ t.val = 0 :=
  (by decide +kernel : ∀ t : Fin grid0.N, Scalar.cmpi .ne (Scalar.extui (Scalar.cmpi .eq (BitVec.ofNat 32 (grid0.coords t 0).val) 0#32)) 0#32 = 1#1 ↔ t.val = 0)
/-- The second branch is taken at the even points after it. -/
theorem hcond2 : ∀ t : Fin cfg0.N, k0_cond2 (grid0.coords t) = 1#1 ↔ (t.val ≠ 0 ∧ t.val % 2 = 0) :=
  (by decide +kernel : ∀ t : Fin grid0.N, k0_cond2 (grid0.coords t) = 1#1 ↔ (t.val ≠ 0 ∧ t.val % 2 = 0))
/-- The third branch is taken at the odd points. -/
theorem hcond3 : ∀ t : Fin cfg0.N, k0_cond3 (grid0.coords t) = 1#1 ↔ t.val % 2 = 1 :=
  (by decide +kernel : ∀ t : Fin grid0.N, k0_cond3 (grid0.coords t) = 1#1 ↔ t.val % 2 = 1)
/-- The output block is left alone at point 0, -/
theorem hidle0 : ∀ t : Fin cfg0.N, t.val = 0 → idle0 12 (grid0.coords t) = true :=
  (by decide +kernel : ∀ t : Fin grid0.N, t.val = 0 → idle0 12 (grid0.coords t) = true)
/-- and stored at every other. -/
theorem hidle1 : ∀ t : Fin cfg0.N, t.val ≠ 0 → idle0 12 (grid0.coords t) = false :=
  (by decide +kernel : ∀ t : Fin grid0.N, t.val ≠ 0 → idle0 12 (grid0.coords t) = false)
/-- It is not written back at point 0. -/
theorem hflush0 : ∀ t : Fin cfg0.N, t.val = 0 → win0_12.flush t = false :=
  (by decide +kernel : ∀ t : Fin grid0.N, t.val = 0 → win0_12.flush t = false)

/-! ## What the buffers hold -/

abbrev ms0 (t : Fin cfg0.N) : Memref sig .tc .vmem S512x1024 .f32 := win0_0.stage (cfg0.slots t 0)
abbrev ms1 (t : Fin cfg0.N) : Memref sig .tc .vmem S512x1024 .f32 := win0_1.stage (cfg0.slots t 1)
abbrev ms2 (t : Fin cfg0.N) : Memref sig .tc .vmem S1x1024 .f32 := win0_2.stage (cfg0.slots t 2)
abbrev ms3 (t : Fin cfg0.N) : Memref sig .tc .vmem S1024x2816 .bf16 := win0_3.stage (cfg0.slots t 3)
abbrev ms4 (t : Fin cfg0.N) : Memref sig .tc .vmem S4x1408 .f32 := win0_4.stage (cfg0.slots t 4)
abbrev ms5 (t : Fin cfg0.N) : Memref sig .tc .vmem S1x1408 .f32 := win0_5.stage (cfg0.slots t 5)
abbrev ms6 (t : Fin cfg0.N) : Memref sig .tc .vmem S11x384x256 .bf16 := win0_6.stage (cfg0.slots t 6)
abbrev ms7 (t : Fin cfg0.N) : Memref sig .tc .vmem S1x1408 .f32 := win0_7.stage (cfg0.slots t 7)
abbrev ms8 (t : Fin cfg0.N) : Memref sig .tc .vmem S1x1408 .f32 := win0_8.stage (cfg0.slots t 8)
abbrev ms9 (t : Fin cfg0.N) : Memref sig .tc .vmem S1x1408 .f32 := win0_9.stage (cfg0.slots t 9)
abbrev ms10 (t : Fin cfg0.N) : Memref sig .tc .vmem S1408x1024 .bf16 := win0_10.stage (cfg0.slots t 10)
abbrev ms11 (t : Fin cfg0.N) : Memref sig .tc .vmem S1x1024 .f32 := win0_11.stage (cfg0.slots t 11)
abbrev ms12 (t : Fin cfg0.N) : Memref sig .tc .vmem S512x1024 .f32 := win0_12.stage (cfg0.slots t 12)
abbrev hs0 (t : Fin cfg0.N) : (ms0 t).IsWhole := hstage0_0 ((cfg0.slots t 0).cast nbuf0_0)
abbrev hs1 (t : Fin cfg0.N) : (ms1 t).IsWhole := hstage0_1 ((cfg0.slots t 1).cast nbuf0_1)
abbrev hs2 (t : Fin cfg0.N) : (ms2 t).IsWhole := hstage0_2 ((cfg0.slots t 2).cast nbuf0_2)
abbrev hs3 (t : Fin cfg0.N) : (ms3 t).IsWhole := hstage0_3 ((cfg0.slots t 3).cast nbuf0_3)
abbrev hs4 (t : Fin cfg0.N) : (ms4 t).IsWhole := hstage0_4 ((cfg0.slots t 4).cast nbuf0_4)
abbrev hs5 (t : Fin cfg0.N) : (ms5 t).IsWhole := hstage0_5 ((cfg0.slots t 5).cast nbuf0_5)
abbrev hs6 (t : Fin cfg0.N) : (ms6 t).IsWhole := hstage0_6 ((cfg0.slots t 6).cast nbuf0_6)
abbrev hs7 (t : Fin cfg0.N) : (ms7 t).IsWhole := hstage0_7 ((cfg0.slots t 7).cast nbuf0_7)
abbrev hs8 (t : Fin cfg0.N) : (ms8 t).IsWhole := hstage0_8 ((cfg0.slots t 8).cast nbuf0_8)
abbrev hs9 (t : Fin cfg0.N) : (ms9 t).IsWhole := hstage0_9 ((cfg0.slots t 9).cast nbuf0_9)
abbrev hs10 (t : Fin cfg0.N) : (ms10 t).IsWhole := hstage0_10 ((cfg0.slots t 10).cast nbuf0_10)
abbrev hs11 (t : Fin cfg0.N) : (ms11 t).IsWhole := hstage0_11 ((cfg0.slots t 11).cast nbuf0_11)
abbrev hs12 (t : Fin cfg0.N) : (ms12 t).IsWhole := hstage0_12 ((cfg0.slots t 12).cast nbuf0_12)
abbrev scM0 : Memref sig .tc .vmem S2x536x2816 .f32 := Memref.whole cc0_scratch0
abbrev scM1 : Memref sig .tc .vmem S512x1408 .f32 := Memref.whole cc0_scratch1
abbrev scM2 : Memref sig .tc .vmem S512x1408 .f32 := Memref.whole cc0_scratch2
abbrev scM3 : Memref sig .tc .vmem S8x1408 .f32 := Memref.whole cc0_scratch3

/-- Point `n` of the grid, for a number `n` that may be out of range (then the last point). -/
def pt (n : ℕ) : Fin cfg0.N := if h : n < cfg0.N then ⟨n, h⟩ else ⟨64, by rw [show cfg0.N = 65 from N_0]; decide⟩

theorem pt_val (t : Fin cfg0.N) : pt t.val = t := by unfold pt; rw [dif_pos t.isLt]

/-- Tile `n`'s rows, normalised. -/
def rowsD (c : Dev nD) (n : ℕ) : FVec F S512x1024 .bf16 := k0_pay19 (iblk m c 0 (pt n)) (iblk m c 2 (pt n))

/-- Tile `n`'s projection for the recurrence, under its halo. -/
def recD (c : Dev nD) : ℕ → Fin 536 → Fin 1408 → F .f32
  | 0 => recOf k0_pay4 (rowsD m c 0) (iblk m c 3 (pt 0))
  | n + 1 => recOf (k0_pay25 (tailOf (recD c n))) (rowsD m c (n + 1)) (iblk m c 3 (pt (n + 1)))

/-- Tile `n`'s projection for the gate. -/
def gateD (c : Dev nD) (n : ℕ) : Fin 512 → Fin 1408 → F .f32 := gateOf (rowsD m c n) (iblk m c 3 (pt n))

/-- The recurrence's state before tile `n`. -/
def hD (c : Dev nD) : ℕ → FVec F S8x1408 .f32
  | 0 => k0_pay5
  | n + 1 => hOf (recD m c n) (hD c n) (iblk m c 4 (pt (n + 1))) (iblk m c 5 (pt (n + 1))) (iblk m c 6 (pt (n + 1))) (iblk m c 7 (pt (n + 1))) (iblk m c 8 (pt (n + 1))) (iblk m c 9 (pt (n + 1)))

/-- The output block of point `t`. -/
def out (c : Dev nD) (t : Fin cfg0.N) : Vec F S512x1024 .f32 :=
  outOf (recD m c (t.val - 1)) (gateD m c (t.val - 1)) (hD m c (t.val - 1)) (iblk m c 1 t) (iblk m c 4 t) (iblk m c 5 t) (iblk m c 6 t) (iblk m c 7 t) (iblk m c 8 t) (iblk m c 9 t) (iblk m c 10 t) (iblk m c 11 t)

/-- A slot's number may be spelt otherwise. -/
theorem slot_cast {a b : ℕ} (e : a = b) {ha : a < 2} {hb : b < 2} {d : Vec F S2x536x2816 .f32} {R : Fin 536 → Fin 1408 → F .f32} {G : Fin 512 → Fin 1408 → F .f32}
    (h : SlotIs a ha d R G) : SlotIs b hb d R G := by
  subst e; exact h

/-- The class's invariant with the four scratch buffers named. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- The invariant before point `n`. -/
def PhiS (c : Dev nD) : (n : ℕ) → n ≤ cfg0.N → sProp 𝕄
  | 0, _ => Pipeline.ΦA spec0 c
  | n + 1, _ => iprop(iprop((∃ d, ⌜SlotIs (n % 2) (Nat.mod_lt _ (by decide)) d (recD m c n) (gateD m c n)⌝ ∗ owns (c : Thread nD τ) scM0 fullShare d)
      ∗ (∃ d, owns (c : Thread nD τ) scM1 fullShare d) ∗ (∃ d, owns (c : Thread nD τ) scM2 fullShare d) ∗ owns (c : Thread nD τ) scM3 fullShare (hD m c n)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, ⌜SlotIs (n % 2) (Nat.mod_lt _ (by decide)) d (recD m c n) (gateD m c n)⌝ ∗ owns (c : Thread nD τ) scM0 fullShare d)
      ∗ (∃ d, owns (c : Thread nD τ) scM1 fullShare d) ∗ (∃ d, owns (c : Thread nD τ) scM2 fullShare d) ∗ owns (c : Thread nD τ) scM3 fullShare (hD m c n)) ∗ (∃ r, prngReg c r)) := rfl

theorem PhiS_pos (c : Dev nD) (k n : ℕ) (h : k ≤ cfg0.N) (hz : k = n + 1) :
    PhiS m c k h = iprop(iprop((∃ d, ⌜SlotIs (n % 2) (Nat.mod_lt _ (by decide)) d (recD m c n) (gateD m c n)⌝ ∗ owns (c : Thread nD τ) scM0 fullShare d)
      ∗ (∃ d, owns (c : Thread nD τ) scM1 fullShare d) ∗ (∃ d, owns (c : Thread nD τ) scM2 fullShare d) ∗ owns (c : Thread nD τ) scM3 fullShare (hD m c n)) ∗ (∃ r, prngReg c r)) := by
  subst hz; rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = out m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d

/-! ## The body at a point -/

/-- What is left in the output block's buffer at point `t`. -/
def left12 (c : Dev nD) (t : Fin cfg0.N) : sProp 𝕄 :=
  if t.val = 0 then iprop(∃ d, owns (c : Thread nD τ) (ms12 t) fullShare ((dats m 0 c).before 12 t d)) else owns (c : Thread nD τ) (ms12 t) fullShare ((dats m 0 c).after 12 t)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ left12 m c t)

set_option maxHeartbeats 9600000 in
/-- The body at any point keeps the invariant and leaves the output block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).owesAt () t.succ = (dats m 0 c).owesAt () t.castSucc from rfl,
    after0, after1, after2, after3, after4, after5, after6, after7, after8, after9, after10, after11]
  rw [show (dats m 0 c).Φ t.succ = PhiS m c (t.val + 1) t.isLt from rfl, PhiS_succ]
  have hN : t.val < 65 := lt_of_lt_of_eq t.isLt (show cfg0.N = 65 from N_0)
  rw [body_eq (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _)]
  unfold branch
  by_cases hz : t.val = 0
  · rw [if_pos ((hcond1 t).mpr hz), if_neg (fun h => by have := (hcond2 t).mp h; omega), if_neg (fun h => by have := (hcond3 t).mp h; omega)]
    rw [bind_pure_unit]
    rw [PhiS_castSucc m c t, PhiS_zero m c _ _ hz, PhiA0_eq]
    unfold left12
    rw [if_pos hz]
    iintro ⟨⟨⟨⟨%e14, S0⟩, ⟨%e15, S1⟩, ⟨%e16, S2⟩, ⟨%e17, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (first_wp c (ms0 t) (hs0 t) (ms2 t) (hs2 t) (ms3 t) (hs3 t) scM0 (Memref.isWhole_whole _) scM3 (Memref.isWhole_whole _) (iblk m c 0 t) (iblk m c 2 t) (iblk m c 3 t) e14 Set.univ _)
    isplitl [H0]; · iexact H0
    isplitl [H2]; · iexact H2
    isplitl [H3]; · iexact H3
    isplitl [S0]; · iexact S0
    isplitl [S3]; · iexists _; iexact S3
    iintro ⟨H0, H2, H3, ⟨%f14, %ef, S0⟩, S3⟩
    have e0 : pt 0 = t := by rw [← hz, pt_val]
    isplitl [S0 S1 S2 S3 Hg]
    · isplitl [S0 S1 S2 S3]
      · isplitl [S0]
        · iexists _; isplitr; swap; · iexact S0
          ipureintro
          have : SlotIs 0 (by decide) f14 (recD m c t.val) (gateD m c t.val) := by
            rw [hz]; unfold recD gateD rowsD; rw [e0]; exact ef
          exact slot_cast (by omega) this
        isplitl [S1]; · iexists _; iexact S1
        isplitl [S2]; · iexists _; iexact S2
        rw [show hD m c t.val = k0_pay5 from by rw [hz]; rfl]
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _; iexact H12
  obtain ⟨k, hk⟩ : ∃ k, t.val = k + 1 := ⟨t.val - 1, by omega⟩
  have ek : pt (k + 1) = t := by rw [← hk, pt_val]
  have eh : hD m c t.val = hOf (recD m c k) (hD m c k) (iblk m c 4 t) (iblk m c 5 t) (iblk m c 6 t) (iblk m c 7 t) (iblk m c 8 t) (iblk m c 9 t) := by
    rw [hk]
    show hOf (recD m c k) (hD m c k) (iblk m c 4 (pt (k + 1))) (iblk m c 5 (pt (k + 1))) (iblk m c 6 (pt (k + 1))) (iblk m c 7 (pt (k + 1))) (iblk m c 8 (pt (k + 1))) (iblk m c 9 (pt (k + 1))) = _
    rw [ek]
  have eo : (dats m 0 c).after 12 t = outOf (recD m c k) (gateD m c k) (hD m c k) (iblk m c 1 t) (iblk m c 4 t) (iblk m c 5 t) (iblk m c 6 t) (iblk m c 7 t) (iblk m c 8 t) (iblk m c 9 t) (iblk m c 10 t) (iblk m c 11 t) := by
    rw [after12]; unfold out; rw [show t.val - 1 = k by omega]
  have ef' : ∀ {s : ℕ} {hs : s < 2} (d : Vec F S2x536x2816 .f32), SlotIs s hs d (recOf (k0_pay25 (tailOf (recD m c k))) (k0_pay19 (iblk m c 0 t) (iblk m c 2 t)) (iblk m c 3 t)) (gateOf (k0_pay19 (iblk m c 0 t) (iblk m c 2 t)) (iblk m c 3 t))
      → SlotIs s hs d (recD m c t.val) (gateD m c t.val) := by
    intro s hs d h
    rw [hk]; unfold gateD rowsD
    show SlotIs s hs d (recOf (k0_pay25 (tailOf (recD m c k))) (rowsD m c (k + 1)) (iblk m c 3 (pt (k + 1)))) _
    unfold rowsD
    rw [ek]; exact h
  rw [if_neg (fun h => hz ((hcond1 t).mp h))]
  rw [PhiS_castSucc m c t, PhiS_pos m c t.val k _ hk]
  unfold left12
  rw [if_neg hz]
  iintro ⟨⟨⟨⟨%e14, %e, S0⟩, ⟨%e15, S1⟩, ⟨%e16, S2⟩, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  by_cases hp : t.val % 2 = 0
  · rw [if_pos ((hcond2 t).mpr ⟨hz, hp⟩), if_neg (fun h => by have := (hcond3 t).mp h; omega)]
    rw [bind_pure_unit]
    iapply (tile_wp c (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) 0 1 _ _ (by decide) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) e14 (hD m c k)
        (recD m c k) (gateD m c k) (slot_cast (by omega) e) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [S0]; · iexact S0
    isplitl [S1]; · iexists _; iexact S1
    isplitl [S2]; · iexists _; iexact S2
    isplitl [S3]; · iexact S3
    iintro ⟨H0, H1, H2, H3, H4, H5, H6, H7, H8, H9, H10, H11, H12, ⟨%f14, %ef, S0⟩, ⟨%f15, S1⟩, ⟨%f16, S2⟩, S3⟩
    isplitl [S0 S1 S2 S3 Hg]
    · isplitl [S0 S1 S2 S3]
      · isplitl [S0]
        · iexists _; isplitr; swap; · iexact S0
          ipureintro
          exact slot_cast (by omega) (ef' _ ef)
        isplitl [S1]; · iexists _; iexact S1
        isplitl [S2]; · iexists _; iexact S2
        rw [eh]
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    rw [eo]
    iexact H12
  · rw [if_neg (fun h => by have := (hcond2 t).mp h; omega), if_pos ((hcond3 t).mpr (by omega))]
    rw [bind_pure_unit]
    iapply (tile_wp c (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) scM3 (Memref.isWhole_whole _) 1 0 _ _ (by decide) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) e14 (hD m c k)
        (recD m c k) (gateD m c k) (slot_cast (by omega) e) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [S0]; · iexact S0
    isplitl [S1]; · iexists _; iexact S1
    isplitl [S2]; · iexists _; iexact S2
    isplitl [S3]; · iexact S3
    iintro ⟨H0, H1, H2, H3, H4, H5, H6, H7, H8, H9, H10, H11, H12, ⟨%f14, %ef, S0⟩, ⟨%f15, S1⟩, ⟨%f16, S2⟩, S3⟩
    isplitl [S0 S1 S2 S3 Hg]
    · isplitl [S0 S1 S2 S3]
      · isplitl [S0]
        · iexists _; isplitr; swap; · iexact S0
          ipureintro
          exact slot_cast (by omega) (ef' _ ef)
        isplitl [S1]; · iexists _; iexact S1
        isplitl [S2]; · iexists _; iexact S2
        rw [eh]
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    rw [eo]
    iexact H12

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => by
    unfold bodyPost left12
    by_cases hz : t.val = 0
    · have h := hidle0 t hz
      have h' : cfg0.idle 12 (cfg0.grid.coords t) = true := h
      have hf : (cfg0.win 12).flush t = false := hflush0 t hz
      rw [h', hf, if_pos hz]
    · have h := hidle1 t hz
      have h' : cfg0.idle 12 (cfg0.grid.coords t) = false := h
      rw [h', if_neg hz]

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives it back. -/
theorem hout (c : Dev nD) : (dats m 0 c).Φ (Fin.last cfg0.N) ⊢ Pipeline.ΦA spec0 c := by
  have ht : (Fin.last cfg0.N).val = 64 + 1 := by rw [Fin.val_last]; exact N_0
  rw [show (dats m 0 c).Φ (Fin.last cfg0.N) = PhiS m c (Fin.last cfg0.N).val (Nat.le_of_lt_succ (Fin.last cfg0.N).isLt) from rfl, PhiS_pos m c _ 64 _ ht, PhiA0_eq]
  iintro ⟨⟨⟨%e14, -, S0⟩, ⟨%e15, S1⟩, ⟨%e16, S2⟩, S3⟩, Hg⟩
  isplitl [S0 S1 S2 S3]
  · isplitl [S0]
    · iexists _; iexact S0
    isplitl [S1]
    · iexists _; iexact S1
    isplitl [S2]
    · iexists _; iexact S2
    iexists _; iexact S3
  iexact Hg

/-! ## The run and the frame -/

set_option backward.isDefEq.respectTransparency.types false in
/-- Every execution of the program terminates with the arrays at what the proof data say and every semaphore at zero. -/
theorem run_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The frame: every execution terminates, the arguments' arrays as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Hand

end
-- ==== Proof.FfnBodyIdeal.lean ====
/-
  The feed-forward kernel's body at a grid point, by cases: what one run of it leaves in the output block and in
  the two scratch buffers (the normalised rows of one tile and the feed-forward values of one tile, two slots
  each), as functions of what the input blocks and the scratch buffers held.
-/
module

public import proofs.«01_k».proof.Proof.Gen.Kernel2Ideal.Skeleton
public import proofs.«01_k».proof.Proof.Gen.Kernel2Ideal.Frame
public import Idealize.ShloMosaic.Lib.VecWindow
public import Idealize.ShloMosaic.Lib.WholeRead

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A slot's box lies inside a two-slot scratch. -/
theorem slot_inb (n : ℕ) : ∀ a, (![n % 2, 0, 0] : Fin 3 → ℕ) a + S1x512x1024.size a ≤ S2x512x1024.size a := by
  have h : n % 2 < 2 := Nat.mod_lt _ (by decide)
  generalize n % 2 = k at h
  have : k = 0 ∨ k = 1 := by omega
  rcases this with rfl | rfl <;> decide

/-- What slot `n % 2` of a two-slot scratch holds. -/
def getSlot {e : EltTy} (n : ℕ) (d : Vec F S2x512x1024 e) : Vec F S1x512x1024 e :=
  VecWindow.window d ![n % 2, 0, 0] S1x512x1024.size (slot_inb n)

/-- A two-slot scratch with slot `n % 2` replaced. -/
def putSlot {e : EltTy} (n : ℕ) (w : Vec F S1x512x1024 e) (d : Vec F S2x512x1024 e) : Vec F S2x512x1024 e :=
  VecWindow.put d ![n % 2, 0, 0] S1x512x1024.size w

/-- A replaced slot reads back what was put there. -/
theorem getSlot_putSlot {e : EltTy} (n : ℕ) (w : Vec F S1x512x1024 e) (d : Vec F S2x512x1024 e) :
    getSlot n (putSlot n w d) = w := by
  unfold getSlot putSlot
  exact VecWindow.window_put_same _ _ _ _ _

/-- A load through the whole of a whole memref reads its contents. -/
theorem readAt_all {s : Shape} {e : EltTy} {m : Memref sig .tc .vmem s e} (h : m.IsWhole) (x : Vec F s e)
    {off : Fin s.rank → ℕ} (inb : ∀ a, off a + s.size a ≤ s.size a) :
    m.view.readAt (Elt F) (Rect.unit (s := s) off s.size inb).toLoadRect (h.unread x) = x :=
  (View.readAt_full m.view _ inb).trans (h.read_unread x)

/-- A load through a slot's rectangle, its offsets spelt otherwise, reads the slot. -/
theorem readAt_slot {e : EltTy} {m : Memref sig .tc .vmem S2x512x1024 e} (h : m.IsWhole) (d : Vec F S2x512x1024 e) (n : ℕ)
    {off : Fin 3 → ℕ} (ho : off = ![n % 2, 0, 0]) (inb : ∀ a, off a + S1x512x1024.size a ≤ S2x512x1024.size a) :
    m.view.readAt (Elt F) (Rect.unit (s := S2x512x1024) off S1x512x1024.size inb).toLoadRect (h.unread d) = getSlot n d := by
  refine (View.readAt_unit m.view _ inb ho (slot_inb n)).trans ?_
  rw [h.read_unread]; rfl

/-- A store through a slot's rectangle, its offsets spelt otherwise, replaces the slot. -/
theorem read_write_slot {e : EltTy} {m : Memref sig .tc .vmem S2x512x1024 e} (h : m.IsWhole) (d : Vec F S2x512x1024 e)
    (w : Vec F S1x512x1024 e) (n : ℕ)
    {off : Fin 3 → ℕ} (ho : off = ![n % 2, 0, 0]) (inb : ∀ a, off a + S1x512x1024.size a ≤ S2x512x1024.size a) :
    m.view.read (Elt F) (m.view.writes (Elt F) (h.unread d) [⟨Rect.unit (s := S2x512x1024) off S1x512x1024.size inb, w⟩]) = putSlot n w d := by
  refine (View.read_writes_cons_put m.view _ inb w [] ho).trans ?_
  rw [View.writes_nil, h.read_unread]; rfl

set_option maxHeartbeats 4000000 in
/-- The body at a point in the middle (first branch): the output block from the tile two before, the slot of the point's
    parity filled with the tile's normalised rows, the other slot of the second scratch with the feed-forward values of
    the tile before. -/
theorem run_mid (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1x1x1024 .f32) (harg7 : arg7.IsWhole) (arg8 : Memref sig .tc .vmem S512x1024 .f32) (harg8 : arg8.IsWhole) (arg9 : Memref sig .tc .vmem S2x512x1024 .bf16) (harg9 : arg9.IsWhole) (arg10 : Memref sig .tc .vmem S2x512x1024 .f32) (harg10 : arg10.IsWhole)
    (n : ℕ) (h1 : k0_cond1 i = 1#1) (h2 : ¬ k0_cond2 i = 1#1) (o1 : k0_off1 i = ![(n + 1) % 2, 0, 0]) (o2 : k0_off2 i = ![n % 2, 0, 0])
    (x1 : Vec F S512x1024 .f32) (x2 : Vec F S512x1024 .f32) (x3 : Vec F S1x1x1024 .f32) (x4 : Vec F S1x1024x2816 .bf16) (x5 : Vec F S1x1024x2816 .bf16) (x6 : Vec F S1x2816x1024 .bf16) (x7 : Vec F S1x1x1024 .f32) (d9 : Vec F S2x512x1024 .bf16) (d10 : Vec F S2x512x1024 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare d9 ∗ owns (c : Thread nD τ) arg10 fullShare d10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay6 x2 (getSlot n d10) x7) ∗ owns (c : Thread nD τ) arg9 fullShare (putSlot n (k0_pay1 x1 x3) d9) ∗ owns (c : Thread nD τ) arg10 fullShare (putSlot (n + 1) (k0_pay2 (k0_pay5 (getSlot (n + 1) d9) x4) (k0_pay7 (getSlot (n + 1) d9) x5) x6) d10)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10) K := by
  simp only [cc0_ffn_eq_skeleton]; unfold cc0_ffn_skel
  simp only [k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%e8, %f8, -, H8⟩, ⟨%f9, %hf9, H9⟩, ⟨%f10, %hf10, H10⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg9.eq_unread hf9
  obtain rfl := harg10.eq_unread hf10
  sl_exec (disch := first | sl_exact h1 | sl_exact h2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro; refine (View.read_writes_full _ _ _ _ _).trans ?_; rw [readAt_all, readAt_slot harg10 d10 n o2, readAt_all]
  isplitl [H9]
  · iexists _; isplitr; swap; · iexact H9
    ipureintro; refine (read_write_slot harg9 d9 _ n o2 _).trans ?_
    exact congrArg₂ (fun a b => putSlot n (k0_pay1 a b) d9) (readAt_all harg1 x1 _) (readAt_all harg3 x3 _)
  iexists _; isplitr; swap; · iexact H10
  ipureintro; refine (read_write_slot harg10 d10 _ (n + 1) o1 _).trans ?_
  have e5 := congrArg₂ k0_pay5 (readAt_slot harg9 d9 (n + 1) o1 (k0_off1_inb i h1)) (readAt_all harg4 x4 inb_S1x1024x2816_S1x1024x2816_0_0_0)
  have e7 := congrArg₂ k0_pay7 (readAt_slot harg9 d9 (n + 1) o1 (k0_off1_inb i h1)) (readAt_all harg5 x5 inb_S1x1024x2816_S1x1024x2816_0_0_0)
  rw [← e5, ← e7]
  exact congrArg (fun z => putSlot (n + 1) (k0_pay2 (run_mid.sl.r c i arg4 harg4 arg9 harg9 h1 x4 d9) (run_mid.sl.r_1 c i arg5 harg5 arg9 harg9 h1 x5 d9) z) d10)
    (readAt_all harg6 x6 inb_S1x2816x1024_S1x2816x1024_0_0_0)

set_option maxHeartbeats 4000000 in
/-- The body at the first point: the second scratch is zeroed whole, the output block read off it, and the slot of the
    point's parity filled with the tile's normalised rows. -/
theorem run_first (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1x1x1024 .f32) (harg7 : arg7.IsWhole) (arg8 : Memref sig .tc .vmem S512x1024 .f32) (harg8 : arg8.IsWhole) (arg9 : Memref sig .tc .vmem S2x512x1024 .bf16) (harg9 : arg9.IsWhole) (arg10 : Memref sig .tc .vmem S2x512x1024 .f32) (harg10 : arg10.IsWhole)
    (n : ℕ) (h1 : ¬ k0_cond1 i = 1#1) (h2 : k0_cond2 i = 1#1) (h3 : Scalar.cmpi .ne (Scalar.extui (Scalar.cmpi .eq (BitVec.ofNat 32 (i 0).val) 0#32)) 0#32 = 1#1) (hn : n % 2 = 0) (o3 : k0_off3 i = ![0, 0, 0])
    (x1 : Vec F S512x1024 .f32) (x2 : Vec F S512x1024 .f32) (x3 : Vec F S1x1x1024 .f32) (x4 : Vec F S1x1024x2816 .bf16) (x5 : Vec F S1x1024x2816 .bf16) (x6 : Vec F S1x2816x1024 .bf16) (x7 : Vec F S1x1x1024 .f32) (d9 : Vec F S2x512x1024 .bf16) (d10 : Vec F S2x512x1024 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare d9 ∗ owns (c : Thread nD τ) arg10 fullShare d10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay9 x2 (getSlot n k0_pay8) x7) ∗ owns (c : Thread nD τ) arg9 fullShare (putSlot n (k0_pay3 x1 (k0_pay10 x3) (k0_pay11 x1)) d9) ∗ owns (c : Thread nD τ) arg10 fullShare k0_pay8) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10) K := by
  simp only [cc0_ffn_eq_skeleton]; unfold cc0_ffn_skel
  simp only [k0_part1_eq_skeleton, k0_part2_eq_skeleton]
  unfold k0_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%e8, %f8, -, H8⟩, ⟨%f9, %hf9, H9⟩, ⟨%f10, %hf10, H10⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg9.eq_unread hf9
  obtain rfl := harg10.eq_unread hf10
  letI : ClosedOff (k0_off3 i) := ⟨![0, 0, 0], o3⟩
  sl_exec (disch := first | sl_exact h1 | sl_exact h2 | sl_exact h3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro; refine (View.read_writes_full _ _ _ _ _).trans ?_
    have e14 : run_first.sl.v14 c i arg10 h2 = getSlot n (k0_pay8 (F := F)) :=
      (View.readAt_unit arg10.view (arg10.view.writes (Elt F) arg10.view.junk
        [⟨Rect.unit (s := S2x512x1024) ![0, 0, 0] S2x512x1024.size inb_S2x512x1024_S2x512x1024_0_0_0, k0_pay8⟩]) _
        (o3.trans (by rw [hn])) (slot_inb n)).trans (by rw [View.read_writes_full]; rfl)
    rw [readAt_all, e14, readAt_all]
  isplitl [H9]
  · iexists _; isplitr; swap; · iexact H9
    ipureintro; refine (read_write_slot harg9 d9 _ n (o3.trans (by rw [hn])) _).trans ?_
    exact congrArg₂ (fun a b => putSlot n (k0_pay3 a (k0_pay10 b) (k0_pay11 a)) d9) (readAt_all harg1 x1 _) (readAt_all harg3 x3 _)
  iexists _; isplitr; swap; · iexact H10
  ipureintro; exact View.read_writes_full _ _ _ _ _

set_option maxHeartbeats 4000000 in
/-- The body at the last point: the output block from the tile two before, the slot of the point's parity filled. -/
theorem run_last (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S1x1x1024 .f32) (harg7 : arg7.IsWhole) (arg8 : Memref sig .tc .vmem S512x1024 .f32) (harg8 : arg8.IsWhole) (arg9 : Memref sig .tc .vmem S2x512x1024 .bf16) (harg9 : arg9.IsWhole) (arg10 : Memref sig .tc .vmem S2x512x1024 .f32) (harg10 : arg10.IsWhole)
    (n : ℕ) (h1 : ¬ k0_cond1 i = 1#1) (h2 : k0_cond2 i = 1#1) (h3 : ¬ Scalar.cmpi .ne (Scalar.extui (Scalar.cmpi .eq (BitVec.ofNat 32 (i 0).val) 0#32)) 0#32 = 1#1) (o3 : k0_off3 i = ![n % 2, 0, 0])
    (x1 : Vec F S512x1024 .f32) (x2 : Vec F S512x1024 .f32) (x3 : Vec F S1x1x1024 .f32) (x4 : Vec F S1x1024x2816 .bf16) (x5 : Vec F S1x1024x2816 .bf16) (x6 : Vec F S1x2816x1024 .bf16) (x7 : Vec F S1x1x1024 .f32) (d9 : Vec F S2x512x1024 .bf16) (d10 : Vec F S2x512x1024 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare d9 ∗ owns (c : Thread nD τ) arg10 fullShare d10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay9 x2 (getSlot n d10) x7) ∗ owns (c : Thread nD τ) arg9 fullShare (putSlot n (k0_pay3 x1 (k0_pay10 x3) (k0_pay11 x1)) d9) ∗ owns (c : Thread nD τ) arg10 fullShare d10) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10) K := by
  simp only [cc0_ffn_eq_skeleton]; unfold cc0_ffn_skel
  simp only [k0_part1_eq_skeleton, k0_part2_eq_skeleton]
  unfold k0_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%e8, %f8, -, H8⟩, ⟨%f9, %hf9, H9⟩, ⟨%f10, %hf10, H10⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg9.eq_unread hf9
  obtain rfl := harg10.eq_unread hf10
  sl_exec (disch := first | sl_exact h1 | sl_exact h2 | sl_exact h3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro; refine (View.read_writes_full _ _ _ _ _).trans ?_; rw [readAt_all, readAt_slot harg10 d10 n o3, readAt_all]
  isplitl [H9]
  · iexists _; isplitr; swap; · iexact H9
    ipureintro; refine (read_write_slot harg9 d9 _ n o3 _).trans ?_
    exact congrArg₂ (fun a b => putSlot n (k0_pay3 a (k0_pay10 b) (k0_pay11 a)) d9) (readAt_all harg1 x1 _) (readAt_all harg3 x3 _)
  iexists _; isplitr; swap; · iexact H10
  ipureintro; exact harg10.read_unread _

end Cert.Kernel2Ideal.Hand

end
-- ==== Proof.FfnFrameIdeal.lean ====
/-
  The feed-forward kernel's run: what the pipeline's buffers hold from point to point, and the frame.  Before a
  point other than the first, the scratch slots hold the normalised rows of the last tile and the feed-forward
  values of the tile before it; the output block of a point is a function of its residual block and of those values.
-/
module

public import proofs.«01_k».proof.Proof.FfnBodyIdeal
public import Idealize.ShloMosaic.Lib.Claim

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The first branch is taken at points 1 to 64. -/
theorem hcond1 : ∀ t : Fin cfg0.N, k0_cond1 (grid0.coords t) = 1#1 ↔ (1 ≤ t.val ∧ t.val ≤ 64) :=
  (by decide +kernel : ∀ t : Fin grid0.N, k0_cond1 (grid0.coords t) = 1#1 ↔ (1 ≤ t.val ∧ t.val ≤ 64))
/-- The second branch is taken at points 0 and 65. -/
theorem hcond2 : ∀ t : Fin cfg0.N, k0_cond2 (grid0.coords t) = 1#1 ↔ (t.val = 0 ∨ t.val = 65) :=
  (by decide +kernel : ∀ t : Fin grid0.N, k0_cond2 (grid0.coords t) = 1#1 ↔ (t.val = 0 ∨ t.val = 65))
/-- The zeroing branch is taken at point 0. -/
theorem hcond3 : ∀ t : Fin cfg0.N, Scalar.cmpi .ne (Scalar.extui (Scalar.cmpi .eq (BitVec.ofNat 32 (grid0.coords t 0).val) 0#32)) 0#32 = 1#1 ↔ t.val = 0 :=
  (by decide +kernel : ∀ t : Fin grid0.N, Scalar.cmpi .ne (Scalar.extui (Scalar.cmpi .eq (BitVec.ofNat 32 (grid0.coords t 0).val) 0#32)) 0#32 = 1#1 ↔ t.val = 0)
theorem hoff1 : ∀ t : Fin cfg0.N, k0_off1 (grid0.coords t) = ![(t.val + 1) % 2, 0, 0] :=
  (by decide +kernel : ∀ t : Fin grid0.N, k0_off1 (grid0.coords t) = ![(t.val + 1) % 2, 0, 0])
theorem hoff2 : ∀ t : Fin cfg0.N, k0_off2 (grid0.coords t) = ![t.val % 2, 0, 0] :=
  (by decide +kernel : ∀ t : Fin grid0.N, k0_off2 (grid0.coords t) = ![t.val % 2, 0, 0])
theorem hoff3 : ∀ t : Fin cfg0.N, k0_off3 (grid0.coords t) = ![t.val % 2, 0, 0] :=
  (by decide +kernel : ∀ t : Fin grid0.N, k0_off3 (grid0.coords t) = ![t.val % 2, 0, 0])
/-- The output block is stored at every point. -/
theorem hidle7 : ∀ t : Fin cfg0.N, cfg0.idle 7 (cfg0.grid.coords t) = false :=
  (by decide +kernel : ∀ t : Fin grid0.N, idle0 7 (grid0.coords t) = false)

/-! ## What the buffers hold -/

abbrev ms0 (t : Fin cfg0.N) : Memref sig .tc .vmem S512x1024 .f32 := win0_0.stage (cfg0.slots t 0)
abbrev ms1 (t : Fin cfg0.N) : Memref sig .tc .vmem S512x1024 .f32 := win0_1.stage (cfg0.slots t 1)
abbrev ms2 (t : Fin cfg0.N) : Memref sig .tc .vmem S1x1x1024 .f32 := win0_2.stage (cfg0.slots t 2)
abbrev ms3 (t : Fin cfg0.N) : Memref sig .tc .vmem S1x1024x2816 .bf16 := win0_3.stage (cfg0.slots t 3)
abbrev ms4 (t : Fin cfg0.N) : Memref sig .tc .vmem S1x1024x2816 .bf16 := win0_4.stage (cfg0.slots t 4)
abbrev ms5 (t : Fin cfg0.N) : Memref sig .tc .vmem S1x2816x1024 .bf16 := win0_5.stage (cfg0.slots t 5)
abbrev ms6 (t : Fin cfg0.N) : Memref sig .tc .vmem S1x1x1024 .f32 := win0_6.stage (cfg0.slots t 6)
abbrev ms7 (t : Fin cfg0.N) : Memref sig .tc .vmem S512x1024 .f32 := win0_7.stage (cfg0.slots t 7)
abbrev hs0 (t : Fin cfg0.N) : (ms0 t).IsWhole := hstage0_0 ((cfg0.slots t 0).cast nbuf0_0)
abbrev hs1 (t : Fin cfg0.N) : (ms1 t).IsWhole := hstage0_1 ((cfg0.slots t 1).cast nbuf0_1)
abbrev hs2 (t : Fin cfg0.N) : (ms2 t).IsWhole := hstage0_2 ((cfg0.slots t 2).cast nbuf0_2)
abbrev hs3 (t : Fin cfg0.N) : (ms3 t).IsWhole := hstage0_3 ((cfg0.slots t 3).cast nbuf0_3)
abbrev hs4 (t : Fin cfg0.N) : (ms4 t).IsWhole := hstage0_4 ((cfg0.slots t 4).cast nbuf0_4)
abbrev hs5 (t : Fin cfg0.N) : (ms5 t).IsWhole := hstage0_5 ((cfg0.slots t 5).cast nbuf0_5)
abbrev hs6 (t : Fin cfg0.N) : (ms6 t).IsWhole := hstage0_6 ((cfg0.slots t 6).cast nbuf0_6)
abbrev hs7 (t : Fin cfg0.N) : (ms7 t).IsWhole := hstage0_7 ((cfg0.slots t 7).cast nbuf0_7)
abbrev scM0 : Memref sig .tc .vmem S2x512x1024 .bf16 := Memref.whole cc0_scratch0
abbrev scM1 : Memref sig .tc .vmem S2x512x1024 .f32 := Memref.whole cc0_scratch1

/-- Point `n` of the grid, for a number `n` that may be out of range (then the last point). -/
def pt (n : ℕ) : Fin cfg0.N := if h : n < cfg0.N then ⟨n, h⟩ else ⟨65, by rw [show cfg0.N = 66 from N_0]; decide⟩

theorem pt_val (t : Fin cfg0.N) : pt t.val = t := by unfold pt; rw [dif_pos t.isLt]

/-- The normalised rows that point `n` puts in the first scratch. -/
def rows (c : Dev nD) (n : ℕ) : Vec F S1x512x1024 .bf16 := k0_pay1 (iblk m c 0 (pt n)) (iblk m c 2 (pt n))

/-- The feed-forward values that point `n` finds in the second scratch: zeros at points 0 and 1, then those computed at the
    point before, from the rows of the point before that. -/
def ffn (c : Dev nD) : ℕ → Vec F S1x512x1024 .f32
  | 0 => getSlot 0 k0_pay8
  | 1 => getSlot 1 k0_pay8
  | n + 2 => k0_pay2 (k0_pay5 (rows m c n) (iblk m c 3 (pt (n + 1)))) (k0_pay7 (rows m c n) (iblk m c 4 (pt (n + 1)))) (iblk m c 5 (pt (n + 1)))

/-- The output block of point `t`. -/
def out (c : Dev nD) (t : Fin cfg0.N) : Vec F S512x1024 .f32 := k0_pay6 (iblk m c 1 t) (ffn m c t.val) (iblk m c 6 t)

/-- The class's invariant with the two scratch buffers named. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The invariant before point `n`. -/
def PhiS (c : Dev nD) : (n : ℕ) → n ≤ cfg0.N → sProp 𝕄
  | 0, _ => Pipeline.ΦA spec0 c
  | n + 1, _ => iprop(iprop((∃ d, ⌜getSlot n d = rows m c n⌝ ∗ owns (c : Thread nD τ) scM0 fullShare d)
      ∗ (∃ d, ⌜n ≤ 64 → getSlot (n + 1) d = ffn m c (n + 1)⌝ ∗ owns (c : Thread nD τ) scM1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, ⌜getSlot n d = rows m c n⌝ ∗ owns (c : Thread nD τ) scM0 fullShare d)
      ∗ (∃ d, ⌜n ≤ 64 → getSlot (n + 1) d = ffn m c (n + 1)⌝ ∗ owns (c : Thread nD τ) scM1 fullShare d)) ∗ (∃ r, prngReg c r)) := rfl

/-- A slot's index counts modulo two. -/
theorem getSlot_congr {α : EltTy} {a b : ℕ} (h : a % 2 = b % 2) (d : Vec F S2x512x1024 α) : getSlot a d = getSlot b d := by
  have key : ∀ (p q : ℕ) (_ : p = q) (hp : ∀ k, (![p, 0, 0] : Fin 3 → ℕ) k + S1x512x1024.size k ≤ S2x512x1024.size k) (hq : ∀ k, (![q, 0, 0] : Fin 3 → ℕ) k + S1x512x1024.size k ≤ S2x512x1024.size k),
      VecWindow.window d ![p, 0, 0] S1x512x1024.size hp = VecWindow.window d ![q, 0, 0] S1x512x1024.size hq := by
    intro p q e; subst e; intros; rfl
  exact key _ _ h _ _

theorem PhiS_pos (c : Dev nD) (n : ℕ) (h : n ≤ cfg0.N) (hz : n ≠ 0) :
    PhiS m c n h = iprop(iprop((∃ d, ⌜getSlot (n + 1) d = rows m c (n - 1)⌝ ∗ owns (c : Thread nD τ) scM0 fullShare d)
      ∗ (∃ d, ⌜n ≤ 65 → getSlot n d = ffn m c n⌝ ∗ owns (c : Thread nD τ) scM1 fullShare d)) ∗ (∃ r, prngReg c r)) := by
  cases n with
  | zero => exact absurd rfl hz
  | succ n =>
    have e : ∀ d : Vec F S2x512x1024 .bf16, getSlot (n + 1 + 1) d = getSlot n d := fun d => getSlot_congr (by omega) d
    have e2 : (n + 1 ≤ 65) = (n ≤ 64) := by simp only [eq_iff_iff]; omega
    simp only [e, e2]; rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 9600000 in
/-- The body at any point keeps the invariant and leaves the output block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    after0, after1, after2, after3, after4, after5, after6, after7]
  rw [show (dats m 0 c).Φ t.succ = PhiS m c (t.val + 1) t.isLt from rfl, PhiS_succ]
  have hN : t.val < 66 := lt_of_lt_of_eq t.isLt (show cfg0.N = 66 from N_0)
  by_cases hz : t.val = 0
  · rw [PhiS_castSucc m c t, PhiS_zero m c _ _ hz, PhiA0_eq]
    iintro ⟨⟨⟨⟨%s9, S9⟩, ⟨%s10, S10⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) t.val (fun h => by have := (hcond1 t).mp h; omega) ((hcond2 t).mpr (.inl hz)) ((hcond3 t).mpr hz) (by rw [hz]) ((hoff3 t).trans (by rw [hz]))
        (iblk m c 0 t) (iblk m c 1 t) (iblk m c 2 t) (iblk m c 3 t) (iblk m c 4 t) (iblk m c 5 t) (iblk m c 6 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [S9]; · iexact S9
    isplitl [S10]; · iexact S10
    iintro ⟨H0, H1, H2, H3, H4, H5, H6, H7, S9, S10⟩
    isplitl [S9 S10 Hg]
    · isplitl [S9 S10]
      · isplitl [S9]
        · iexists _; isplitr; swap; · iexact S9
          ipureintro
          exact (getSlot_putSlot _ _ _).trans (by unfold rows; rw [pt_val]; rfl)
        iexists _; isplitr; swap; · iexact S10
        ipureintro
        intro _; rw [hz]; rfl
      iexact Hg
    isplitl [Ho]; · iexact Ho
    rw [show out m c t = k0_pay9 (iblk m c 1 t) (getSlot t.val k0_pay8) (iblk m c 6 t) from by unfold out; rw [hz]; rfl]
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  by_cases hl : t.val = 65
  · rw [PhiS_castSucc m c t, PhiS_pos m c _ _ hz]
    iintro ⟨⟨⟨⟨%s9, %e9, S9⟩, ⟨%s10, %e10, S10⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_last c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) t.val (fun h => by have := (hcond1 t).mp h; omega) ((hcond2 t).mpr (.inr hl)) (fun h => hz ((hcond3 t).mp h)) (hoff3 t)
        (iblk m c 0 t) (iblk m c 1 t) (iblk m c 2 t) (iblk m c 3 t) (iblk m c 4 t) (iblk m c 5 t) (iblk m c 6 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [S9]; · iexact S9
    isplitl [S10]; · iexact S10
    iintro ⟨H0, H1, H2, H3, H4, H5, H6, H7, S9, S10⟩
    isplitl [S9 S10 Hg]
    · isplitl [S9 S10]
      · isplitl [S9]
        · iexists _; isplitr; swap; · iexact S9
          ipureintro
          exact (getSlot_putSlot _ _ _).trans (by unfold rows; rw [pt_val]; rfl)
        iexists _; isplitr; swap; · iexact S10
        ipureintro
        intro h; omega
      iexact Hg
    isplitl [Ho]; · iexact Ho
    rw [show out m c t = k0_pay9 (iblk m c 1 t) (getSlot t.val s10) (iblk m c 6 t) from by unfold out; rw [e10 (by omega)]; rfl]
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS_castSucc m c t, PhiS_pos m c _ _ hz]
    iintro ⟨⟨⟨⟨%s9, %e9, S9⟩, ⟨%s10, %e10, S10⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_mid c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) t.val ((hcond1 t).mpr (by omega)) (fun h => by have := (hcond2 t).mp h; omega) (hoff1 t) (hoff2 t)
        (iblk m c 0 t) (iblk m c 1 t) (iblk m c 2 t) (iblk m c 3 t) (iblk m c 4 t) (iblk m c 5 t) (iblk m c 6 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [S9]; · iexact S9
    isplitl [S10]; · iexact S10
    iintro ⟨H0, H1, H2, H3, H4, H5, H6, H7, S9, S10⟩
    isplitl [S9 S10 Hg]
    · isplitl [S9 S10]
      · isplitl [S9]
        · iexists _; isplitr; swap; · iexact S9
          ipureintro
          exact (getSlot_putSlot _ _ _).trans (by unfold rows; rw [pt_val])
        iexists _; isplitr; swap; · iexact S10
        ipureintro
        intro _
        rw [getSlot_putSlot, e9]
        obtain ⟨k, hk⟩ : ∃ k, t.val = k + 1 := ⟨t.val - 1, by omega⟩
        have ek : pt (k + 1) = t := by rw [← hk, pt_val]
        rw [show ffn m c (t.val + 1) = ffn m c (k + 2) from by rw [hk], show t.val - 1 = k from by omega]
        rw [show ffn m c (k + 2) = k0_pay2 (k0_pay5 (rows m c k) (iblk m c 3 (pt (k + 1)))) (k0_pay7 (rows m c k) (iblk m c 4 (pt (k + 1)))) (iblk m c 5 (pt (k + 1))) from rfl, ek]
      iexact Hg
    isplitl [Ho]; · iexact Ho
    rw [show out m c t = k0_pay6 (iblk m c 1 t) (getSlot t.val s10) (iblk m c 6 t) from by unfold out; rw [e10 (by omega)]]
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => by
    have h7 := hidle7 t
    rw [h7]; exact .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives it back. -/
theorem hout (c : Dev nD) : (dats m 0 c).Φ (Fin.last cfg0.N) ⊢ Pipeline.ΦA spec0 c := by
  have ht : (Fin.last cfg0.N).val ≠ 0 := by rw [Fin.val_last]; have : cfg0.N = 66 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨⟨%s9, -, S9⟩, ⟨%s10, -, S10⟩⟩, Hg⟩
  isplitl [S9 S10]
  · isplitl [S9]
    · iexists _; iexact S9
    iexists _; iexact S10
  iexact Hg

/-! ## The run and the frame -/

set_option backward.isDefEq.respectTransparency.types false in
/-- Every execution of the program terminates with the arrays at what the proof data say and every semaphore at zero. -/
theorem run_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The frame: every execution terminates, the arguments' arrays as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Kernel2Ideal.Hand

end
-- ==== Proof.FfnPay.lean ====
/-
  The feed-forward kernel's payloads at the ideal values, read at an index.
-/
module

public import proofs.«01_k».proof.Proof.FfnFrameIdeal
public import Idealize.ShloMosaic.Lib.Pipeline.ValueKit
public import Idealize.ShloMosaic.Lib.Pointwise

@[expose] public section

set_option maxRecDepth 16384

noncomputable section

namespace Cert.Math

open Idealize.ShloMosaic

/-- The root-mean-square normalisation of a row `x` of `n` values with gains `g`, entry `k`; the row's length as a literal is
    `1024` throughout, so the divisor is that float word. -/
def norm {n : ℕ} (x g : Fin n → EReal) (k : Fin n) : EReal :=
  x k * Ideal.rsqrt (Ideal.div (∑ j, x j * x j) (Ideal.ofBits .f32 0x44800000#32) + Ideal.ofBits .f32 0x358637BD#32) * g k

/-- A row times a matrix. -/
def vecMat {n k : ℕ} (x : Fin n → EReal) (w : Fin n → Fin k → EReal) (j : Fin k) : EReal := ∑ i, x i * w i j

/-- The gated unit: `silu (x W_g) * (x W_u)` times `W_d`. -/
def swiglu {n k : ℕ} (x : Fin n → EReal) (wg wu : Fin n → Fin k → EReal) (wd : Fin k → Fin n → EReal) : Fin n → EReal :=
  vecMat (fun j => vecMat x wg j * Ideal.logistic (vecMat x wg j) * vecMat x wu j) wd

/-- The whole layer on a row: the row plus half the normalised gated unit of the normalised row. -/
def ffnRow {n k : ℕ} (x gpre : Fin n → EReal) (wg wu : Fin n → Fin k → EReal) (wd : Fin k → Fin n → EReal) (gpost : Fin n → EReal)
    (l : Fin n) : EReal :=
  x l + Ideal.ofBits .f32 0x3F000000#32 * norm (swiglu (norm x gpre) wg wu wd) gpost l

end Cert.Math

namespace Cert.Kernel2Ideal.Hand

open Cert.Kernel2Ideal Cert.Kernel2Ideal.Gen Cert.Math
open Idealize.ShloMosaic Idealize.ShloMosaic.TcCoe

/-- The normalised rows. -/
theorem pay1_apply (x : Vec Ideal S512x1024 .f32) (g : Vec Ideal S1x1x1024 .f32) (r : Fin 512) (k : Fin 1024) :
    k0_pay1 (F := Ideal) x g (ix3 0 r k) = norm (fun k => x (ix2 r k)) (fun k => g (ix3 0 0 k)) k := by
  pointwise [k0_pay1]; rfl

/-- The gate's and the up projection's products. -/
theorem pay5_apply (x : Vec Ideal S1x512x1024 .bf16) (w : Vec Ideal S1x1024x2816 .bf16) (r : Fin 512) (j : Fin 2816) :
    k0_pay5 (F := Ideal) x w (ix2 r j) = vecMat (fun k => x (ix3 0 r k)) (fun k j => w (ix3 0 k j)) j := by
  pointwise [k0_pay5, k0_pay4]; rfl

theorem pay7_apply (x : Vec Ideal S1x512x1024 .bf16) (w : Vec Ideal S1x1024x2816 .bf16) (r : Fin 512) (j : Fin 2816) :
    k0_pay7 (F := Ideal) x w (ix2 r j) = vecMat (fun k => x (ix3 0 r k)) (fun k j => w (ix3 0 k j)) j := by
  pointwise [k0_pay7, k0_pay4]; rfl

/-- The down projection of the gated product. -/
theorem pay2_apply (a b : Vec Ideal S512x2816 .f32) (w : Vec Ideal S1x2816x1024 .bf16) (r : Fin 512) (l : Fin 1024) :
    k0_pay2 (F := Ideal) a b w (ix3 0 r l)
      = vecMat (fun j => a (ix2 r j) * Ideal.logistic (a (ix2 r j)) * b (ix2 r j)) (fun k j => w (ix3 0 k j)) l := by
  pointwise [k0_pay2]; rfl

/-- The output: the residual plus half the normalised value. -/
theorem pay6_apply (x : Vec Ideal S512x1024 .f32) (f : Vec Ideal S1x512x1024 .f32) (g : Vec Ideal S1x1x1024 .f32) (r : Fin 512) (k : Fin 1024) :
    k0_pay6 (F := Ideal) x f g (ix2 r k)
      = x (ix2 r k) + Ideal.ofBits .f32 0x3F000000#32 * norm (fun k => f (ix3 0 r k)) (fun k => g (ix3 0 0 k)) k := by
  pointwise [k0_pay6]; rfl

end Cert.Kernel2Ideal.Hand

end
-- ==== Proof.LruMath.lean ====
/-
  The recurrent block's functions over the extended reals, on one line of values at a time.
-/
module

public import proofs.«01_k».proof.Proof.FfnPay

@[expose] public section

noncomputable section

namespace Cert.Math

open Idealize.ShloMosaic

/-- `log (1 + e^x)`, as the larger of `x` and zero plus a correction. -/
def softplus (x : EReal) : EReal := max x 0 + Ideal.log1p (Ideal.exp (-(max x (-x))))

/-- The causal convolution with four taps of a sequence that begins with its three padding zeros. -/
def convAt (x : ℕ → EReal) (w : Fin 4 → EReal) (b : EReal) (t : ℕ) : EReal :=
  b + x t * w 0 + x (t + 1) * w 1 + x (t + 2) * w 2 + x (t + 3) * w 3

/-- A gate: the logistic function of a product with a block-diagonal matrix, one block per head of 84 channels, plus a bias. -/
def gateAt (y : Fin 1344 → EReal) (w : Fin 16 → Fin 84 → Fin 84 → EReal) (b : Fin 1344 → EReal) (l : Fin 1344) : EReal :=
  Ideal.logistic ((∑ k : Fin 84, w ⟨l / 84, by omega⟩ k ⟨l % 84, by omega⟩ * y ⟨84 * (l / 84) + k, by omega⟩) + b l)

/-- The logarithm of the decay, from the recurrence gate and the rate. -/
def logDecayAt (r sp : EReal) : EReal := Ideal.ofBits .f32 0xC1000000#32 * r * sp

/-- The recurrence's input, from the logarithm of the decay, the input gate and the convolved value. -/
def driveAt (la i y : EReal) : EReal := Ideal.sqrt (-(Ideal.exp (Ideal.ofBits .f32 0x40000000#32 * la) - 1)) * (i * y)

/-- The Gaussian unit in its hyperbolic form. -/
def gelu (x : EReal) : EReal :=
  x * (Ideal.ofBits .f32 0x3F000000#32 * (1 + Ideal.tanh (Ideal.ofBits .f32 0x3F4C422A#32 * (x + Ideal.ofBits .f32 0x3D372713#32 * (x * x * x)))))

/-- The recurrence `h ← a h + u` from zero, after `k` steps. -/
def scanOf (a u : ℕ → EReal) : ℕ → EReal
  | 0 => 0
  | k + 1 => a k * scanOf a u k + u k

/-- The recurrent block's arguments: the rows (row `8 t + b` is time `t` of batch entry `b`), the gains before and after, the
    input projection, the convolution, the two gates, the rates and the output projection. -/
structure LruArgs where
  x : Fin 32768 → Fin 1024 → EReal
  gpre : Fin 1024 → EReal
  win : Fin 1024 → Fin 2688 → EReal
  cw : Fin 4 → Fin 1344 → EReal
  cb : Fin 1344 → EReal
  wa : Fin 16 → Fin 84 → Fin 84 → EReal
  ba : Fin 1344 → EReal
  wx : Fin 16 → Fin 84 → Fin 84 → EReal
  bx : Fin 1344 → EReal
  lam : Fin 1344 → EReal
  wout : Fin 1344 → Fin 1024 → EReal
  gpost : Fin 1024 → EReal

namespace LruArgs

variable (A : LruArgs)

/-- A row's projection. -/
def proj (r : Fin 32768) (j : Fin 2688) : EReal := vecMat (norm (A.x r) A.gpre) A.win j

/-- The sequence of one batch entry and channel, with three zeros before it. -/
def padded (b : Fin 8) (l : Fin 1344) (t : ℕ) : EReal :=
  if h : 3 ≤ t ∧ t - 3 < 4096 then A.proj ⟨(t - 3) * 8 + b, by omega⟩ ⟨1344 + l, by omega⟩ else 0

/-- The convolved sequence. -/
def conv (b : Fin 8) (t : ℕ) (l : Fin 1344) : EReal := convAt (A.padded b l) (fun k => A.cw k l) (A.cb l) t

/-- The logarithm of the decay. -/
def logDecay (b : Fin 8) (t : ℕ) (l : Fin 1344) : EReal :=
  logDecayAt (gateAt (A.conv b t) A.wa A.ba l) (softplus (-A.lam l))

/-- The decay. -/
def decay (b : Fin 8) (t : ℕ) (l : Fin 1344) : EReal := Ideal.exp (A.logDecay b t l)

/-- The recurrence's input. -/
def drive (b : Fin 8) (t : ℕ) (l : Fin 1344) : EReal :=
  driveAt (A.logDecay b t l) (gateAt (A.conv b t) A.wx A.bx l) (A.conv b t l)

/-- The state after time `t`'s step, `k = t + 1`. -/
def state (b : Fin 8) (l : Fin 1344) (k : ℕ) : EReal := scanOf (fun t => A.decay b t l) (fun t => A.drive b t l) k

/-- The layer: the row plus the normalised product of the output projection with the gated states. -/
def row (r : Fin 32768) (l : Fin 1024) : EReal :=
  A.x r l + norm (vecMat (fun j : Fin 1344 => gelu (A.proj r ⟨j, by omega⟩) * A.state ⟨r % 8, by omega⟩ j (r / 8 + 1)) A.wout) A.gpost l

end LruArgs

/-- Two recurrences whose decays and drives agree before `k` agree after `k` steps. -/
theorem scanOf_congr {a u a' u' : ℕ → EReal} : ∀ k, (∀ t < k, a t = a' t ∧ u t = u' t) → scanOf a u k = scanOf a' u' k
  | 0, _ => rfl
  | k + 1, h => by
    rw [scanOf, scanOf, (h k (by omega)).1, (h k (by omega)).2, scanOf_congr k fun t ht => h t (by omega)]

end Cert.Math

end
-- ==== Proof.LruPay.lean ====
/-
  The recurrent kernel's values over the extended reals, read at an index.
-/
module

public import proofs.«01_k».proof.Proof.LruFrameIdeal
public import proofs.«01_k».proof.Proof.LruMath
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen Cert.Math
open Idealize.ShloMosaic Idealize.ShloMosaic.TcCoe

/-- The normalised rows. -/
theorem pay19_apply (x : Vec Ideal S512x1024 .f32) (g : Vec Ideal S1x1024 .f32) (r : Fin 512) (k : Fin 1024) :
    k0_pay19 (F := Ideal) x g (ix2 r k) = norm (fun k => x (ix2 r k)) (fun k => g (ix2 0 k)) k := by
  pointwise [k0_pay19]; rfl

/-- A column of the projection. -/
theorem projVal_apply (xn : FVec Ideal S512x1024 .bf16) (w : Vec Ideal S1024x256 .bf16) (r : Fin 512) (j : Fin 256) :
    projVal (F := Ideal) xn w (ix3 0 r j) = vecMat (fun k => xn (ix2 r k)) (fun k j => w (ix2 k j)) j := by
  pointwise [projVal]; rfl

theorem projAll_apply (xn : FVec Ideal S512x1024 .bf16) (w : Vec Ideal S1024x2816 .bf16) (r : Fin 512) (j : Fin 2816) :
    projAll (F := Ideal) xn w r j = vecMat (fun k => xn (ix2 r k)) (fun k j => w (ix2 k j)) j := by
  unfold projAll
  rw [projVal_apply]
  unfold vecMat
  refine Finset.sum_congr rfl fun k _ => congrArg _ ?_
  refine window_at w ![0, 256 * (j.val / 256)] S1024x256.size _ (ix2 (n0 := 1024) (n1 := 256) k ⟨j.val % 256, by omega⟩) (ix2 k j) fun a => ?_
  fin_cases a
  · show k.val = 0 + k.val; omega
  · show j.val = 256 * (j.val / 256) + j.val % 256; omega

/-- The convolution. -/
theorem convVal_apply (cb c0 c1 c2 c3 : Vec Ideal S1x1408 .f32) (g0 g1 g2 g3 : Vec Ideal S1x512x1408 .f32) (r : Fin 512) (l : Fin 1408) :
    convVal (F := Ideal) cb c0 c1 c2 c3 g0 g1 g2 g3 (ix2 r l)
      = cb (ix2 0 l) + g0 (ix3 0 r l) * c0 (ix2 0 l) + g1 (ix3 0 r l) * c1 (ix2 0 l) + g2 (ix3 0 r l) * c2 (ix2 0 l) + g3 (ix3 0 r l) * c3 (ix2 0 l) := by
  pointwise [convVal, k0_pay24, k0_pay22, k0_pay23]
  simp only [mul_comm]

/-- The gates of a chunk. -/
theorem recGate_apply (j : ℕ) (hj : j < 11) (yb : FVec Ideal S512x1408 .bf16) (wb : Vec Ideal S1x384x256 .bf16) (ba : Vec Ideal S1x128 .f32)
    (r : Fin 512) (k : Fin 128) :
    recGate (F := Ideal) j hj yb wb ba (ix2 r k)
      = Ideal.logistic ((∑ i : Fin 384, yb (ix2 r ⟨bandLo j + i, by unfold bandLo; omega⟩) * wb (ix3 0 i ⟨k, by omega⟩)) + ba (ix2 0 k)) := by
  pointwise [recGate, gateSum]

theorem inGate_apply (j : ℕ) (hj : j < 11) (yb : FVec Ideal S512x1408 .bf16) (wb : Vec Ideal S1x384x256 .bf16) (bx : Vec Ideal S1x128 .f32)
    (r : Fin 512) (k : Fin 128) :
    inGate (F := Ideal) j hj yb wb bx (ix2 r k)
      = Ideal.logistic ((∑ i : Fin 384, yb (ix2 r ⟨bandLo j + i, by unfold bandLo; omega⟩) * wb (ix3 0 i ⟨128 + k, by omega⟩)) + bx (ix2 0 k)) := by
  pointwise [inGate, gateSum]

/-- The logarithm of the decay. -/
theorem logDecay_apply (j : ℕ) (hj : j < 11) (sp : FVec Ideal S1x1408 .f32) (g : FVec Ideal S512x128 .f32) (r : Fin 512) (k : Fin 128) :
    Hand.logDecay (F := Ideal) j hj sp g (ix2 r k) = logDecayAt (g (ix2 r k)) (sp (ix2 0 ⟨128 * j + k, by omega⟩)) := by
  pointwise [Hand.logDecay]
  rfl

theorem decay_apply (j : ℕ) (hj : j < 11) (sp : FVec Ideal S1x1408 .f32) (g : FVec Ideal S512x128 .f32) (r : Fin 512) (k : Fin 128) :
    Hand.decay (F := Ideal) j hj sp g (ix2 r k) = Ideal.exp (logDecayAt (g (ix2 r k)) (sp (ix2 0 ⟨128 * j + k, by omega⟩))) := by
  pointwise [Hand.decay]
  rw [logDecay_apply]

/-- The drive as the kernel makes it. -/
def driveK (la i y : EReal) : EReal :=
  (if 0 < (0 - Ideal.tanh la) * (1 + Ideal.exp la * Ideal.exp la) then
    (0 - Ideal.tanh la) * (1 + Ideal.exp la * Ideal.exp la) * Ideal.rsqrt ((0 - Ideal.tanh la) * (1 + Ideal.exp la * Ideal.exp la)) else 0) * (i * y)

theorem drive_apply (j : ℕ) (hj : j < 11) (sp : FVec Ideal S1x1408 .f32) (g i : FVec Ideal S512x128 .f32) (y : FVec Ideal S512x1408 .f32)
    (r : Fin 512) (k : Fin 128) :
    Hand.drive (F := Ideal) j hj sp g i y (ix2 r k)
      = driveK (logDecayAt (g (ix2 r k)) (sp (ix2 0 ⟨128 * j + k, by omega⟩))) (i (ix2 r k)) (y (ix2 r ⟨128 * j + k, by omega⟩)) := by
  pointwise [Hand.drive, oneMinusSq]
  simp only [logDecay_apply, decay_apply]
  rfl

/-- The rates. -/
theorem rateOf_apply (x : Vec Ideal S1x1408 .f32) (l : Fin 1408) : rateOf (F := Ideal) x (ix2 0 l) = softplus (-x (ix2 0 l)) := by
  pointwise [rateOf, k0_pay28, k0_pay27]
  simp only [zero_sub]
  rfl

/-- The output. -/
theorem outVal_apply (gt : Vec Ideal S1x512x1408 .f32) (hs : Vec Ideal S512x1408 .f32) (wo : Vec Ideal S1408x1024 .bf16) (x : Vec Ideal S512x1024 .f32)
    (g : Vec Ideal S1x1024 .f32) (r : Fin 512) (l : Fin 1024) :
    outVal (F := Ideal) gt hs wo x g (ix2 r l)
      = x (ix2 r l) + norm (vecMat (fun j : Fin 1408 => gelu (gt (ix3 0 r j)) * hs (ix2 r j)) (fun j l => wo (ix2 j l))) (fun l => g (ix2 0 l)) l := by
  pointwise [outVal, k0_pay2, k0_pay254, k0_pay255, k0_pay256, k0_pay489, k0_pay490, k0_pay491]
  rfl

end Cert.KernelIdeal.Hand

end
-- ==== Proof.LruBand.lean ====
/-
  The recurrent kernel's operands as its host code makes them, read at an index.
-/
module

public import proofs.«01_k».proof.Proof.LruPay
public import Idealize.ShloMosaic.Lib.Claim

@[expose] public section

set_option maxRecDepth 65536

noncomputable section

namespace Cert.KernelIdeal.Hand

open Cert.KernelIdeal Cert.KernelIdeal.Gen Cert.Math
open Idealize.ShloMosaic Idealize.ShloMosaic.TcCoe

variable (m : (ℓ : Loc nD τ sig) → Buf (Elt Ideal) ℓ)

/-- An operand's filling, the integer 0 read as a number. -/
theorem fill_eq : (FloatOps.sitofp FTy.f32 0#32 : Ideal .f32) = (0 : EReal) := by
  simp [FloatOps.sitofp]

/-- The whole number 1 or 0 read as a number. -/
theorem eye_eq (p q : ℕ) (hp : p < 16) (hq : q < 16) :
    (FloatOps.uitofp FTy.f32 (IntOp.cmpi CmpIPredicate.eq (IntOp.addi (BitVec.ofNat 32 p) 0#32) (BitVec.ofNat 32 q)) : Ideal .f32)
      = if p = q then (1 : EReal) else 0 := by
  have : ∀ p : Fin 16, ∀ q : Fin 16, IntOp.cmpi CmpIPredicate.eq (IntOp.addi (BitVec.ofNat 32 p.val) 0#32) (BitVec.ofNat 32 q.val)
      = if p.val = q.val then 1#1 else 0#1 := by decide +kernel
  rw [this ⟨p, hp⟩ ⟨q, hq⟩]
  by_cases h : p = q <;> simp [h, FloatOps.uitofp]

/-- Eleven slabs stacked, read at one of them. -/
theorem stack_apply {E : Type} (u : Fin 11 → (S1x384x256.Idx → E)) (h) (j : Fin 11) (i : Fin 384) (k : Fin 256) :
    concatenate S11x384x256 0 [⟨S1x384x256, u 0⟩, ⟨S1x384x256, u 1⟩, ⟨S1x384x256, u 2⟩, ⟨S1x384x256, u 3⟩, ⟨S1x384x256, u 4⟩, ⟨S1x384x256, u 5⟩, ⟨S1x384x256, u 6⟩, ⟨S1x384x256, u 7⟩, ⟨S1x384x256, u 8⟩, ⟨S1x384x256, u 9⟩, ⟨S1x384x256, u 10⟩] h (ix3 j i k) = u j (ix3 0 i k) := by
  fin_cases j <;> pointwise []

/-- One list of host operations after another. -/
theorem after_append (A B : List (HloOp τ sig (Elt Ideal))) (W : Valuation τ sig (Elt Ideal)) :
    StableHlo.after (A ++ B) W = StableHlo.after B (StableHlo.after A W) := by
  induction A generalizing W with
  | nil => rfl
  | cons op A ih => exact ih _

/-- The contents once both square gate matrices are laid out. -/
def laid (c : Dev nD) : Valuation τ sig (Elt Ideal) :=
  StableHlo.after [hostOps0, hostOps0_1, hostOps0_2, hostOps0_3, hostOps0_4, hostOps0_5, hostOps0_6, hostOps0_7, hostOps0_8, hostOps0_9, hostOps0_10, hostOps0_11].flatten (fun b => m (c, b))

/-- The contents once the eleven bands are cut. -/
def cutAt (W : Valuation τ sig (Elt Ideal)) : Valuation τ sig (Elt Ideal) :=
  StableHlo.after (hostOps0_12.take 44) W

/-- The operations after the bands leave the stack of bands alone. -/
theorem rest_keeps (W : Valuation τ sig (Elt Ideal)) :
    StableHlo.after [hostOps0_13, hostOps0_14, hostOps0_15, hostOps0_16, hostOps0_17, hostOps0_18, hostOps0_19, hostOps0_20].flatten W (Proc.devRef .tc main_v81) = W (Proc.devRef .tc main_v81) := by
  simp only [hostOps0_13, hostOps0_14, hostOps0_15, hostOps0_16, hostOps0_17, hostOps0_18, hostOps0_19, hostOps0_20, List.flatten_cons, List.flatten_nil, List.append_nil, List.cons_append, List.nil_append]
  entry_read
  rfl

/-- The stack of bands is made of the cut bands. -/
theorem V81_bands (c : Dev nD) : V m c main_v81
    = StableHlo.after (hostOps0_12.drop 44) (cutAt (laid m c)) (Proc.devRef .tc main_v81) := by
  refine Eq.trans ?_ (rest_keeps _)
  unfold laid cutAt
  rw [← after_append, ← after_append, ← after_append, ← List.append_assoc (List.take 44 _), List.take_append_drop]
  rfl

/-- The eleven cut bands. -/
def bandsOf (W : Valuation τ sig (Elt Ideal)) : Fin 11 → (S1x384x256.Idx → Ideal .f32) :=
  ![W (Proc.devRef .tc main_v69), W (Proc.devRef .tc main_v70), W (Proc.devRef .tc main_v71), W (Proc.devRef .tc main_v72), W (Proc.devRef .tc main_v73), W (Proc.devRef .tc main_v74), W (Proc.devRef .tc main_v75), W (Proc.devRef .tc main_v76), W (Proc.devRef .tc main_v77), W (Proc.devRef .tc main_v78), W (Proc.devRef .tc main_v79)]

set_option maxHeartbeats 1000000 in
theorem V81_apply (c : Dev nD) (j : Fin 11) (i : Fin 384) (k : Fin 256) :
    V m c main_v81 (ix3 j i k) = bandsOf (cutAt (laid m c)) j (ix3 0 i k) := by
  rw [V81_bands]
  generalize cutAt (laid m c) = W
  simp only [hostOps0_12, List.drop_succ_cons, List.drop_zero, StableHlo.after_cons, StableHlo.after_nil]
  rw [StableHlo.nullary_result_ne' _ _ _ (by decide), StableHlo.reshape_result_ne' _ _ _ _ _ (by decide), StableHlo.unary_result', StableHlo.nary_result']
  exact stack_apply (bandsOf W) concatenates_S1x384x256_S1x384x256_S1x384x256_S1x384x256_S1x384x256_S1x384x256_S1x384x256_S1x384x256_S1x384x256_S1x384x256_S1x384x256_S11x384x256_d0 j i k

set_option maxHeartbeats 4000000 in
/-- A cut band: 384 rows of the two square matrices, 128 columns of each side by side. -/
theorem bands_apply (W : Valuation τ sig (Elt Ideal)) (A B : S1408x1408.Idx → Ideal .f32)
    (hA : W (Proc.devRef .tc main_v22) = A) (hB : W (Proc.devRef .tc main_v35) = B)
    (j : Fin 11) (i : Fin 384) (k : Fin 256) (p : Fin 1408) (hp : p.val = bandLo j + i.val)
    (q : Fin 1408) (hq : q.val = 128 * j.val + k.val % 128) :
    bandsOf (cutAt W) j (ix3 0 i k) = if k.val < 128 then A (ix2 p q) else B (ix2 p q) := by
  subst hA hB
  have hk := k.isLt
  have e : ∀ (X : S1408x1408.Idx → Ideal .f32) (a b : Fin 1408), a.val = p.val → b.val = q.val → X (ix2 a b) = X (ix2 p q) :=
    fun X a b h h' => by rw [Fin.ext h, Fin.ext h']
  unfold cutAt
  simp only [hostOps0_12, List.take_succ_cons, List.take_zero]
  have hk' : k.val % 128 = if k.val < 128 then k.val else k.val - 128 := by split <;> omega
  rw [hk'] at hq
  fin_cases j
  all_goals
    simp only [bandsOf]
    entry_read
    pointwise []
    norm_num [bandLo] at hp hq
    by_cases h : k.val < 128
    · rw [dif_pos h, if_pos h]
      rw [if_pos h] at hq
      exact e _ _ _ (by simp only; omega) (by simp only; omega)
    · rw [dif_neg h, if_neg h]
      rw [if_neg h] at hq
      exact e _ _ _ (by simp only; omega) (by simp only; omega)

/-- The row and column of a block-diagonal matrix, filled with zeros past 1344. -/
def blockAt (w : Fin 16 → Fin 84 → Fin 84 → EReal) (p q : ℕ) : EReal :=
  if h : p < 1344 ∧ q < 1344 then
    w ⟨p / 84, by omega⟩ ⟨p % 84, by omega⟩ ⟨q % 84, by omega⟩ * (if p / 84 = q / 84 then 1 else 0)
  else 0

theorem laid_r (c : Dev nD) (p q : Fin 1408) :
    laid m c (Proc.devRef .tc main_v22) (ix2 p q) = blockAt (fun n a b => m ((c).tc.loc main_arg5) (ix3 n a b)) p q := by
  unfold laid
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  entry_read
  simp only [StableHlo.TRef.ofBuf, StableHlo.TRef.toBuf, cast_eq]
  pointwise []
  unfold blockAt
  refine dite_congr rfl (fun h => ?_) fun h => fill_eq
  have e := eye_eq (p.val / 84) (q.val / 84) (by omega) (by omega)
  exact congrArg (HMul.hMul (α := EReal) (β := EReal) (γ := EReal) _) e

theorem laid_x (c : Dev nD) (p q : Fin 1408) :
    laid m c (Proc.devRef .tc main_v35) (ix2 p q) = blockAt (fun n a b => m ((c).tc.loc main_arg7) (ix3 n a b)) p q := by
  unfold laid
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  entry_read
  simp only [StableHlo.TRef.ofBuf, StableHlo.TRef.toBuf, cast_eq]
  pointwise []
  unfold blockAt
  refine dite_congr rfl (fun h => ?_) fun h => fill_eq
  have e := eye_eq (p.val / 84) (q.val / 84) (by omega) (by omega)
  exact congrArg (HMul.hMul (α := EReal) (β := EReal) (γ := EReal) _) e

end Cert.KernelIdeal.Hand

end
-- ==== Proof.LruHost.lean ====
/-
  The recurrent kernel's operands as its host code makes them, and the blocks its windows hold, read at an index: the weights
  filled with zeros from 1344 channels to 1408.
-/
module

public import proofs.«01_k».proof.Proof.LruBand

@[expose] public section

set_option maxRecDepth 65536

noncomputable section

namespace Cert.KernelIdeal.Hand

open Cert.KernelIdeal Cert.KernelIdeal.Gen Cert.Math
open Idealize.ShloMosaic Idealize.ShloMosaic.TcCoe

variable (m : (ℓ : Loc nD τ sig) → Buf (Elt Ideal) ℓ)

/-- The operations before the region, one after another. -/
theorem V_line (c : Dev nD) (b : Ref sig .tc) : V m c b = StableHlo.after
    [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20].flatten (fun b => m (c, b)) (Proc.devRef .tc b) := rfl

/-- A row of 1344 numbers filled with zeros. -/
def fillAt (f : Fin 1344 → EReal) (l : ℕ) : EReal := if h : l < 1344 then f ⟨l, h⟩ else 0

theorem V5_apply (c : Dev nD) (k : Fin 1024) :
    V m c main_v5 (ix2 0 k) = m ((c).tc.loc main_arg1) (ix1 k) := by
  rw [V_line]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  entry_read
  pointwise []

theorem V90_apply (c : Dev nD) (k : Fin 1024) :
    V m c main_v90 (ix2 0 k) = m ((c).tc.loc main_arg11) (ix1 k) := by
  rw [V_line]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  entry_read
  pointwise []

theorem V6_apply (c : Dev nD) (k : Fin 1024) (l : Fin 2816) :
    V m c main_v6 (ix2 k l) = if l.val < 1408 then fillAt (fun l => m ((c).tc.loc main_arg2) (ix2 k ⟨l.val, by omega⟩)) l
      else fillAt (fun l => m ((c).tc.loc main_arg2) (ix2 k ⟨1344 + l.val, by omega⟩)) (l - 1408) := by
  rw [V_line]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  entry_read
  simp only [StableHlo.TRef.ofBuf, StableHlo.TRef.toBuf, cast_eq]
  pointwise []
  unfold fillAt
  by_cases h : l.val < 1408
  · rw [dif_pos h, if_pos h]
    exact dite_congr rfl (fun h => rfl) fun h => fill_eq
  · rw [dif_neg h, if_neg h]
    exact dite_congr rfl (fun h => rfl) fun h => fill_eq

theorem V7_apply (c : Dev nD) (k : Fin 4) (l : Fin 1408) :
    V m c main_v7 (ix2 k l) = fillAt (fun l => m ((c).tc.loc main_arg3) (ix2 k l)) l := by
  rw [V_line]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  entry_read
  simp only [StableHlo.TRef.ofBuf, StableHlo.TRef.toBuf, cast_eq]
  pointwise []
  exact dite_congr rfl (fun h => rfl) fun h => fill_eq

theorem V9_apply (c : Dev nD) (l : Fin 1408) :
    V m c main_v9 (ix2 0 l) = fillAt (fun l => m ((c).tc.loc main_arg4) (ix1 l)) l := by
  rw [V_line]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  entry_read
  simp only [StableHlo.TRef.ofBuf, StableHlo.TRef.toBuf, cast_eq]
  pointwise []
  exact dite_congr rfl (fun h => rfl) fun h => fill_eq

theorem V83_apply (c : Dev nD) (l : Fin 1408) :
    V m c main_v83 (ix2 0 l) = fillAt (fun l => m ((c).tc.loc main_arg6) (ix1 l)) l := by
  rw [V_line]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  entry_read
  simp only [StableHlo.TRef.ofBuf, StableHlo.TRef.toBuf, cast_eq]
  pointwise []
  exact dite_congr rfl (fun h => rfl) fun h => fill_eq

theorem V85_apply (c : Dev nD) (l : Fin 1408) :
    V m c main_v85 (ix2 0 l) = fillAt (fun l => m ((c).tc.loc main_arg8) (ix1 l)) l := by
  rw [V_line]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  entry_read
  simp only [StableHlo.TRef.ofBuf, StableHlo.TRef.toBuf, cast_eq]
  pointwise []
  exact dite_congr rfl (fun h => rfl) fun h => fill_eq

theorem V87_apply (c : Dev nD) (l : Fin 1408) :
    V m c main_v87 (ix2 0 l) = fillAt (fun l => m ((c).tc.loc main_arg9) (ix1 l)) l := by
  rw [V_line]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  entry_read
  simp only [StableHlo.TRef.ofBuf, StableHlo.TRef.toBuf, cast_eq]
  pointwise []
  exact dite_congr rfl (fun h => rfl) fun h => fill_eq

theorem V89_apply (c : Dev nD) (l : Fin 1408) (k : Fin 1024) :
    V m c main_v89 (ix2 l k) = fillAt (fun l => m ((c).tc.loc main_arg10) (ix2 l k)) l := by
  rw [V_line]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  entry_read
  simp only [StableHlo.TRef.ofBuf, StableHlo.TRef.toBuf, cast_eq]
  pointwise []
  exact dite_congr rfl (fun h => rfl) fun h => fill_eq

/-- A band of the two square gate matrices. -/
theorem V81_block (c : Dev nD) (j : Fin 11) (i : Fin 384) (k : Fin 256) :
    V m c main_v81 (ix3 j i k) = blockAt (if k.val < 128 then (fun n a b => m ((c).tc.loc main_arg5) (ix3 n a b))
      else (fun n a b => m ((c).tc.loc main_arg7) (ix3 n a b))) (bandLo j + i) (128 * j + k % 128) := by
  have hl : bandLo j ≤ 1024 := Nat.min_le_right _ _
  rw [V81_apply, bands_apply (laid m c) _ _ rfl rfl j i k ⟨bandLo j + i, by omega⟩ rfl ⟨128 * j + k % 128, by omega⟩ rfl,
    laid_r, laid_x]
  split <;> rfl

/-- The block indices of the windows at every point: the rows' two windows run over the 64 blocks, one of them one point
    behind; the others stay. -/
theorem idx : ∀ t : Fin cfg0.N, win0_0.index t = ![min t.val 63, 0] ∧ win0_1.index t = ![t.val - 1, 0]
    ∧ win0_2.index t = ![0, 0] ∧ win0_3.index t = ![0, 0] ∧ win0_4.index t = ![0, 0] ∧ win0_5.index t = ![0, 0]
    ∧ win0_6.index t = ![0, 0, 0] ∧ win0_7.index t = ![0, 0] ∧ win0_8.index t = ![0, 0] ∧ win0_9.index t = ![0, 0]
    ∧ win0_10.index t = ![0, 0] ∧ win0_11.index t = ![0, 0] ∧ win0_12.index t = ![t.val - 1, 0] :=
  (by decide +kernel : ∀ t : Fin grid0.N, win0_0.index t = ![min t.val 63, 0] ∧ win0_1.index t = ![t.val - 1, 0]
    ∧ win0_2.index t = ![0, 0] ∧ win0_3.index t = ![0, 0] ∧ win0_4.index t = ![0, 0] ∧ win0_5.index t = ![0, 0]
    ∧ win0_6.index t = ![0, 0, 0] ∧ win0_7.index t = ![0, 0] ∧ win0_8.index t = ![0, 0] ∧ win0_9.index t = ![0, 0]
    ∧ win0_10.index t = ![0, 0] ∧ win0_11.index t = ![0, 0] ∧ win0_12.index t = ![t.val - 1, 0])

/-- The output block is written back at points 1 to 64 only. -/
theorem flush_ge : ∀ t : Fin cfg0.N, (cfg0.win 12).flush t = true → 1 ≤ t.val :=
  (by decide +kernel : ∀ t : Fin grid0.N, (cfg0.win 12).flush t = true → 1 ≤ t.val)

theorem iblk0_apply (c : Dev nD) (t : Fin cfg0.N) (r : Fin 512) (k : Fin 1024) (R : Fin 32768) (hR : R.val = 512 * min t.val 63 + r.val) :
    iblk m c 0 t (ix2 r k) = m ((c).tc.loc main_arg0) (ix2 R k) := by
  have hi := (idx t).1
  rw [← V_main_arg0 m c]
  blk_ext! [iblk, hi]

theorem iblk1_apply (c : Dev nD) (t : Fin cfg0.N) (r : Fin 512) (k : Fin 1024) (R : Fin 32768) (hR : R.val = 512 * (t.val - 1) + r.val) :
    iblk m c 1 t (ix2 r k) = m ((c).tc.loc main_arg0) (ix2 R k) := by
  have hi := (idx t).2.1
  rw [← V_main_arg0 m c]
  blk_ext! [iblk, hi]

theorem iblk2_apply (c : Dev nD) (t : Fin cfg0.N) (k : Fin 1024) : iblk m c 2 t (ix2 0 k) = V m c main_v5 (ix2 0 k) := by
  have hi := (idx t).2.2.1
  blk_ext! [iblk, hi]

theorem iblk3_apply (c : Dev nD) (t : Fin cfg0.N) (k : Fin 1024) (j : Fin 2816) : iblk m c 3 t (ix2 k j) = V m c main_v6 (ix2 k j) := by
  have hi := (idx t).2.2.2.1
  blk_ext! [iblk, hi]

theorem iblk4_apply (c : Dev nD) (t : Fin cfg0.N) (k : Fin 4) (l : Fin 1408) : iblk m c 4 t (ix2 k l) = V m c main_v7 (ix2 k l) := by
  have hi := (idx t).2.2.2.2.1
  blk_ext! [iblk, hi]

theorem iblk5_apply (c : Dev nD) (t : Fin cfg0.N) (l : Fin 1408) : iblk m c 5 t (ix2 0 l) = V m c main_v9 (ix2 0 l) := by
  have hi := (idx t).2.2.2.2.2.1
  blk_ext! [iblk, hi]

theorem iblk6_apply (c : Dev nD) (t : Fin cfg0.N) (j : Fin 11) (i : Fin 384) (k : Fin 256) : iblk m c 6 t (ix3 j i k) = V m c main_v81 (ix3 j i k) := by
  have hi := (idx t).2.2.2.2.2.2.1
  blk_ext! [iblk, hi]

theorem iblk7_apply (c : Dev nD) (t : Fin cfg0.N) (l : Fin 1408) : iblk m c 7 t (ix2 0 l) = V m c main_v83 (ix2 0 l) := by
  have hi := (idx t).2.2.2.2.2.2.2.1
  blk_ext! [iblk, hi]

theorem iblk8_apply (c : Dev nD) (t : Fin cfg0.N) (l : Fin 1408) : iblk m c 8 t (ix2 0 l) = V m c main_v85 (ix2 0 l) := by
  have hi := (idx t).2.2.2.2.2.2.2.2.1
  blk_ext! [iblk, hi]

theorem iblk9_apply (c : Dev nD) (t : Fin cfg0.N) (l : Fin 1408) : iblk m c 9 t (ix2 0 l) = V m c main_v87 (ix2 0 l) := by
  have hi := (idx t).2.2.2.2.2.2.2.2.2.1
  blk_ext! [iblk, hi]

theorem iblk10_apply (c : Dev nD) (t : Fin cfg0.N) (l : Fin 1408) (k : Fin 1024) : iblk m c 10 t (ix2 l k) = V m c main_v89 (ix2 l k) := by
  have hi := (idx t).2.2.2.2.2.2.2.2.2.2.1
  blk_ext! [iblk, hi]

theorem iblk11_apply (c : Dev nD) (t : Fin cfg0.N) (k : Fin 1024) : iblk m c 11 t (ix2 0 k) = V m c main_v90 (ix2 0 k) := by
  have hi := (idx t).2.2.2.2.2.2.2.2.2.2.2.1
  blk_ext! [iblk, hi]

end Cert.KernelIdeal.Hand

end
-- ==== Proof.LruPad.lean ====
/-
  The recurrent kernel's arithmetic against the layer's: the recurrence's input through the hyperbolic tangent and the reciprocal root,
  the sums filled with zeros to 1408 channels, and the band of a block-diagonal matrix that holds a block.
-/
module

public import proofs.«01_k».proof.Proof.LruHost

@[expose] public section

noncomputable section

namespace Cert.KernelIdeal.Hand

open Cert.KernelIdeal Cert.KernelIdeal.Gen Cert.Math
open Idealize.ShloMosaic Idealize.ShloMosaic.TcCoe

/-- The word of −8. -/
theorem eight_eq : Ideal.ofBits .f32 0xC1000000#32 = ((-8 : ℝ) : EReal) := by
  simp [Ideal.ofBits, Ideal.ieee, -EReal.coe_mul]; norm_num

/-- The word of 2. -/
theorem two_eq : Ideal.ofBits .f32 0x40000000#32 = ((2 : ℝ) : EReal) := by
  simp [Ideal.ofBits, Ideal.ieee, -EReal.coe_mul]; norm_num

theorem exp_nonneg (x : EReal) : 0 ≤ Ideal.exp x := by
  induction x with
  | bot => exact le_rfl
  | top => exact le_top
  | coe r => rw [Ideal.exp_coe]; exact_mod_cast (Real.exp_pos r).le

theorem log1p_nonneg (x : EReal) (h : 0 ≤ x) : 0 ≤ Ideal.log1p x := by
  unfold Ideal.log1p
  induction x with
  | bot => exact absurd (le_bot_iff.mp h) EReal.zero_ne_bot
  | top => exact le_top
  | coe r =>
    have hr : 0 ≤ r := by exact_mod_cast h
    rw [show (1 : EReal) + (r : EReal) = ((1 + r : ℝ) : EReal) by norm_cast, Ideal.log_coe, if_neg (by linarith)]
    exact_mod_cast Real.log_nonneg (by linarith)

/-- The softplus function is nowhere negative. -/
theorem softplus_nonneg (x : EReal) : 0 ≤ softplus x :=
  add_nonneg (le_max_right _ _) (log1p_nonneg _ (exp_nonneg _))

theorem logistic_nonneg (x : EReal) : 0 ≤ Ideal.logistic x := by
  induction x with
  | bot => rw [Ideal.logistic_bot]
  | top => rw [Ideal.logistic_top]; exact zero_le_one
  | coe r => rw [Ideal.logistic_coe]; exact_mod_cast inv_nonneg.mpr (by positivity)

/-- The decay's logarithm is nowhere positive. -/
theorem logDecayAt_nonpos (x sp : EReal) (h : 0 ≤ sp) : logDecayAt (Ideal.logistic x) sp ≤ 0 := by
  unfold logDecayAt
  rw [eight_eq]
  refine mul_nonpos_of_nonpos_of_nonneg (mul_nonpos_of_nonpos_of_nonneg ?_ (logistic_nonneg x)) h
  exact_mod_cast (by norm_num : (-8 : ℝ) ≤ 0)

/-- One minus the square of the decay, through the hyperbolic tangent. -/
theorem oneMinus_eq (y : ℝ) : -Real.tanh y * (1 + Real.exp y * Real.exp y) = 1 - Real.exp (2 * y) := by
  have h1 : Real.exp (-y) = (Real.exp y)⁻¹ := Real.exp_neg y
  have h2 : Real.exp (2 * y) = Real.exp y * Real.exp y := by rw [← Real.exp_add]; ring_nf
  have hp := Real.exp_pos y
  rw [Real.tanh_eq_sinh_div_cosh, Real.sinh_eq, Real.cosh_eq, h1, h2]
  field_simp
  ring

/-- The kernel's drive is the layer's, where the decay's logarithm is not positive. -/
theorem driveK_eq (la i y : EReal) (h : la ≤ 0) : driveK la i y = driveAt la i y := by
  unfold driveK driveAt
  congr 1
  rw [two_eq]
  induction la with
  | bot =>
    rw [EReal.coe_mul_bot_of_pos (by norm_num)]
    have h1 : Ideal.sqrt ((1 : ℝ) : EReal) = 1 := by rw [Ideal.sqrt_coe]; norm_num
    have h2 : Ideal.rsqrt ((1 : ℝ) : EReal) = 1 := by rw [Ideal.rsqrt_coe]; norm_num
    simp only [EReal.coe_one] at h1 h2
    simp [h1, h2]
  | top => exact absurd (top_le_iff.mp h) EReal.zero_ne_top
  | coe r =>
    have hr : r ≤ 0 := by exact_mod_cast h
    have e1 : (0 - Ideal.tanh (r : EReal)) * (1 + Ideal.exp (r : EReal) * Ideal.exp (r : EReal)) = ((1 - Real.exp (2 * r) : ℝ) : EReal) := by
      rw [← oneMinus_eq, Ideal.tanh_coe, Ideal.exp_coe, zero_sub]
      norm_cast
    have e2 : -(Ideal.exp (((2 : ℝ) : EReal) * (r : EReal)) - 1) = ((1 - Real.exp (2 * r) : ℝ) : EReal) := by
      rw [← EReal.coe_mul, Ideal.exp_coe]
      rw [show ((Real.exp (2 * r) : ℝ) : EReal) - 1 = ((Real.exp (2 * r) - 1 : ℝ) : EReal) by norm_cast, ← EReal.coe_neg]
      congr 1
      ring
    rw [e1, e2, Ideal.sqrt_coe, Ideal.rsqrt_coe]
    have hv : 0 ≤ 1 - Real.exp (2 * r) := by
      have := Real.exp_le_one_iff.mpr (show 2 * r ≤ 0 by linarith)
      linarith
    generalize 1 - Real.exp (2 * r) = v at hv
    rw [if_neg (not_lt.mpr hv)]
    rcases hv.eq_or_lt with h0 | h0
    · subst h0
      simp
    · rw [if_pos (by exact_mod_cast h0), if_neg (not_lt.mpr hv), if_neg h0.ne', ← EReal.coe_mul]
      congr 1
      rw [← div_eq_mul_inv, Real.div_sqrt]

/-- A sum over the filled channels is one over the 1344. -/
theorem sum_filled (f : Fin 1408 → EReal) (h : ∀ j : Fin 1408, 1344 ≤ j.val → f j = 0) :
    ∑ j, f j = ∑ j : Fin 1344, f ⟨j.val, by omega⟩ := by
  symm
  refine Fintype.sum_of_injective (fun j : Fin 1344 => (⟨j.val, by omega⟩ : Fin 1408)) (fun a b e => Fin.ext (by simpa using e)) _ _ ?_ fun _ => rfl
  intro j hj
  refine h j (not_lt.mp fun hlt => hj ⟨⟨j.val, hlt⟩, rfl⟩)

/-- The band of a block-diagonal matrix that holds a column sums to the column's block. -/
theorem sum_band (w : Fin 16 → Fin 84 → Fin 84 → EReal) (y : ℕ → EReal) (l : Fin 1344) :
    (∑ i : Fin 384, y (bandLo (l / 128) + i) * blockAt w (bandLo (l / 128) + i) l)
      = ∑ k : Fin 84, w ⟨l / 84, by omega⟩ k ⟨l % 84, by omega⟩ * y (84 * (l / 84) + k) := by
  have hl := l.isLt
  have hlo : bandLo (l / 128) ≤ 84 * (l.val / 84) := by unfold bandLo; omega
  have hhi : 84 * (l.val / 84) + 84 ≤ bandLo (l / 128) + 384 := by unfold bandLo; omega
  generalize bandLo (l / 128) = lo at hlo hhi
  symm
  refine Fintype.sum_of_injective (fun k : Fin 84 => (⟨84 * (l.val / 84) - lo + k.val, by omega⟩ : Fin 384)) (fun a b e => Fin.ext (by simpa using e)) _ _ ?_ ?_
  · intro i hi
    have hz : blockAt w (lo + i) l = 0 := by
      unfold blockAt
      split
      · next h =>
        rw [if_neg, mul_zero]
        intro he
        refine hi ⟨⟨lo + i - 84 * (l.val / 84), by omega⟩, Fin.ext ?_⟩
        simp only
        omega
      · rfl
    rw [hz, mul_zero]
  · intro k
    have e : lo + (84 * (l.val / 84) - lo + k.val) = 84 * (l.val / 84) + k := by omega
    simp only [e]
    have hk := k.isLt
    have hd : (84 * (l.val / 84) + k.val) / 84 = l.val / 84 := by omega
    have hm : (84 * (l.val / 84) + k.val) % 84 = k.val := by omega
    unfold blockAt
    rw [dif_pos ⟨by omega, hl⟩, if_pos hd, mul_one, mul_comm]
    simp only [hd, hm]

end Cert.KernelIdeal.Hand

end
-- ==== Proof.LruValue.lean ====
/-
  A tile of the recurrent kernel against the layer: with the weights filled with zeros and the tile's rows under the halo of the tile
  before, the convolved values, the decays, the drives and the states of the 1344 channels are the layer's at the tile's times.
-/
module

public import proofs.«01_k».proof.Proof.LruPad
public import proofs.«01_k».proof.Proof.LruFrameIdeal

@[expose] public section

noncomputable section

namespace Cert.KernelIdeal.Hand

open Cert.KernelIdeal Cert.KernelIdeal.Gen Cert.Math
open Idealize.ShloMosaic Idealize.ShloMosaic.TcCoe

/-- The blocks a tile's work reads, as the layer's arguments filled with zeros. -/
structure Filled (A : LruArgs) (x5 : Vec Ideal S4x1408 .f32) (x6 : Vec Ideal S1x1408 .f32) (x7 : Vec Ideal S11x384x256 .bf16)
    (x8 x9 x10 : Vec Ideal S1x1408 .f32) : Prop where
  h5 : ∀ k l, x5 (ix2 k l) = fillAt (A.cw k) l.val
  h6 : ∀ l, x6 (ix2 0 l) = fillAt A.cb l.val
  h7 : ∀ j i k, x7 (ix3 j i k) = blockAt (if k.val < 128 then A.wa else A.wx) (bandLo j.val + i.val) (128 * j.val + k.val % 128)
  h8 : ∀ l, x8 (ix2 0 l) = fillAt A.ba l.val
  h9 : ∀ l, x9 (ix2 0 l) = fillAt A.bx l.val
  h10 : ∀ l, x10 (ix2 0 l) = fillAt A.lam l.val

/-- A tile's rows under its halo, as the layer's sequences from time `T - 3` on. -/
def Seq (A : LruArgs) (T : ℕ) (R : Fin 536 → Fin 1408 → EReal) : Prop :=
  ∀ r l, R r l = fillAt (fun l => A.padded ⟨r.val % 8, Nat.mod_lt _ (by decide)⟩ l (T + r.val / 8)) l.val

theorem fill_pos (f : Fin 1344 → EReal) (l : ℕ) (h : l < 1344) : fillAt f l = f ⟨l, h⟩ := dif_pos h
theorem fill_neg (f : Fin 1344 → EReal) (l : ℕ) (h : ¬l < 1344) : fillAt f l = 0 := dif_neg h

section Tile

variable {A : LruArgs} {x5 : Vec Ideal S4x1408 .f32} {x6 : Vec Ideal S1x1408 .f32} {x7 : Vec Ideal S11x384x256 .bf16}
  {x8 x9 x10 : Vec Ideal S1x1408 .f32} (F : Filled A x5 x6 x7 x8 x9 x10) {T : ℕ} {R : Fin 536 → Fin 1408 → EReal} (hR : Seq A T R)

/-- A row of the taps. -/
theorem tapRow (x5 : Vec Ideal S4x1408 .f32) (k : ℕ) (hk : k < 4) (l : Fin 1408) :
    VecWindow.window x5 ![k, 0] S1x1408.size (inb_wrow k hk) (ix2 (n0 := 1) (n1 := 1408) 0 l) = x5 (ix2 ⟨k, hk⟩ l) := by
  refine window_at x5 ![k, 0] S1x1408.size (inb_wrow k hk) (ix2 (n0 := 1) (n1 := 1408) 0 l) (ix2 ⟨k, hk⟩ l) fun a => ?_
  fin_cases a
  · show k = k + 0; omega
  · show l.val = 0 + l.val; omega

/-- A chunk of the biases. -/
theorem biasCol (x : Vec Ideal S1x1408 .f32) (j : ℕ) (hj : j < 11) (k : Fin 128) :
    VecWindow.window x ![0, 128 * j] S1x128.size (inb_bias j hj) (ix2 (n0 := 1) (n1 := 128) 0 k) = x (ix2 0 ⟨128 * j + k.val, by omega⟩) := by
  refine window_at x ![0, 128 * j] S1x128.size (inb_bias j hj) (ix2 (n0 := 1) (n1 := 128) 0 k) (ix2 0 ⟨128 * j + k.val, by omega⟩) fun a => ?_
  fin_cases a
  · show 0 = 0 + 0; omega
  · show 128 * j + k.val = 128 * j + k.val; omega

/-- A band. -/
theorem bandRow (x7 : Vec Ideal S11x384x256 .bf16) (j : ℕ) (hj : j < 11) (i : Fin 384) (k : Fin 256) :
    VecWindow.window x7 ![j, 0, 0] S1x384x256.size (inb_band j hj) (ix3 (n0 := 1) (n1 := 384) (n2 := 256) 0 i k) = x7 (ix3 ⟨j, hj⟩ i k) := by
  refine window_at x7 ![j, 0, 0] S1x384x256.size (inb_band j hj) (ix3 (n0 := 1) (n1 := 384) (n2 := 256) 0 i k) (ix3 ⟨j, hj⟩ i k) fun a => ?_
  fin_cases a
  · show j = j + 0; omega
  · show i.val = 0 + i.val; omega
  · show k.val = 0 + k.val; omega

include F hR in
/-- The convolved values. -/
theorem y_apply (r : Fin 512) (l : Fin 1408) :
    yOf (F := Ideal) R x5 x6 (ix2 r l) = fillAt (A.conv ⟨r.val % 8, Nat.mod_lt _ (by decide)⟩ (T + r.val / 8)) l.val := by
  unfold yOf
  rw [convVal_apply, tapRow x5 0 (by decide), tapRow x5 1 (by decide), tapRow x5 2 (by decide), tapRow x5 3 (by decide)]
  simp only [F.h6, F.h5]
  have ht : ∀ k : ℕ, k < 4 → tapOf (F := Ideal) R k (ix3 0 r l) = fillAt (fun l => A.padded ⟨r.val % 8, Nat.mod_lt _ (by decide)⟩ l (T + r.val / 8 + k)) l.val := by
    intro k hk
    have e : (8 * k + r.val) % 536 = 8 * k + r.val := Nat.mod_eq_of_lt (by omega)
    show R ⟨(8 * k + r.val) % 536, _⟩ l = _
    rw [hR]
    have e1 : (8 * k + r.val) % 536 % 8 = r.val % 8 := by omega
    have e2 : T + (8 * k + r.val) % 536 / 8 = T + r.val / 8 + k := by omega
    simp only [e1, e2]
  rw [ht 0 (by decide), ht 1 (by decide), ht 2 (by decide), ht 3 (by decide)]
  by_cases h : l.val < 1344
  · simp only [fill_pos _ _ h]
    rfl
  · simp only [fill_neg _ _ h, zero_mul, add_zero]

/-- A gate of a chunk is the layer's gate. -/
theorem gate_apply (Y : Fin 1344 → EReal) (yb : FVec Ideal S512x1408 .bf16) (r : Fin 512) (hy : ∀ l : Fin 1408, yb (ix2 r l) = fillAt Y l.val)
    (w : Fin 16 → Fin 84 → Fin 84 → EReal) (b : Fin 1344 → EReal) (l : Fin 1344) (W : Fin 384 → EReal) (c : EReal)
    (hW : ∀ i, W i = blockAt w (bandLo (l.val / 128) + i.val) l.val) (hc : c = b l) :
    Ideal.logistic ((∑ i : Fin 384, yb (ix2 r ⟨bandLo (l.val / 128) + i, by unfold bandLo; omega⟩) * W i) + c) = gateAt Y w b l := by
  unfold gateAt
  rw [hc]
  have hl := l.isLt
  have e : (∑ i : Fin 384, yb (ix2 r ⟨bandLo (l.val / 128) + i, by unfold bandLo; omega⟩) * W i)
      = ∑ i : Fin 384, fillAt Y (bandLo (l.val / 128) + i.val) * blockAt w (bandLo (l.val / 128) + i.val) l.val :=
    Finset.sum_congr rfl fun i _ => by rw [hy, hW]
  rw [e, sum_band w (fillAt Y) l]
  congr 2
  refine Finset.sum_congr rfl fun k _ => ?_
  rw [fill_pos]

include F hR in
/-- The gates of the tile. -/
theorem recGate_tile (r : Fin 512) (l : Fin 1344) (j : ℕ) (hj : j < 11) (e : j = l.val / 128) (k : Fin 128) (ek : k.val = l.val % 128) :
    recGate (F := Ideal) j hj (truncf .bf16 (yOf R x5 x6) bitsLt_bf16_f32) (VecWindow.window x7 ![j, 0, 0] S1x384x256.size (inb_band j hj))
      (VecWindow.window x8 ![0, 128 * j] S1x128.size (inb_bias j hj)) (ix2 r k)
      = gateAt (A.conv ⟨r.val % 8, Nat.mod_lt _ (by decide)⟩ (T + r.val / 8)) A.wa A.ba l := by
  subst e
  have hk := k.isLt
  have e2 : 128 * (l.val / 128) + k.val = l.val := by omega
  rw [recGate_apply]
  refine gate_apply (A.conv ⟨r.val % 8, Nat.mod_lt _ (by decide)⟩ (T + r.val / 8)) _ r (fun l => y_apply F hR r l) A.wa A.ba l _ _ (fun i => ?_) ?_
  · refine (bandRow x7 _ hj i _).trans ((F.h7 _ _ _).trans ?_)
    simp only
    rw [if_pos hk, Nat.mod_eq_of_lt hk, e2]
  · refine (biasCol x8 _ hj k).trans ((F.h8 _).trans ?_)
    simp only [e2]
    exact fill_pos _ _ l.isLt

include F hR in
theorem inGate_tile (r : Fin 512) (l : Fin 1344) (j : ℕ) (hj : j < 11) (e : j = l.val / 128) (k : Fin 128) (ek : k.val = l.val % 128) :
    inGate (F := Ideal) j hj (truncf .bf16 (yOf R x5 x6) bitsLt_bf16_f32) (VecWindow.window x7 ![j, 0, 0] S1x384x256.size (inb_band j hj))
      (VecWindow.window x9 ![0, 128 * j] S1x128.size (inb_bias j hj)) (ix2 r k)
      = gateAt (A.conv ⟨r.val % 8, Nat.mod_lt _ (by decide)⟩ (T + r.val / 8)) A.wx A.bx l := by
  subst e
  have hk := k.isLt
  have e2 : 128 * (l.val / 128) + k.val = l.val := by omega
  rw [inGate_apply]
  refine gate_apply (A.conv ⟨r.val % 8, Nat.mod_lt _ (by decide)⟩ (T + r.val / 8)) _ r (fun l => y_apply F hR r l) A.wx A.bx l _ _ (fun i => ?_) ?_
  · refine (bandRow x7 _ hj i _).trans ((F.h7 _ _ _).trans ?_)
    simp only
    rw [if_neg (by omega), show (128 + k.val) % 128 = k.val by omega, e2]
  · refine (biasCol x9 _ hj k).trans ((F.h9 _).trans ?_)
    simp only [e2]
    exact fill_pos _ _ l.isLt

include F in
/-- The rates. -/
theorem rate_tile (l : Fin 1344) (p : Fin 1408) (hp : p.val = l.val) : rateOf (F := Ideal) x10 (ix2 0 p) = softplus (-A.lam l) := by
  rw [rateOf_apply, F.h10, hp, fill_pos _ _ l.isLt]

include F hR in
/-- The decays. -/
theorem a_apply (r : Fin 512) (l : Fin 1344) :
    aOf (F := Ideal) R x5 x6 x7 x8 x10 (ix2 r ⟨l.val, by omega⟩) = A.decay ⟨r.val % 8, Nat.mod_lt _ (by decide)⟩ (T + r.val / 8) l := by
  have hj : l.val / 128 < 11 := by omega
  have e : aOf (F := Ideal) R x5 x6 x7 x8 x10 (ix2 r ⟨l.val, by omega⟩)
      = shapeCast S512x128 (Hand.decay (F := Ideal) (l.val / 128) hj (rateOf x10) (recGate _ hj (truncf .bf16 (yOf R x5 x6) bitsLt_bf16_f32)
          (VecWindow.window x7 ![l.val / 128, 0, 0] S1x384x256.size (inb_band _ hj))
          (VecWindow.window x8 ![0, 128 * (l.val / 128)] S1x128.size (inb_bias _ hj)))) shapeCasts_S512x128_S512x128
          (ix2 (n0 := 512) (n1 := 128) r ⟨l.val % 128, Nat.mod_lt _ (by decide)⟩) := rfl
  rw [e, shapeCast_self, decay_apply, recGate_tile F hR r l _ hj rfl _ rfl, rate_tile F l _ (by simp only; omega)]
  rfl

include F hR in
/-- The inputs to the recurrence. -/
theorem u_apply (r : Fin 512) (l : Fin 1344) :
    uOf (F := Ideal) R x5 x6 x7 x8 x9 x10 (ix2 r ⟨l.val, by omega⟩) = A.drive ⟨r.val % 8, Nat.mod_lt _ (by decide)⟩ (T + r.val / 8) l := by
  have hj : l.val / 128 < 11 := by omega
  have e : uOf (F := Ideal) R x5 x6 x7 x8 x9 x10 (ix2 r ⟨l.val, by omega⟩)
      = shapeCast S512x128 (Hand.drive (F := Ideal) (l.val / 128) hj (rateOf x10)
          (recGate _ hj (truncf .bf16 (yOf R x5 x6) bitsLt_bf16_f32)
            (VecWindow.window x7 ![l.val / 128, 0, 0] S1x384x256.size (inb_band _ hj))
            (VecWindow.window x8 ![0, 128 * (l.val / 128)] S1x128.size (inb_bias _ hj)))
          (inGate _ hj (truncf .bf16 (yOf R x5 x6) bitsLt_bf16_f32)
            (VecWindow.window x7 ![l.val / 128, 0, 0] S1x384x256.size (inb_band _ hj))
            (VecWindow.window x9 ![0, 128 * (l.val / 128)] S1x128.size (inb_bias _ hj))) (yOf R x5 x6)) shapeCasts_S512x128_S512x128
          (ix2 (n0 := 512) (n1 := 128) r ⟨l.val % 128, Nat.mod_lt _ (by decide)⟩) := rfl
  have e2 : 128 * (l.val / 128) + l.val % 128 = l.val := Nat.div_add_mod _ _
  have hn : logDecayAt (gateAt (A.conv ⟨r.val % 8, Nat.mod_lt _ (by decide)⟩ (T + r.val / 8)) A.wa A.ba l) (softplus (-A.lam l)) ≤ 0 :=
    logDecayAt_nonpos _ _ (softplus_nonneg _)
  rw [e, shapeCast_self, drive_apply, recGate_tile F hR r l _ hj rfl _ rfl, inGate_tile F hR r l _ hj rfl _ rfl,
    rate_tile F l _ e2, y_apply F hR, driveK_eq _ _ _ hn]
  simp only [e2]
  rw [fill_pos _ _ l.isLt]
  rfl

include F hR in
/-- The states of the tile, from the state before it. -/
theorem state_apply (h0 : FVec Ideal S8x1408 .f32) (hh : ∀ (b : Fin 8) (l : Fin 1344), h0 (ix2 b ⟨l.val, by omega⟩) = A.state b l T)
    (b : Fin 8) (l : Fin 1344) : ∀ t : ℕ, t ≤ 64 →
    stateAt (aOf (F := Ideal) R x5 x6 x7 x8 x10) (uOf R x5 x6 x7 x8 x9 x10) h0 t (ix2 b ⟨l.val, by omega⟩) = A.state b l (T + t)
  | 0, _ => hh b l
  | t + 1, ht => by
    have ih := state_apply h0 hh b l t (by omega)
    have hb := b.isLt
    have er : (8 * t + b.val) % 512 = 8 * t + b.val := Nat.mod_eq_of_lt (by omega)
    have e1 : (8 * t + b.val) % 8 = b.val := by omega
    have e2 : T + (8 * t + b.val) / 8 = T + t := by omega
    have ea := a_apply F hR ⟨8 * t + b.val, by omega⟩ l
    have eu := u_apply F hR ⟨8 * t + b.val, by omega⟩ l
    simp only [e1, e2] at ea eu
    show aOf (F := Ideal) R x5 x6 x7 x8 x10 (ix2 ⟨(8 * t + b.val) % 512, _⟩ ⟨l.val, _⟩) * stateAt (aOf (F := Ideal) R x5 x6 x7 x8 x10) (uOf R x5 x6 x7 x8 x9 x10) h0 t (ix2 b ⟨l.val, _⟩)
      + uOf (F := Ideal) R x5 x6 x7 x8 x9 x10 (ix2 ⟨(8 * t + b.val) % 512, _⟩ ⟨l.val, _⟩) = _
    simp only [er]
    rw [ih, ea, eu]
    rfl

end Tile

section Run

variable (m : (ℓ : Loc nD τ sig) → Buf (Elt Ideal) ℓ)

/-- The layer's arguments, off the arguments' arrays. -/
def argsK (c : Dev nD) : LruArgs where
  x r k := m ((c.tc : Thread nD τ).loc main_arg0) (ix2 r k)
  gpre k := m ((c.tc : Thread nD τ).loc main_arg1) (ix1 k)
  win k j := m ((c.tc : Thread nD τ).loc main_arg2) (ix2 k j)
  cw k l := m ((c.tc : Thread nD τ).loc main_arg3) (ix2 k l)
  cb l := m ((c.tc : Thread nD τ).loc main_arg4) (ix1 l)
  wa n k d := m ((c.tc : Thread nD τ).loc main_arg5) (ix3 n k d)
  ba l := m ((c.tc : Thread nD τ).loc main_arg6) (ix1 l)
  wx n k d := m ((c.tc : Thread nD τ).loc main_arg7) (ix3 n k d)
  bx l := m ((c.tc : Thread nD τ).loc main_arg8) (ix1 l)
  lam l := m ((c.tc : Thread nD τ).loc main_arg9) (ix1 l)
  wout j l := m ((c.tc : Thread nD τ).loc main_arg10) (ix2 j l)
  gpost l := m ((c.tc : Thread nD τ).loc main_arg11) (ix1 l)

/-- The blocks of the parameters are the layer's, filled with zeros, at every point. -/
theorem filled (c : Dev nD) (t : Fin cfg0.N) :
    Filled (argsK m c) (iblk m c 4 t) (iblk m c 5 t) (iblk m c 6 t) (iblk m c 7 t) (iblk m c 8 t) (iblk m c 9 t) where
  h5 k l := (iblk4_apply m c t k l).trans (V7_apply m c k l)
  h6 l := (iblk5_apply m c t l).trans (V9_apply m c l)
  h7 j i k := (iblk6_apply m c t j i k).trans (V81_block m c j i k)
  h8 l := (iblk7_apply m c t l).trans (V83_apply m c l)
  h9 l := (iblk8_apply m c t l).trans (V85_apply m c l)
  h10 l := (iblk9_apply m c t l).trans (V87_apply m c l)

theorem N_eq : cfg0.N = 65 := N_0

theorem pt_eq (n : ℕ) (h : n < 65) : (pt n).val = n := by unfold pt; rw [dif_pos (by rw [N_eq]; exact h)]

/-- A tile's rows, normalised. -/
theorem rows_apply (c : Dev nD) (n : ℕ) (hn : n < 64) (r : Fin 512) (k : Fin 1024) (P : Fin 32768) (hP : P.val = 512 * n + r.val) :
    rowsD m c n (ix2 r k) = norm ((argsK m c).x P) (argsK m c).gpre k := by
  unfold rowsD
  rw [pay19_apply]
  have e1 : (fun k => iblk m c 0 (pt n) (ix2 r k)) = (argsK m c).x P := funext fun k =>
    iblk0_apply m c (pt n) r k P (by rw [pt_eq n (by omega), hP]; omega)
  have e2 : (fun k => iblk m c 2 (pt n) (ix2 0 k)) = (argsK m c).gpre := funext fun k => (iblk2_apply m c (pt n) k).trans (V5_apply m c k)
  rw [e1, e2]

/-- A product with the projection's weights, its two halves each filled with zeros. -/
theorem sum_cols (x : Fin 1024 → EReal) (w : Fin 1024 → Fin 2816 → EReal) (v : Fin 1024 → Fin 2688 → EReal) (j : Fin 2816)
    (hw : ∀ k, w k j = if j.val < 1408 then fillAt (fun l => v k ⟨l.val, by omega⟩) j.val
      else fillAt (fun l => v k ⟨1344 + l.val, by omega⟩) (j.val - 1408)) :
    vecMat x w j = if j.val < 1408 then fillAt (fun l => ∑ k, x k * v k ⟨l.val, by omega⟩) j.val
      else fillAt (fun l => ∑ k, x k * v k ⟨1344 + l.val, by omega⟩) (j.val - 1408) := by
  unfold vecMat
  simp only [hw]
  by_cases h : j.val < 1408
  · simp only [if_pos h]
    by_cases h' : j.val < 1344
    · simp only [fill_pos _ _ h']
    · simp only [fill_neg _ _ h', mul_zero, Finset.sum_const_zero]
  · simp only [if_neg h]
    by_cases h' : j.val - 1408 < 1344
    · simp only [fill_pos _ _ h']
    · simp only [fill_neg _ _ h', mul_zero, Finset.sum_const_zero]

/-- A column of a tile's projection. -/
theorem proj_apply (c : Dev nD) (n : ℕ) (hn : n < 64) (r : Fin 512) (j : Fin 2816) (P : Fin 32768) (hP : P.val = 512 * n + r.val) :
    projAll (F := Ideal) (rowsD m c n) (iblk m c 3 (pt n)) r j
      = if j.val < 1408 then fillAt (fun l => (argsK m c).proj P ⟨l.val, by omega⟩) j.val
        else fillAt (fun l => (argsK m c).proj P ⟨1344 + l.val, by omega⟩) (j.val - 1408) := by
  rw [projAll_apply]
  have e1 : (fun k => rowsD m c n (ix2 r k)) = norm ((argsK m c).x P) (argsK m c).gpre := funext fun k => rows_apply m c n hn r k P hP
  rw [e1]
  generalize hx : norm ((argsK m c).x P) (argsK m c).gpre = x
  have hp : ∀ j, (argsK m c).proj P j = ∑ k, x k * (argsK m c).win k j := fun j => by subst hx; rfl
  simp only [hp]
  exact sum_cols x _ _ j (fun k => (iblk3_apply m c (pt n) k j).trans (V6_apply m c k j))

/-- A tile's rows below its halo are the layer's sequences at the tile's times. -/
theorem below_halo (c : Dev nD) (n : ℕ) (hn : n < 64) (r : Fin 536) (h : ¬r.val < 24) (l : Fin 1408) :
    projAll (F := Ideal) (rowsD m c n) (iblk m c 3 (pt n)) ⟨r.val - 24, by omega⟩ ⟨1408 + l.val, by omega⟩
      = fillAt (fun l => (argsK m c).padded ⟨r.val % 8, Nat.mod_lt _ (by decide)⟩ l (64 * n + r.val / 8)) l.val := by
  have hr := r.isLt
  rw [proj_apply m c n hn _ _ ⟨512 * n + (r.val - 24), by omega⟩ rfl]
  simp only
  rw [if_neg (by omega), show 1408 + l.val - 1408 = l.val by omega]
  refine congrArg (fun f => fillAt f l.val) (funext fun l => ?_)
  unfold LruArgs.padded
  rw [dif_pos ⟨by omega, by omega⟩]
  congr 1
  exact Fin.ext (by simp only; omega)

/-- A tile's rows under its halo are the layer's sequences. -/
theorem seq_recD (c : Dev nD) : ∀ n : ℕ, n < 64 → Seq (argsK m c) (64 * n) (recD m c n)
  | 0, hn => fun r l => by
    by_cases h : r.val < 24
    · have e : recD m c 0 r l = k0_pay4 (F := Ideal) (ix3 0 ⟨r.val, h⟩ l) := dif_pos h
      rw [e]
      have e0 : (fun l => (argsK m c).padded ⟨r.val % 8, Nat.mod_lt _ (by decide)⟩ l (64 * 0 + r.val / 8)) = fun _ => 0 := by
        funext l
        unfold LruArgs.padded
        rw [dif_neg (by omega)]
      rw [e0]
      have e1 : fillAt (fun _ => 0) l.val = 0 := by unfold fillAt; split <;> rfl
      rw [e1]
      pointwise [k0_pay4]
    · exact (dif_neg h : recD m c 0 r l = _).trans (below_halo m c 0 hn r h l)
  | n + 1, hn => fun r l => by
    by_cases h : r.val < 24
    · have e : recD m c (n + 1) r l = k0_pay25 (tailOf (recD m c n)) (ix3 0 ⟨r.val, h⟩ l) := dif_pos h
      have e1 : k0_pay25 (tailOf (recD m c n)) (ix3 0 ⟨r.val, h⟩ l) = recD m c n ⟨(512 + r.val) % 536, Nat.mod_lt _ (by decide)⟩ l := by
        pointwise [k0_pay25]
        rfl
      rw [e, e1, seq_recD c n (by omega)]
      have e2 : (512 + r.val) % 536 % 8 = r.val % 8 := by omega
      have e3 : 64 * n + (512 + r.val) % 536 / 8 = 64 * (n + 1) + r.val / 8 := by omega
      simp only [e2, e3]
    · exact (dif_neg h : recD m c (n + 1) r l = _).trans (below_halo m c (n + 1) hn r h l)

/-- The state before a tile is the layer's. -/
theorem state_before (c : Dev nD) (b : Fin 8) (l : Fin 1344) : ∀ n : ℕ, n < 64 → hD m c n (ix2 b ⟨l.val, by omega⟩) = (argsK m c).state b l (64 * n)
  | 0, _ => by
    show k0_pay5 (F := Ideal) (ix2 b ⟨l.val, _⟩) = 0
    pointwise [k0_pay5]
  | n + 1, hn => by
    have ih := fun b l => state_before c b l n (by omega)
    exact state_apply (filled m c (pt (n + 1))) (seq_recD m c n (by omega)) (hD m c n) ih b l 64 (le_refl _)

/-- A product with the output projection's weights, filled with zeros. -/
theorem sum_rows (x : Fin 1408 → EReal) (w : Fin 1408 → Fin 1024 → EReal) (x' : Fin 1344 → EReal) (v : Fin 1344 → Fin 1024 → EReal) (l : Fin 1024)
    (hw : ∀ j, w j l = fillAt (fun j => v j l) j.val) (hx : ∀ j : Fin 1344, x ⟨j.val, by omega⟩ = x' j) : vecMat x w l = vecMat x' v l := by
  unfold vecMat
  simp only [hw]
  rw [sum_filled _ fun j hj => by rw [fill_neg _ _ (not_lt.mpr hj), mul_zero]]
  refine Finset.sum_congr rfl fun j _ => ?_
  rw [fill_pos _ _ j.isLt, hx]

/-- The output block of a point is the layer's rows. -/
theorem out_apply (c : Dev nD) (t : Fin cfg0.N) (ht : 1 ≤ t.val) (r : Fin 512) (l : Fin 1024) (P : Fin 32768) (hP : P.val = 512 * (t.val - 1) + r.val) :
    out m c t (ix2 r l) = (argsK m c).row P l := by
  have hN : t.val < 65 := lt_of_lt_of_eq t.isLt N_eq
  have hr := r.isLt
  have hn : t.val - 1 < 64 := by omega
  unfold out outOf
  rw [outVal_apply]
  have e0 : iblk m c 1 t (ix2 r l) = (argsK m c).x P l := iblk1_apply m c t r l P hP
  have e2 : (fun l => iblk m c 11 t (ix2 0 l)) = (argsK m c).gpost := funext fun k => (iblk11_apply m c t k).trans (V90_apply m c k)
  rw [e0, e2]
  unfold LruArgs.row
  refine congrArg (fun f => (argsK m c).x P l + norm f (argsK m c).gpost l) (funext fun l => ?_)
  refine sum_rows _ _ _ _ l (fun j => (iblk10_apply m c t j l).trans (V89_apply m c j l)) fun j => ?_
  have eg : gateVec (F := Ideal) (gateD m c (t.val - 1)) (ix3 0 r ⟨j.val, by omega⟩) = (argsK m c).proj P ⟨j.val, by omega⟩ := by
    refine (proj_apply m c (t.val - 1) hn r ⟨j.val, by omega⟩ P hP).trans ?_
    rw [if_pos (by simp only; omega), fill_pos _ _ j.isLt]
  have es := state_apply (filled m c t) (seq_recD m c (t.val - 1) hn) (hD m c (t.val - 1)) (fun b l => state_before m c b l (t.val - 1) hn)
    ⟨r.val % 8, Nat.mod_lt _ (by decide)⟩ j (r.val / 8 + 1) (by omega)
  have eh : scanned (aOf (F := Ideal) (recD m c (t.val - 1)) (iblk m c 4 t) (iblk m c 5 t) (iblk m c 6 t) (iblk m c 7 t) (iblk m c 9 t))
      (uOf (recD m c (t.val - 1)) (iblk m c 4 t) (iblk m c 5 t) (iblk m c 6 t) (iblk m c 7 t) (iblk m c 8 t) (iblk m c 9 t)) (hD m c (t.val - 1)) 64
      (ix2 r ⟨j.val, by omega⟩) = (argsK m c).state ⟨P.val % 8, Nat.mod_lt _ (by decide)⟩ j (P.val / 8 + 1) := by
    refine (if_pos (show r.val < 8 * 64 by omega)).trans (es.trans ?_)
    have e3 : P.val % 8 = r.val % 8 := by omega
    have e4 : 64 * (t.val - 1) + (r.val / 8 + 1) = P.val / 8 + 1 := by omega
    simp only [e3, e4]
  rw [eg]
  exact congrArg _ eh

/-- The result array. -/
def G (c : Dev nD) : Buf (Elt Ideal) ((c.tc : Thread nD τ).loc main_v91) := fun i : S32768x1024.Idx => (argsK m c).row (i 0) (i 1)

/-- The result's array after the run. -/
theorem arrAt12 (c : Dev nD) : (dats m 0 c).arrAt 12 cfg0.N = G m c := by
  refine (dats m 0 c).arrAt_eq_of_covers 12 _ (by decide +kernel) fun t hf y => ?_
  have ht := flush_ge t hf
  have hi := (idx t).2.2.2.2.2.2.2.2.2.2.2.2
  have hN : t.val < 65 := lt_of_lt_of_eq t.isLt N_eq
  blk_simp
  rw [after12]
  obtain ⟨r, l, rfl⟩ : ∃ (r : Fin 512) (l : Fin 1024), y = ix2 r l := ⟨y 0, y 1, by idx_ext⟩
  have e1 : (((win0_12.blk t).view.emb (ix2 r l)) 1 : Fin 1024) = l := Fin.ext (by blk_simp [hi])
  have e0 : ((((win0_12.blk t).view.emb (ix2 r l)) 0 : Fin 32768) : ℕ) = 512 * (t.val - 1) + r.val := by
    blk_simp [hi]; simp [ix2]; omega
  unfold G
  rw [out_apply m c t ht r l _ e0, e1]

end Run

end Cert.KernelIdeal.Hand

end
-- ==== Proof.LruRefLoop.lean ====
/-
  The recurrence of the reference: what the loop's carried arrays hold after `k` trips, from the decays and the drives
  that the operations before the loop make.
-/
module

public import proofs.«01_k».proof.Proof.LruMath
public import proofs.«01_k».proof.Proof.Gen.ReferenceIdeal.Run
public import proofs.«01_k».proof.Proof.Gen.ReferenceIdeal.Step
public import Idealize.ShloMosaic.Lib.DynamicIndex
public import Idealize.ShloMosaic.Lib.WordCmp
public import Idealize.ShloMosaic.Lib.Pipeline.ValueKit
public import Idealize.ShloMosaic.Lib.Pointwise

@[expose] public section

set_option maxRecDepth 16384

noncomputable section

namespace Cert.ReferenceIdeal.Hand

open Cert.ReferenceIdeal Cert.ReferenceIdeal.Gen Cert.ReferenceIdeal.Value Cert.Math
open Idealize.ShloMosaic Idealize.ShloMosaic.TcCoe Idealize.ShloMosaic.StableHlo

variable (m : (ℓ : Loc nD τ sig) → Buf (Elt Ideal) ℓ) (c : Dev nD)

/-- The decays of a run's arguments. -/
abbrev decays : FVec Ideal S4096x8x1344 .f32 :=
  Step.A_main_v79 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (m ((c.tc : Thread nD τ).loc main_arg9))

/-- The drives of a run's arguments. -/
abbrev drives : FVec Ideal S4096x8x1344 .f32 :=
  Step.A_main_v86 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (m ((c.tc : Thread nD τ).loc main_arg9))

/-- The values of an array at one batch entry and channel, by the time's number; zero past the end. -/
def lineOf (A : FVec Ideal S4096x8x1344 .f32) (b : Fin 8) (l : Fin 1344) (k : ℕ) : EReal :=
  if h : k < 4096 then A (ix3 ⟨k, h⟩ b l) else 0

/-- What the loop's arrays hold before trip `k`: the decays and the drives, the trip's number, the state, and the states
    of the times before. -/
structure Holds (A U : FVec Ideal S4096x8x1344 .f32) (V : Valuation τ sig (Elt Ideal)) (k : ℕ) : Prop where
  dec : V (Proc.devRef .tc main_v89_0) = A
  drv : V (Proc.devRef .tc main_v89_1) = U
  num : V (Proc.devRef .tc main_v89_2) = constantI S_ 32 (BitVec.ofNat 32 k)
  st : ∀ b l, (V (Proc.devRef .tc main_v89_3) : FVec Ideal S8x1344 .f32) (ix2 b l) = scanOf (lineOf A b l) (lineOf U b l) k
  out : ∀ (t : Fin 4096) b l, t.val < k →
    (V (Proc.devRef .tc main_v89_4) : FVec Ideal S4096x8x1344 .f32) (ix3 t b l) = scanOf (lineOf A b l) (lineOf U b l) (t.val + 1)

section entry
set_option maxRecDepth 65536
set_option maxHeartbeats 600000

theorem entry_dec : entryContents preI m c (Proc.devRef .tc main_v89_0) = decays m c := by
  simp only [entryContents, afterL_cons, afterL_nil]; after_reads_simp; rfl

theorem entry_drv : entryContents preI m c (Proc.devRef .tc main_v89_1) = drives m c := by
  simp only [entryContents, afterL_cons, afterL_nil]; after_reads_simp; rfl

theorem entry_st : entryContents preI m c (Proc.devRef .tc main_v89_3) = (Step.K_main_v87 (F := Ideal)) := by
  simp only [entryContents, afterL_cons, afterL_nil]; after_reads_simp; rfl

end entry

/-- Before the first trip. -/
theorem holds_entry : Holds (decays m c) (drives m c) (entryContents preI m c) 0 where
  dec := entry_dec m c
  drv := entry_drv m c
  num := ctr_entry m c
  st b l := by
    rw [entry_st]
    pointwise [Step.K_main_v87, Step.K_main_cst_8]
    simp [scanOf, Ideal.ofBits]
  out t b l h := absurd h (Nat.not_lt_zero _)

/-- The block of one time. -/
theorem slices_time (k : ℕ) (hk : k < 4096) : S4096x8x1344.Slices ![k, 0, 0] S1x8x1344 := by
  refine ⟨rfl, fun a => ?_⟩; fin_cases a <;> simp <;> omega

/-- The starts the loop's slices are taken at. -/
theorem start_eq (V : Valuation τ sig (Elt Ideal)) (k : ℕ) (hk : k < 4096)
    (h : V (Proc.devRef .tc main_v89_2) = constantI S_ 32 (BitVec.ofNat 32 k)) (a : Fin 3) :
    ((((![V (Proc.devRef .tc main_v89_2), constantI S_ 32 0#32, constantI S_ 32 0#32] : Fin 3 → (⟨S_, .i32⟩ : BufTy).Contents (Elt Ideal))) a
      (Shape.Idx.first h_S_)).toInt) = ((![k, 0, 0] : Fin 3 → ℕ) a : ℤ) := by
  rw [h]
  fin_cases a
  · show (BitVec.ofNat 32 k).toInt = _
    rw [BitVec.toInt_eq_toNat_of_lt (by simp; omega)]
    simp; omega
  · rfl
  · rfl

variable {A U : FVec Ideal S4096x8x1344 .f32} {V : Valuation τ sig (Elt Ideal)} {k : ℕ}

/-- The state a trip makes. -/
theorem next_eq (hk : k < 4096) (h : Holds A U V k) (b : Fin 8) (l : Fin 1344) :
    (res_main_while0b_v138 V : FVec Ideal S8x1344 .f32) (ix2 b l) = scanOf (lineOf A b l) (lineOf U b l) (k + 1) := by
  unfold res_main_while0b_v138
  rw [Host.dynamicSlice_eq_extractStridedSlice _ _ _ ![k, 0, 0] _ (slices_time k hk) (start_eq V k hk h.num),
    Host.dynamicSlice_eq_extractStridedSlice _ _ _ ![k, 0, 0] _ (slices_time k hk) (start_eq V k hk h.num)]
  have e3 := h.st b l
  rw [h.dec, h.drv]
  rw [scanOf, ← e3, lineOf, dif_pos hk, lineOf, dif_pos hk]
  pointwise []

/-- One trip. -/
theorem holds_step (hk : k < 4096) (h : Holds A U V k) : Holds A U (STEP V) (k + 1) where
  dec := (STEP_main_v89_0 V).trans h.dec
  drv := (STEP_main_v89_1 V).trans h.drv
  num := by
    rw [STEP_main_v89_2]; unfold step_main_v89_2; rw [h.num]
    funext i
    show BitVec.ofNat 32 k + 1#32 = BitVec.ofNat 32 (k + 1)
    simp only [BitVec.ofNat_add]
  st b l := by
    rw [STEP_main_v89_3]; exact next_eq hk h b l
  out t b l ht := by
    rw [STEP_main_v89_4]; unfold step_main_v89_4
    rw [id_eq, WordCmp.dynamicUpdateSlice_eq_update _ _ _ _ ![k, 0, 0] (slices_time k hk) (start_eq V k hk h.num)]
    by_cases e : t.val = k
    · subst e
      rw [updateSlice_apply, dif_pos (by intro a; fin_cases a <;> simp <;> omega)]
      rw [← next_eq hk h b l]
      pointwise []
    · rw [updateSlice_apply, dif_neg (by intro h; have := h 0; simp at this; omega)]
      exact h.out t b l (by omega)

/-- After `k` trips. -/
theorem holds_iter : ∀ k, k ≤ 4096 → Holds (decays m c) (drives m c) (STEP^[k] (entryContents preI m c)) k
  | 0, _ => holds_entry m c
  | k + 1, h => by
    rw [Function.iterate_succ_apply']
    exact holds_step (by omega) (holds_iter k (by omega))

end Cert.ReferenceIdeal.Hand

end
-- ==== Proof.LruRef.lean ====
/-
  The recurrent block's reference at an index: the decays, the drives and the result as the layer's functions.
-/
module

public import proofs.«01_k».proof.Proof.LruRefLoop

@[expose] public section

set_option maxRecDepth 16384

noncomputable section

namespace Cert.ReferenceIdeal.Hand

open Cert.ReferenceIdeal Cert.ReferenceIdeal.Gen Cert.ReferenceIdeal.Step Cert.Math
open Idealize.ShloMosaic Idealize.ShloMosaic.TcCoe

variable (x0 : FVec Ideal S32768x1024 .f32) (x1 : FVec Ideal S1024 .f32) (x2 : FVec Ideal S1024x2688 .f32)
  (x3 : FVec Ideal S4x1344 .f32) (x4 : FVec Ideal S1344 .f32) (x5 : FVec Ideal S16x84x84 .f32) (x6 : FVec Ideal S1344 .f32)
  (x7 : FVec Ideal S16x84x84 .f32) (x8 x9 : FVec Ideal S1344 .f32) (x10 : FVec Ideal S1344x1024 .f32) (x11 : FVec Ideal S1024 .f32)

/-- The normalised input. -/
theorem v12_eq (r : Fin 32768) (k : Fin 1024) :
    A_main_v12 (F := Ideal) x0 x1 x2 x3 x4 x5 x6 x7 x8 x9 (ix2 r k) = norm (fun k => x0 (ix2 r k)) (fun k => x1 (ix1 k)) k := by
  pointwise [A_main_v12, A_main_v11, A_main_v10, A_main_v9, A_main_v8, A_main_v7, A_main_v6, K_main_v5, K_main_cst_1, A_main_v4,
    K_main_v3, K_main_cst_0, A_main_v2, A_main_v1, K_main_cst, A_main_v0]
  rfl

/-- The arguments as functions of plain indices. -/
def argsOf : LruArgs where
  x r k := x0 (ix2 r k)
  gpre k := x1 (ix1 k)
  win k j := x2 (ix2 k j)
  cw k l := x3 (ix2 k l)
  cb l := x4 (ix1 l)
  wa n k d := x5 (ix3 n k d)
  ba l := x6 (ix1 l)
  wx n k d := x7 (ix3 n k d)
  bx l := x8 (ix1 l)
  lam l := x9 (ix1 l)
  wout j l := x10 (ix2 j l)
  gpost l := x11 (ix1 l)

variable {x0 x1 x2 x3 x4 x5 x6 x7 x8 x9 x10 x11} (A : LruArgs) (hA : A = argsOf x0 x1 x2 x3 x4 x5 x6 x7 x8 x9 x10 x11)
include hA

/-- The sequence with its zeros. -/
theorem v16_eq (t : Fin 4099) (b : Fin 8) (l : Fin 1344) :
    A_main_v16 (F := Ideal) x0 x1 x2 x3 x4 x5 x6 x7 x8 x9 (ix3 t b l) = A.padded b l t := by
  subst hA
  pointwise [A_main_v16, A_main_v15, A_main_v14, A_main_v13, K_main_call0_v0, K_main_c]
  unfold LruArgs.padded
  split
  · simp only [v12_eq]; rfl
  · show (((0#32 : BitVec 32).toInt : ℝ) : EReal) = 0
    simp

/-- The convolved sequence. -/
theorem v46_eq (t : Fin 4096) (b : Fin 8) (l : Fin 1344) :
    A_main_v46 (F := Ideal) x0 x1 x2 x3 x4 x5 x6 x7 x8 x9 (ix3 t b l) = A.conv b t l := by
  pointwise [A_main_v46, A_main_v45, A_main_v44, A_main_v43, A_main_v42, A_main_v41, A_main_v40, A_main_v39, A_main_v38, A_main_v37,
    A_main_v36, A_main_v35, A_main_v34, A_main_v33, A_main_v32, A_main_v31, A_main_v30, A_main_v29, A_main_v28, A_main_v27, A_main_v26,
    A_main_v25, A_main_v24, A_main_v23, A_main_v22, A_main_v21, A_main_v20, A_main_v19, A_main_v18, A_main_v17]
  simp only [v16_eq A hA]
  subst hA
  simp only [LruArgs.conv, convAt, argsOf, Nat.add_comm]

/-- The recurrence gate. -/
theorem v59_eq (t : Fin 4096) (b : Fin 8) (l : Fin 1344) :
    A_main_v59 (F := Ideal) x0 x1 x2 x3 x4 x5 x6 x7 x8 x9 (ix3 t b l) = gateAt (A.conv b t) A.wa A.ba l := by
  pointwise [A_main_v59, K_main_v58, K_main_cst_3, A_main_v57, K_main_v56, K_main_cst_2, A_main_v55, A_main_v54, A_main_v53, A_main_v52,
    A_main_v51, A_main_v50, A_main_v49, A_main_v48, A_main_v47]
  simp only [v46_eq A hA]
  subst hA
  simp only [gateAt, argsOf, Nat.mul_comm 84, Ideal.logistic]

/-- The input gate. -/
theorem v71_eq (t : Fin 4096) (b : Fin 8) (l : Fin 1344) :
    A_main_v71 (F := Ideal) x0 x1 x2 x3 x4 x5 x6 x7 x8 x9 (ix3 t b l) = gateAt (A.conv b t) A.wx A.bx l := by
  pointwise [A_main_v71, K_main_v70, K_main_cst_5, A_main_v69, K_main_v68, K_main_cst_4, A_main_v67, A_main_v66, A_main_v65, A_main_v64,
    A_main_v63, A_main_v62, A_main_v61, A_main_v60, A_main_v47]
  simp only [v46_eq A hA]
  subst hA
  simp only [gateAt, argsOf, Nat.mul_comm 84, Ideal.logistic]

/-- The rate. -/
theorem v75_eq (l : Fin 1344) :
    A_main_v75 (F := Ideal) x0 x1 x2 x3 x4 x5 x6 x7 x8 x9 (ix1 l) = softplus (-A.lam l) := by
  subst hA
  pointwise [A_main_v75, A_main_call1_v1, A_main_call1_v3, A_main_call1_v4, A_main_call1_v6, A_main_call1_v7, A_main_call1_v8,
    A_main_call1_v9, A_main_call1_v10, A_main_call1_v11, A_main_v74, K_main_call1_v0, K_main_call1_v2, K_main_call1_v5, K_main_call1_cst]
  rw [if_neg (by simp)]
  rfl

/-- The logarithm of the decay. -/
theorem v78_eq (t : Fin 4096) (b : Fin 8) (l : Fin 1344) :
    A_main_v78 (F := Ideal) x0 x1 x2 x3 x4 x5 x6 x7 x8 x9 (ix3 t b l) = A.logDecay b t l := by
  pointwise [A_main_v78, A_main_v77, A_main_v76, A_main_v73, K_main_v72, K_main_cst_6]
  simp only [v59_eq A hA, v75_eq A hA]
  rfl

/-- The decay. -/
theorem v79_eq (t : Fin 4096) (b : Fin 8) (l : Fin 1344) :
    A_main_v79 (F := Ideal) x0 x1 x2 x3 x4 x5 x6 x7 x8 x9 (ix3 t b l) = A.decay b t l := by
  pointwise [A_main_v79]
  simp only [v78_eq A hA]
  rfl

/-- The drive. -/
theorem v86_eq (t : Fin 4096) (b : Fin 8) (l : Fin 1344) :
    A_main_v86 (F := Ideal) x0 x1 x2 x3 x4 x5 x6 x7 x8 x9 (ix3 t b l) = A.drive b t l := by
  pointwise [A_main_v86, A_main_v85, A_main_v84, A_main_v83, A_main_v82, A_main_v81, K_main_v80, K_main_cst_7]
  simp only [v78_eq A hA, v46_eq A hA, v71_eq A hA]
  rfl

omit hA in
/-- The result, of the states and the arguments it reads. -/
theorem out_eq (s : State Ideal) (r : Fin 32768) (l : Fin 1024)
    (hs : ∀ (t : Fin 4096) (b : Fin 8) (j : Fin 1344),
      s.main_v89_4 (ix3 t b j) = (argsOf x0 x1 x2 x3 x4 x5 x6 x7 x8 x9 x10 x11).state b j (t + 1)) :
    R_main_v134 (F := Ideal) s x0 x1 x2 x10 x11 (ix2 r l) = (argsOf x0 x1 x2 x3 x4 x5 x6 x7 x8 x9 x10 x11).row r l := by
  pointwise [R_main_v134]
  simp only [hs]
  rfl

omit hA in
/-- The result of a run: the array of the layer's rows. -/
theorem run_value (m : (ℓ : Loc nD τ sig) → Buf (Elt Ideal) ℓ) (c : Dev nD) (r : Fin 32768) (l : Fin 1024) :
    (Value.out_main_v134 (F := Ideal) (Value.STEP^[4096] (StableHlo.entryContents Value.preI m c)) : FVec Ideal S32768x1024 .f32) (ix2 r l)
      = (argsOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))).row r l := by
  have h := holds_iter m c 4096 (le_refl _)
  have h0 := Value.iter_main_arg0 m c 4096
  have h1 := Value.iter_main_arg1 m c 4096
  have h2 := Value.iter_main_arg2 m c 4096
  have h10 := Value.iter_main_arg10 m c 4096
  have h11 := Value.iter_main_arg11 m c 4096
  generalize Value.STEP^[4096] (StableHlo.entryContents Value.preI m c) = V at h h0 h1 h2 h10 h11 ⊢
  let s : State Ideal :=
    { main_v89_3 := V (Proc.devRef .tc main_v89_3)
      main_v89_4 := V (Proc.devRef .tc main_v89_4)
      main_v89_0 := decays m c
      main_v89_1 := drives m c }
  have e : Value.out_main_v134 (F := Ideal) V
      = R_main_v134 (F := Ideal) s (m ((c.tc : Thread nD τ).loc main_arg0)) (m ((c.tc : Thread nD τ).loc main_arg1))
          (m ((c.tc : Thread nD τ).loc main_arg2)) (m ((c.tc : Thread nD τ).loc main_arg10)) (m ((c.tc : Thread nD τ).loc main_arg11)) := by
    unfold Value.out_main_v134 R_main_v134
    rw [h0, h1, h2, h10, h11]
  rw [e]
  refine out_eq s r l fun t b j => ?_
  have ht := h.out t b j (lt_of_lt_of_eq t.isLt rfl)
  refine ht.trans (scanOf_congr _ fun k hk => ?_)
  have hk' : k < 4096 := by omega
  simp only [lineOf, dif_pos hk']
  exact ⟨v79_eq _ rfl ⟨k, hk'⟩ b j, v86_eq _ rfl ⟨k, hk'⟩ b j⟩

end Cert.ReferenceIdeal.Hand

end
-- ==== Proof.LruClaim.lean ====
/-
  The recurrent block's claims: its two frames, the reference's frame, and the equality over the extended reals.
-/
module

public import proofs.«01_k».proof.Defs
public import proofs.«01_k».proof.Proof.LruFrame
public import proofs.«01_k».proof.Proof.LruValue
public import proofs.«01_k».proof.Proof.LruRef
public import Idealize.ShloMosaic.Lib.Claim

@[expose] public section

noncomputable section

namespace Cert.Lru

open Idealize.ShloMosaic Idealize.ShloMosaic.TcCoe Idealize.SL.Sem

/-- The kernel's frame at the machine's words. -/
theorem frame_P : Cert.quiescent_Kernel := fun m ρ _ => Cert.Kernel.Hand.frame m ρ

/-- The kernel's frame over the extended reals. -/
theorem frame_PI : Cert.quiescent_KernelIdeal := fun m ρ _ => Cert.KernelIdeal.Hand.frame m ρ

/-- The reference's frame: host operations only, no semaphore declared. -/
theorem frame_RI : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The layer's arguments read off the kernel's memory are those the reference reads, entry by entry. -/
theorem args_eq (m : (ℓ : Loc Cert.KernelIdeal.nD Cert.KernelIdeal.τ Cert.KernelIdeal.sig) → Buf (Elt Ideal) ℓ)
    (c : Dev Cert.KernelIdeal.nD) :
    Cert.ReferenceIdeal.Hand.argsOf
        (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        (m ((c.tc : Thread Cert.KernelIdeal.nD Cert.KernelIdeal.τ).loc Cert.KernelIdeal.main_arg8)) (m ((c.tc : Thread Cert.KernelIdeal.nD Cert.KernelIdeal.τ).loc Cert.KernelIdeal.main_arg9))
        (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      = Cert.KernelIdeal.Hand.argsK m c := rfl

/-- An array whose entry at every row and column is the layer's row of the reference's arguments is the array the kernel's
run leaves, when the two sides' arguments agree. -/
theorem ref_eq (m : (ℓ : Loc Cert.KernelIdeal.nD Cert.KernelIdeal.τ Cert.KernelIdeal.sig) → Buf (Elt Ideal) ℓ)
    (c : Dev Cert.KernelIdeal.nD) (w : FVec Ideal Cert.KernelIdeal.S32768x1024 .f32)
    (h : ∀ (r : Fin 32768) (l : Fin 1024), w (ix2 r l) = (Cert.KernelIdeal.Hand.argsK m c).row r l) :
    w = Cert.KernelIdeal.Hand.G m c := by
  funext i
  obtain ⟨r, l, rfl⟩ : ∃ (r : Fin 32768) (l : Fin 1024), i = ix2 r l := ⟨i 0, i 1, by idx_ext⟩
  exact h r l

/-- Kernel and reference end with equal results over the extended reals. -/
theorem algebraic : Cert.algebraic_KernelIdeal_ReferenceIdeal := by
  intro m g m' g' _ hagree
  refine ⟨fun c => Cert.KernelIdeal.Hand.G m c, ?_, ?_⟩
  · refine θ_run_mono (θ_run_and (Cert.KernelIdeal.Hand.frame m g) (Cert.KernelIdeal.Hand.run_quiescent m g)) ?_
    rintro r ⟨hf, hq, -⟩ c
    exact ⟨((hq c).1 12).trans (Cert.KernelIdeal.Hand.arrAt12 m c), hf.1 c⟩
  · refine θ_run_mono (Cert.ReferenceIdeal.Value.run (F := Ideal) m' g') ?_
    intro r h c
    have hv := Cert.ReferenceIdeal.Hand.run_value m' c
    obtain ⟨hr, hk⟩ := h c
    refine ⟨hr.trans ?_, hk⟩
    clear hr hk
    revert hv
    generalize Cert.ReferenceIdeal.Value.out_main_v134 (F := Ideal) _ = w
    intro hv
    obtain ⟨h0, h1, h2, h3, h4, h5, h6, h7, h8, h9, h10, h11⟩ := hagree c
    refine ref_eq m c w fun r l => (hv r l).trans ?_
    rw [h0, h1, h2, h3, h4, h5, h6, h7, h8, h9, h10, h11, args_eq]

end Cert.Lru

end
-- ==== Proof.FfnValue.lean ====
/-
  The feed-forward kernel's result array: every row is the layer's function of the input's row.
-/
module

public import proofs.«01_k».proof.Proof.FfnPay

@[expose] public section

set_option maxRecDepth 16384

noncomputable section

namespace Cert.Kernel2Ideal.Hand

open Cert.Kernel2Ideal Cert.Kernel2Ideal.Gen Cert.Math
open Idealize.ShloMosaic Idealize.ShloMosaic.TcCoe

variable (m : (ℓ : Loc nD τ sig) → Buf (Elt Ideal) ℓ)

/-- The block indices of the windows at every point: the rows' two windows run over the 64 blocks, one of them two points
    behind; the others stay at layer 1's weights. -/
theorem idx : ∀ t : Fin cfg0.N, win0_0.index t = ![min t.val 63, 0] ∧ win0_1.index t = ![min (t.val - 2) 63, 0]
    ∧ win0_2.index t = ![1, 0, 0] ∧ win0_3.index t = ![1, 0, 0] ∧ win0_4.index t = ![1, 0, 0] ∧ win0_5.index t = ![1, 0, 0]
    ∧ win0_6.index t = ![1, 0, 0] ∧ win0_7.index t = ![min (t.val - 2) 63, 0] :=
  (by decide +kernel : ∀ t : Fin grid0.N, win0_0.index t = ![min t.val 63, 0] ∧ win0_1.index t = ![min (t.val - 2) 63, 0]
    ∧ win0_2.index t = ![1, 0, 0] ∧ win0_3.index t = ![1, 0, 0] ∧ win0_4.index t = ![1, 0, 0] ∧ win0_5.index t = ![1, 0, 0]
    ∧ win0_6.index t = ![1, 0, 0] ∧ win0_7.index t = ![min (t.val - 2) 63, 0])

/-- The output block is written back at points 2 to 65 only. -/
theorem flush_ge : ∀ t : Fin cfg0.N, (cfg0.win 7).flush t = true → 2 ≤ t.val :=
  (by decide +kernel : ∀ t : Fin grid0.N, (cfg0.win 7).flush t = true → 2 ≤ t.val)

/-- The stream's row `r` and layer 1's parameters, off the arguments' arrays. -/
abbrev xRow (c : Dev nD) (r : Fin 32768) (k : Fin 1024) : EReal := m ((c.tc : Thread nD τ).loc main_arg0) (ix2 r k)
abbrev gPre (c : Dev nD) (k : Fin 1024) : EReal := m ((c.tc : Thread nD τ).loc main_arg1) (ix2 1 k)
abbrev wGate (c : Dev nD) (k : Fin 1024) (j : Fin 2816) : EReal := m ((c.tc : Thread nD τ).loc main_arg2) (ix3 1 k j)
abbrev wUp (c : Dev nD) (k : Fin 1024) (j : Fin 2816) : EReal := m ((c.tc : Thread nD τ).loc main_arg3) (ix3 1 k j)
abbrev wDown (c : Dev nD) (j : Fin 2816) (k : Fin 1024) : EReal := m ((c.tc : Thread nD τ).loc main_arg4) (ix3 1 j k)
abbrev gPost (c : Dev nD) (k : Fin 1024) : EReal := m ((c.tc : Thread nD τ).loc main_arg5) (ix2 1 k)

theorem N_eq : cfg0.N = 66 := N_0

theorem iblk0_apply (c : Dev nD) (t : Fin cfg0.N) (r : Fin 512) (k : Fin 1024) (R : Fin 32768) (hR : R.val = 512 * min t.val 63 + r.val) :
    iblk m c 0 t (ix2 r k) = xRow m c R k := by
  have hi := (idx t).1
  blk_ext! [iblk, V, hi]

theorem iblk1_apply (c : Dev nD) (t : Fin cfg0.N) (r : Fin 512) (k : Fin 1024) (R : Fin 32768) (hR : R.val = 512 * min (t.val - 2) 63 + r.val) :
    iblk m c 1 t (ix2 r k) = xRow m c R k := by
  have hi := (idx t).2.1
  blk_ext! [iblk, V, hi]

theorem iblk2_apply (c : Dev nD) (t : Fin cfg0.N) (k : Fin 1024) : iblk m c 2 t (ix3 0 0 k) = gPre m c k := by
  have hi := (idx t).2.2.1
  blk_ext! [iblk, V, hi]

theorem iblk3_apply (c : Dev nD) (t : Fin cfg0.N) (k : Fin 1024) (j : Fin 2816) : iblk m c 3 t (ix3 0 k j) = wGate m c k j := by
  have hi := (idx t).2.2.2.1
  blk_ext! [iblk, V, hi]

theorem iblk4_apply (c : Dev nD) (t : Fin cfg0.N) (k : Fin 1024) (j : Fin 2816) : iblk m c 4 t (ix3 0 k j) = wUp m c k j := by
  have hi := (idx t).2.2.2.2.1
  blk_ext! [iblk, V, hi]

theorem iblk5_apply (c : Dev nD) (t : Fin cfg0.N) (j : Fin 2816) (k : Fin 1024) : iblk m c 5 t (ix3 0 j k) = wDown m c j k := by
  have hi := (idx t).2.2.2.2.2.1
  blk_ext! [iblk, V, hi]

theorem iblk6_apply (c : Dev nD) (t : Fin cfg0.N) (k : Fin 1024) : iblk m c 6 t (ix3 0 0 k) = gPost m c k := by
  have hi := (idx t).2.2.2.2.2.2.1
  blk_ext! [iblk, V, hi]

/-- The rows of point `n`, normalised. -/
theorem rows_apply (c : Dev nD) (n : ℕ) (hn : n < 64) (r : Fin 512) (k : Fin 1024) (R : Fin 32768) (hR : R.val = 512 * n + r.val) :
    rows m c n (ix3 0 r k) = norm (xRow m c R) (gPre m c) k := by
  have hp : (pt n).val = n := by unfold pt; rw [dif_pos (by rw [N_eq]; omega)]
  unfold rows
  rw [pay1_apply]
  simp only [iblk2_apply]
  rw [show (fun k => iblk m c 0 (pt n) (ix2 r k)) = xRow m c R from funext fun k =>
    iblk0_apply m c (pt n) r k R (by rw [hp, hR, show min n 63 = n by omega])]

/-- What point `n + 2` finds in the second scratch: the gated unit of block `n`'s rows. -/
theorem ffn_apply (c : Dev nD) (n : ℕ) (hn : n < 64) (r : Fin 512) (l : Fin 1024) (R : Fin 32768) (hR : R.val = 512 * n + r.val) :
    ffn m c (n + 2) (ix3 0 r l) = swiglu (norm (xRow m c R) (gPre m c)) (wGate m c) (wUp m c) (wDown m c) l := by
  have e : (fun k => rows m c n (ix3 0 r k)) = norm (xRow m c R) (gPre m c) := funext fun k => rows_apply m c n hn r k R hR
  rw [show ffn m c (n + 2) = k0_pay2 (k0_pay5 (rows m c n) (iblk m c 3 (pt (n + 1)))) (k0_pay7 (rows m c n) (iblk m c 4 (pt (n + 1)))) (iblk m c 5 (pt (n + 1))) from rfl]
  rw [pay2_apply]
  simp only [pay5_apply, pay7_apply, iblk3_apply, iblk4_apply, iblk5_apply]
  rw [e]
  rfl

/-- The result array. -/
def G (c : Dev nD) : Buf (Elt Ideal) ((c.tc : Thread nD τ).loc main_v5) := fun i : S32768x1024.Idx =>
  ffnRow (xRow m c (i 0)) (gPre m c) (wGate m c) (wUp m c) (wDown m c) (gPost m c) (i 1)

theorem out_apply (c : Dev nD) (t : Fin cfg0.N) (ht : 2 ≤ t.val) (r : Fin 512) (l : Fin 1024) (R : Fin 32768) (hR : R.val = 512 * (t.val - 2) + r.val) :
    out m c t (ix2 r l) = ffnRow (xRow m c R) (gPre m c) (wGate m c) (wUp m c) (wDown m c) (gPost m c) l := by
  have hN : t.val < 66 := lt_of_lt_of_eq t.isLt N_eq
  unfold out
  rw [pay6_apply]
  simp only [iblk6_apply]
  rw [iblk1_apply m c t r l R (by rw [hR]; omega)]
  rw [show (fun k => ffn m c t.val (ix3 0 r k)) = swiglu (norm (xRow m c R) (gPre m c)) (wGate m c) (wUp m c) (wDown m c) from funext fun k => by
    rw [show t.val = (t.val - 2) + 2 by omega]; exact ffn_apply m c (t.val - 2) (by omega) r k R hR]
  rfl

/-- The result's array after the run. -/
theorem arrAt7 (c : Dev nD) : (dats m 0 c).arrAt 7 cfg0.N = G m c := by
  refine (dats m 0 c).arrAt_eq_of_covers 7 _ (by decide +kernel) fun t hf y => ?_
  have ht := flush_ge t hf
  have hi := (idx t).2.2.2.2.2.2.2
  have hN : t.val < 66 := lt_of_lt_of_eq t.isLt N_eq
  blk_simp
  rw [after7]
  obtain ⟨r, l, rfl⟩ : ∃ (r : Fin 512) (l : Fin 1024), y = ix2 r l := ⟨y 0, y 1, by idx_ext⟩
  have e1 : (((win0_7.blk t).view.emb (ix2 r l)) 1 : Fin 1024) = l := Fin.ext (by blk_simp [hi])
  have e0 : ((((win0_7.blk t).view.emb (ix2 r l)) 0 : Fin 32768) : ℕ) = 512 * (t.val - 2) + r.val := by
    blk_simp [hi]; simp [ix2]; omega
  unfold G
  rw [out_apply m c t ht r l _ e0, e1]

end Cert.Kernel2Ideal.Hand

end
-- ==== Proof.FfnRef.lean ====
/-
  The feed-forward reference's result at an index: every row is the layer's function of the input's row.
-/
module

public import proofs.«01_k».proof.Proof.FfnPay
public import proofs.«01_k».proof.Proof.Gen.Reference2Ideal.Read

@[expose] public section

set_option maxRecDepth 16384

noncomputable section

namespace Cert.Reference2Ideal.Hand

open Cert.Reference2Ideal Cert.Reference2Ideal.Gen Cert.Reference2Ideal.Read Cert.Math
open Idealize.ShloMosaic Idealize.ShloMosaic.TcCoe

variable (x0 : FVec Ideal S32768x1024 .f32) (x1 : FVec Ideal S2x1024 .f32) (x2 x3 : FVec Ideal S2x1024x2816 .f32)
  (x4 : FVec Ideal S2x2816x1024 .f32) (x5 : FVec Ideal S2x1024 .f32)

/-- The normalised input. -/
theorem v14_eq (r : Fin 32768) (k : Fin 1024) :
    val_main_v14 (F := Ideal) x0 x1 (ix2 r k) = norm (fun k => x0 (ix2 r k)) (fun k => x1 (ix2 1 k)) k := by
  pointwise [val_main_v14, val_main_v13, val_main_v12, val_main_v11, val_main_v10, val_main_v9, val_main_v8, val_main_v7,
    val_main_cst_1, val_main_v6, val_main_v5, val_main_cst_0, val_main_v4, val_main_v3, val_main_cst, val_main_v2, val_main_v1, val_main_v0]
  rfl

/-- The gate's product and the up projection's. -/
theorem v17_eq (r : Fin 32768) (j : Fin 2816) :
    val_main_v17 (F := Ideal) x0 x1 x2 (ix2 r j)
      = vecMat (norm (fun k => x0 (ix2 r k)) (fun k => x1 (ix2 1 k))) (fun k j => x2 (ix3 1 k j)) j := by
  pointwise [val_main_v17, val_main_v16, val_main_v15]
  simp only [v14_eq]; rfl

theorem v21_eq (r : Fin 32768) (j : Fin 2816) :
    val_main_v21 (F := Ideal) x0 x1 x3 (ix2 r j)
      = vecMat (norm (fun k => x0 (ix2 r k)) (fun k => x1 (ix2 1 k))) (fun k j => x3 (ix3 1 k j)) j := by
  pointwise [val_main_v21, val_main_v20, val_main_v19]
  simp only [v14_eq]; rfl

/-- `silu` of a value: the value times the logistic function of it. -/
theorem v18_eq (r : Fin 32768) (j : Fin 2816) :
    val_main_v18 (F := Ideal) x0 x1 x2 (ix2 r j)
      = val_main_v17 (F := Ideal) x0 x1 x2 (ix2 r j) * Ideal.logistic (val_main_v17 (F := Ideal) x0 x1 x2 (ix2 r j)) := by
  pointwise [val_main_v18, val_main_call0_v5, val_main_call0_v4, val_main_call0_cst_0, val_main_call0_v3, val_main_call0_v2,
    val_main_call0_cst, val_main_call0_v1, val_main_call0_v0]
  rfl

/-- The gated unit. -/
theorem v25_eq (r : Fin 32768) (l : Fin 1024) :
    val_main_v25 (F := Ideal) x0 x1 x2 x3 x4 (ix2 r l)
      = swiglu (norm (fun k => x0 (ix2 r k)) (fun k => x1 (ix2 1 k))) (fun k j => x2 (ix3 1 k j)) (fun k j => x3 (ix3 1 k j)) (fun j k => x4 (ix3 1 j k)) l := by
  pointwise [val_main_v25, val_main_v24, val_main_v23, val_main_v22]
  simp only [v18_eq, v17_eq, v21_eq]; rfl

/-- The result. -/
theorem v43_eq (r : Fin 32768) (l : Fin 1024) :
    val_main_v43 (F := Ideal) x0 x1 x2 x3 x4 x5 (ix2 r l)
      = ffnRow (fun k => x0 (ix2 r k)) (fun k => x1 (ix2 1 k)) (fun k j => x2 (ix3 1 k j)) (fun k j => x3 (ix3 1 k j)) (fun j k => x4 (ix3 1 j k))
          (fun k => x5 (ix2 1 k)) l := by
  pointwise [val_main_v43, val_main_v42, val_main_v41, val_main_cst_5, val_main_v40, val_main_v39, val_main_v38, val_main_v37,
    val_main_v36, val_main_v35, val_main_v34, val_main_v33, val_main_cst_4, val_main_v32, val_main_v31, val_main_cst_3,
    val_main_v30, val_main_v29, val_main_cst_2, val_main_v28, val_main_v27, val_main_v26]
  simp only [v25_eq]; rfl

end Cert.Reference2Ideal.Hand

end
-- ==== Proof.FfnClaim.lean ====
/-
  The feed-forward call's claims: its two frames, the reference's frame, and the equality over the extended reals.
-/
module

public import proofs.«01_k».proof.Defs
public import proofs.«01_k».proof.Proof.FfnFrame
public import proofs.«01_k».proof.Proof.FfnValue
public import proofs.«01_k».proof.Proof.FfnRef
public import Idealize.ShloMosaic.Lib.Claim

@[expose] public section

noncomputable section

namespace Cert.Ffn

open Idealize.ShloMosaic Idealize.ShloMosaic.TcCoe Idealize.SL.Sem

/-- The kernel's frame at the machine's words. -/
theorem frame_P : Cert.quiescent_Kernel2 := fun m ρ _ => Cert.Kernel2.Hand.frame m ρ

/-- The kernel's frame over the extended reals. -/
theorem frame_PI : Cert.quiescent_Kernel2Ideal := fun m ρ _ => Cert.Kernel2Ideal.Hand.frame m ρ

/-- The reference's frame: host operations only, no semaphore declared. -/
theorem frame_RI : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference's result is the function of the arguments that the kernel's result array holds. -/
theorem ref_eq (m : (ℓ : Loc Cert.Kernel2Ideal.nD Cert.Kernel2Ideal.τ Cert.Kernel2Ideal.sig) → Buf (Elt Ideal) ℓ)
    (c : Dev Cert.Kernel2Ideal.nD) :
    Cert.Reference2Ideal.Read.val_main_v43 (F := Ideal)
        (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2))
        (m ((c.tc : Thread Cert.Kernel2Ideal.nD Cert.Kernel2Ideal.τ).loc Cert.Kernel2Ideal.main_arg3))
        (m ((c.tc : Thread Cert.Kernel2Ideal.nD Cert.Kernel2Ideal.τ).loc Cert.Kernel2Ideal.main_arg4))
        (m ((c.tc : Thread Cert.Kernel2Ideal.nD Cert.Kernel2Ideal.τ).loc Cert.Kernel2Ideal.main_arg5))
      = Cert.Kernel2Ideal.Hand.G m c := by
  funext i
  obtain ⟨r, l, rfl⟩ : ∃ (r : Fin 32768) (l : Fin 1024), i = ix2 r l := ⟨i 0, i 1, by idx_ext⟩
  rw [Cert.Reference2Ideal.Hand.v43_eq]
  rfl

/-- Kernel and reference end with equal results over the extended reals. -/
theorem algebraic : Cert.algebraic_Kernel2Ideal_Reference2Ideal := by
  intro m g m' g' _ hagree
  refine ⟨fun c => Cert.Kernel2Ideal.Hand.G m c, ?_, ?_⟩
  · refine θ_run_mono (θ_run_and (Cert.Kernel2Ideal.Hand.frame m g) (Cert.Kernel2Ideal.Hand.run_quiescent m g)) ?_
    rintro r ⟨hf, hq, -⟩ c
    exact ⟨((hq c).1 7).trans (Cert.Kernel2Ideal.Hand.arrAt7 m c), hf.1 c⟩
  · refine θ_run_mono (Cert.Reference2Ideal.Value.run (F := Ideal) m' g') ?_
    intro r h c
    refine ⟨(h c).1.trans ?_, (h c).2⟩
    rw [Cert.Reference2Ideal.Read.val_main_v43_eq]
    obtain ⟨h0, h1, h2, h3, h4, h5⟩ := hagree c
    rw [h0, h1, h2, h3, h4, h5]
    exact ref_eq m c

end Cert.Ffn

end
-- ==== Proof.KvPay.lean ====
/-
  The key/value kernel's payloads at the ideal values, read at an index.
-/
module

public import proofs.«01_k».proof.Proof.FfnPay
public import proofs.«01_k».proof.Proof.Gen.Kernel3Ideal.Skeleton
public import Idealize.ShloMosaic.Lib.Pipeline.ValueKit
public import Idealize.ShloMosaic.Lib.Pointwise

@[expose] public section

set_option maxRecDepth 16384

noncomputable section

namespace Cert.Kernel3Ideal.Hand

open Cert.Kernel3Ideal Cert.Kernel3Ideal.Gen Cert.Math
open Idealize.ShloMosaic Idealize.ShloMosaic.TcCoe

/-- A block's row of sequence `b` at time `s`: the row the products are taken on. -/
abbrev brow (b : Fin 8) (s : Fin 128) : Fin 1024 := ⟨128 * b.val + s.val, by omega⟩

/-- Head pair `p`'s lane `l`: the column of the weights. -/
abbrev bcol (p : Fin 8) (l : Fin 128) : Fin 1024 := ⟨128 * p.val + l.val, by omega⟩

/-- The normalised rows. -/
theorem pay3_apply (x : Vec Ideal S8x128x1024 .f32) (g : Vec Ideal S1x1024 .f32) (b : Fin 8) (s : Fin 128) (k : Fin 1024) :
    k0_pay3 (F := Ideal) x g (ix2 (brow b s) k) = norm (fun k => x (ix3 b s k)) (fun k => g (ix2 0 k)) k := by
  have e : ∀ (B : Fin 8) (S : Fin 128), B = b → S = s → x (ix3 B S k) = x (ix3 b s k) := by rintro B S rfl rfl; rfl
  pointwise [k0_pay3]
  rw [e _ _ (Fin.ext (by show (128 * b.val + s.val) / 128 = b.val; omega)) (Fin.ext (by show (128 * b.val + s.val) % 128 = s.val; omega))]
  rfl

/-- The keys' and the values' product. -/
theorem pay5_apply (x : Vec Ideal S1024x1024 .bf16) (w : Vec Ideal S1024x1024 .bf16) (r j : Fin 1024) :
    k0_pay5 (F := Ideal) x w (ix2 r j) = vecMat (fun k => x (ix2 r k)) (fun k j => w (ix2 k j)) j := by
  pointwise [k0_pay5]; rfl

theorem pay275_apply (x : Vec Ideal S1024x1024 .bf16) (w : Vec Ideal S1024x1024 .bf16) (r j : Fin 1024) :
    k0_pay275 (F := Ideal) x w (ix2 r j) = vecMat (fun k => x (ix2 r k)) (fun k j => w (ix2 k j)) j := by
  pointwise [k0_pay275]; rfl

/-- The 128 columns from `o` of a product, as the block of one head pair. -/
abbrev slab (v : FVec Ideal S1024x1024 .bf16) (o : ℕ) (hs : S1024x1024.Slices ![0, o] S1024x128) : FVec Ideal S8x1x128x128 .bf16 :=
  shapeCast S8x1x128x128 (shapeCast S8x128x128 (extractStridedSlice S1024x128 ![0, o] v hs) shapeCasts_S1024x128_S8x128x128)
    shapeCasts_S8x128x128_S8x1x128x128

theorem slab_apply (v : FVec Ideal S1024x1024 .bf16) (o : ℕ) (hs : S1024x1024.Slices ![0, o] S1024x128) (p : Fin 8) (ho : o = 128 * p.val)
    (b : Fin 8) (s : Fin 128) (l : Fin 128) :
    slab v o hs (ix4 b 0 s l) = v (ix2 (brow b s) (bcol p l)) := by
  unfold slab
  rw [shapeCast_apply _ shapeCasts_S8x128x128_S8x1x128x128 (ix4 b 0 s l) (ix3 b s l) (by
      rewrite [Shape.rowMajor_val_three, Shape.rowMajor_val_four]
      show (b.val * 128 + s.val) * 128 + l.val = ((b.val * 1 + 0) * 128 + s.val) * 128 + l.val
      omega)]
  rw [shapeCast_apply _ shapeCasts_S1024x128_S8x128x128 (ix3 b s l) (ix2 (brow b s) l) (by
      rewrite [Shape.rowMajor_val_three, Shape.rowMajor_val_two]
      show (128 * b.val + s.val) * 128 + l.val = (b.val * 128 + s.val) * 128 + l.val
      omega)]
  exact extractStridedSlice_apply ![0, o] v hs (ix2 (brow b s) l) (ix2 (brow b s) (bcol p l)) (fun a => match a with
    | ⟨0, _⟩ => by show 128 * b.val + s.val = 0 + (128 * b.val + s.val); omega
    | ⟨1, _⟩ => by show 128 * p.val + l.val = o + l.val; omega)

end Cert.Kernel3Ideal.Hand

end
-- ==== Proof.KvBlock.lean ====
/-
  What the key/value kernel's body leaves in its two blocks of keys and values: the product's columns, 128 for each head pair.
-/
module

public import proofs.«01_k».proof.Proof.KvPay
public import proofs.«01_k».proof.Proof.Gen.Kernel3Ideal.Frame

@[expose] public section

set_option maxRecDepth 16384

noncomputable section

namespace Cert.Kernel3Ideal.Hand

open Cert.Kernel3Ideal Cert.Kernel3Ideal.Gen Cert.Math
open Idealize.ShloMosaic Idealize.ShloMosaic.TcCoe

/-- Reading the whole of a whole view gives its contents. -/
theorem readAt_all {s : Shape} {e : EltTy} {m : Memref sig .tc .vmem s e} (h : m.IsWhole) (x : Vec Ideal s e)
    {off : Fin s.rank → ℕ} (inb) :
    m.view.readAt (Elt Ideal) (Rect.unit (s := s) off s.size inb).toLoadRect (h.unread x) = x :=
  (View.readAt_full m.view _ inb).trans (h.read_unread x)

/-- The block of a product: sequence `b`, head pair `p`, time `s`, lane `l`. -/
def kvBlock (v : FVec Ideal S1024x1024 .bf16) : Vec Ideal S8x8x128x128 .bf16 := fun y : S8x8x128x128.Idx =>
  v (ix2 (brow (y 0) (y 2)) (bcol (y 1) (y 3)))

/-- One head pair's store agrees with the block. -/
theorem piece_ok (v : FVec Ideal S1024x1024 .bf16) (w : FVec Ideal S8x1x128x128 .bf16) (p : Fin 8)
    (hw : ∀ b s l, w (ix4 b 0 s l) = v (ix2 (brow b s) (bcol p l)))
    (inb : ∀ k : Fin S8x8x128x128.rank, (![0, p.val, 0, 0] : Fin 4 → ℕ) k + ![8, 1, 128, 128] k ≤ S8x8x128x128.size k)
    (x : (Rect.unit (s := S8x8x128x128) ![0, p.val, 0, 0] ![8, 1, 128, 128] inb).shape.Idx) :
    w x = kvBlock v ((Rect.unit (s := S8x8x128x128) ![0, p.val, 0, 0] ![8, 1, 128, 128] inb).emb x) := by
  obtain ⟨b, s, l, rfl⟩ : ∃ (b : Fin 8) (s : Fin 128) (l : Fin 128), x = ix4 b 0 s l := ⟨x 0, x 2, x 3, by
    funext a
    match a with
    | ⟨0, _⟩ => rfl
    | ⟨1, _⟩ => exact Fin.ext (Nat.lt_one_iff.mp (x 1).isLt)
    | ⟨2, _⟩ => rfl
    | ⟨3, _⟩ => rfl⟩
  rw [hw]
  unfold kvBlock
  congr 1
  funext a
  match a with
  | ⟨0, _⟩ => exact Fin.ext (by simp [Rect.unit, Rect.emb, ix4, ix2])
  | ⟨1, _⟩ => exact Fin.ext (by simp [Rect.unit, Rect.emb, ix4, ix2])

/-- The keys' block after the body, at the first point. -/
theorem outA_6 (c : Dev nD) (i : grid0.Coords) (arg1 : Memref sig .tc .vmem S8x128x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1x128 .f32) (harg6 : arg6.IsWhole) (arg7 : Memref sig .tc .vmem S8x8x128x128 .bf16) (harg7 : arg7.IsWhole) (arg8 : Memref sig .tc .vmem S8x8x128x128 .bf16) (harg8 : arg8.IsWhole) (arg9 : Memref sig .tc .vmem S8x128x128 .f32) (harg9 : arg9.IsWhole) (arg10 : Memref sig .tc .vmem S8x16x128 .f32) (harg10 : arg10.IsWhole) (arg11 : Memref sig .tc .vmem S128x8x128 .f32) (harg11 : arg11.IsWhole) (arg12 : Memref sig .tc .vmem S8x128 .f32) (harg12 : arg12.IsWhole) (hc0 : cond0_0 i)
    (x0 : Vec Ideal S8x128x1024 .f32) (x1 : Vec Ideal S1x1024 .f32) (x2 : Vec Ideal S1024x1024 .bf16) (x3 : Vec Ideal S1024x1024 .bf16) (x4 : Vec Ideal S1024x128 .bf16) (x5 : Vec Ideal S1x128 .f32) :
    out0_A_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = kvBlock (k0_pay5 (F := Ideal) (k0_pay3 x0 x1) x2) := by
  funext y
  unfold out0_A_6
  refine View.read_writes_apply_of_pieces _ _ (kvBlock (k0_pay5 (F := Ideal) (k0_pay3 x0 x1) x2)) _ ?_ y (cover0_A_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 y)
  unfold kernelRun0_A
  dsimp only
  have h0 := readAt_all harg1 x0 (off := ![0, 0, 0]) inb_S8x128x1024_S8x128x1024_0_0_0
  have h1 := readAt_all harg2 x1 (off := ![0, 0]) inb_S1x1024_S1x1024_0_0
  have h2 := readAt_all harg3 x2 (off := ![0, 0]) inb_S1024x1024_S1024x1024_0_0
  have e : kernelRun0_A.sl.r_2 (F := Ideal) c arg1 harg1 arg2 harg2 arg3 harg3 x0 x1 x2 = k0_pay5 (k0_pay3 x0 x1) x2 :=
    congrArg₂ (k0_pay5 (F := Ideal)) (congrArg₂ (k0_pay3 (F := Ideal)) h0 h1) h2
  rw [e]
  generalize k0_pay5 (F := Ideal) (k0_pay3 x0 x1) x2 = v
  intro q hq
  simp only [List.mem_cons, List.not_mem_nil, or_false] at hq
  rcases hq with rfl | rfl | rfl | rfl | rfl | rfl | rfl | rfl
  · exact piece_ok v (slab v 896 slices_S1024x1024_o0_896_S1024x128) 7 (fun b s l => slab_apply v 896 _ 7 rfl b s l) inb_S8x8x128x128_S8x1x128x128_0_7_0_0
  · exact piece_ok v (slab v 768 slices_S1024x1024_o0_768_S1024x128) 6 (fun b s l => slab_apply v 768 _ 6 rfl b s l) inb_S8x8x128x128_S8x1x128x128_0_6_0_0
  · exact piece_ok v (slab v 640 slices_S1024x1024_o0_640_S1024x128) 5 (fun b s l => slab_apply v 640 _ 5 rfl b s l) inb_S8x8x128x128_S8x1x128x128_0_5_0_0
  · exact piece_ok v (slab v 512 slices_S1024x1024_o0_512_S1024x128) 4 (fun b s l => slab_apply v 512 _ 4 rfl b s l) inb_S8x8x128x128_S8x1x128x128_0_4_0_0
  · exact piece_ok v (slab v 384 slices_S1024x1024_o0_384_S1024x128) 3 (fun b s l => slab_apply v 384 _ 3 rfl b s l) inb_S8x8x128x128_S8x1x128x128_0_3_0_0
  · exact piece_ok v (slab v 256 slices_S1024x1024_o0_256_S1024x128) 2 (fun b s l => slab_apply v 256 _ 2 rfl b s l) inb_S8x8x128x128_S8x1x128x128_0_2_0_0
  · exact piece_ok v (slab v 128 slices_S1024x1024_o0_128_S1024x128) 1 (fun b s l => slab_apply v 128 _ 1 rfl b s l) inb_S8x8x128x128_S8x1x128x128_0_1_0_0
  · exact piece_ok v (slab v 0 slices_S1024x1024_o0_0_S1024x128) 0 (fun b s l => slab_apply v 0 _ 0 rfl b s l) inb_S8x8x128x128_S8x1x128x128_0_0_0_0

/-- The values' block after the body, at the first point. -/
theorem outA_7 (c : Dev nD) (i : grid0.Coords) (arg1 : Memref sig .tc .vmem S8x128x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1x128 .f32) (harg6 : arg6.IsWhole) (arg7 : Memref sig .tc .vmem S8x8x128x128 .bf16) (harg7 : arg7.IsWhole) (arg8 : Memref sig .tc .vmem S8x8x128x128 .bf16) (harg8 : arg8.IsWhole) (arg9 : Memref sig .tc .vmem S8x128x128 .f32) (harg9 : arg9.IsWhole) (arg10 : Memref sig .tc .vmem S8x16x128 .f32) (harg10 : arg10.IsWhole) (arg11 : Memref sig .tc .vmem S128x8x128 .f32) (harg11 : arg11.IsWhole) (arg12 : Memref sig .tc .vmem S8x128 .f32) (harg12 : arg12.IsWhole) (hc0 : cond0_0 i)
    (x0 : Vec Ideal S8x128x1024 .f32) (x1 : Vec Ideal S1x1024 .f32) (x2 : Vec Ideal S1024x1024 .bf16) (x3 : Vec Ideal S1024x1024 .bf16) (x4 : Vec Ideal S1024x128 .bf16) (x5 : Vec Ideal S1x128 .f32) :
    out0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = kvBlock (k0_pay275 (F := Ideal) (k0_pay3 x0 x1) x3) := by
  funext y
  unfold out0_A_7
  refine View.read_writes_apply_of_pieces _ _ (kvBlock (k0_pay275 (F := Ideal) (k0_pay3 x0 x1) x3)) _ ?_ y (cover0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 y)
  unfold kernelRun0_A
  dsimp only
  have h0 := readAt_all harg1 x0 (off := ![0, 0, 0]) inb_S8x128x1024_S8x128x1024_0_0_0
  have h1 := readAt_all harg2 x1 (off := ![0, 0]) inb_S1x1024_S1x1024_0_0
  have h3 := readAt_all harg4 x3 (off := ![0, 0]) inb_S1024x1024_S1024x1024_0_0
  have er : kernelRun0_A.sl.r (F := Ideal) c arg1 harg1 arg2 harg2 x0 x1 = k0_pay3 x0 x1 := congrArg₂ (k0_pay3 (F := Ideal)) h0 h1
  have e28 : kernelRun0_A.sl.r_28 (F := Ideal) c arg1 harg1 arg2 harg2 arg4 harg4 x0 x1 x3 = k0_pay275 (k0_pay3 x0 x1) x3 := congrArg₂ (k0_pay275 (F := Ideal)) er h3
  have e29 : kernelRun0_A.sl.r_29 (F := Ideal) c arg1 harg1 arg2 harg2 arg4 harg4 x0 x1 x3 = k0_pay279 (k0_pay3 x0 x1) x3 := congrArg₂ (k0_pay279 (F := Ideal)) er h3
  have e30 : kernelRun0_A.sl.r_30 (F := Ideal) c arg1 harg1 arg2 harg2 arg4 harg4 x0 x1 x3 = k0_pay286 (k0_pay275 (k0_pay3 x0 x1) x3) := congrArg (k0_pay286 (F := Ideal)) e28
  have e31 : kernelRun0_A.sl.r_31 (F := Ideal) c arg1 harg1 arg2 harg2 arg4 harg4 x0 x1 x3 = k0_pay293 (k0_pay275 (k0_pay3 x0 x1) x3) := congrArg (k0_pay293 (F := Ideal)) e28
  have e0 : k0_pay277 (F := Ideal) (kernelRun0_A.sl.r c arg1 harg1 arg2 harg2 x0 x1)
      (View.readAt (Elt Ideal) arg4.view (Rect.unit (s := S1024x1024) ![0, 0] ![1024, 1024] inb_S1024x1024_S1024x1024_0_0).toLoadRect (harg4.unread x3))
      = k0_pay277 (k0_pay3 x0 x1) x3 := congrArg₂ (k0_pay277 (F := Ideal)) er h3
  rw [e28, e29, e30, e31, e0]
  unfold k0_pay277 k0_pay279
  generalize k0_pay275 (F := Ideal) (k0_pay3 x0 x1) x3 = v
  intro q hq
  simp only [List.mem_cons, List.not_mem_nil, or_false] at hq
  rcases hq with rfl | rfl | rfl | rfl | rfl | rfl | rfl | rfl
  · exact piece_ok v (slab v 896 slices_S1024x1024_o0_896_S1024x128) 7 (fun b s l => slab_apply v 896 _ 7 rfl b s l) inb_S8x8x128x128_S8x1x128x128_0_7_0_0
  · exact piece_ok v (slab v 768 slices_S1024x1024_o0_768_S1024x128) 6 (fun b s l => slab_apply v 768 _ 6 rfl b s l) inb_S8x8x128x128_S8x1x128x128_0_6_0_0
  · exact piece_ok v (slab v 640 slices_S1024x1024_o0_640_S1024x128) 5 (fun b s l => slab_apply v 640 _ 5 rfl b s l) inb_S8x8x128x128_S8x1x128x128_0_5_0_0
  · exact piece_ok v (slab v 512 slices_S1024x1024_o0_512_S1024x128) 4 (fun b s l => slab_apply v 512 _ 4 rfl b s l) inb_S8x8x128x128_S8x1x128x128_0_4_0_0
  · exact piece_ok v (slab v 384 slices_S1024x1024_o0_384_S1024x128) 3 (fun b s l => slab_apply v 384 _ 3 rfl b s l) inb_S8x8x128x128_S8x1x128x128_0_3_0_0
  · exact piece_ok v (slab v 256 slices_S1024x1024_o0_256_S1024x128) 2 (fun b s l => slab_apply v 256 _ 2 rfl b s l) inb_S8x8x128x128_S8x1x128x128_0_2_0_0
  · exact piece_ok v (slab v 128 slices_S1024x1024_o0_128_S1024x128) 1 (fun b s l => slab_apply v 128 _ 1 rfl b s l) inb_S8x8x128x128_S8x1x128x128_0_1_0_0
  · exact piece_ok v (slab v 0 slices_S1024x1024_o0_0_S1024x128) 0 (fun b s l => slab_apply v 0 _ 0 rfl b s l) inb_S8x8x128x128_S8x1x128x128_0_0_0_0

/-- The keys' block after the body, at a later point. -/
theorem outB_6 (c : Dev nD) (i : grid0.Coords) (arg1 : Memref sig .tc .vmem S8x128x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1x128 .f32) (harg6 : arg6.IsWhole) (arg7 : Memref sig .tc .vmem S8x8x128x128 .bf16) (harg7 : arg7.IsWhole) (arg8 : Memref sig .tc .vmem S8x8x128x128 .bf16) (harg8 : arg8.IsWhole) (arg9 : Memref sig .tc .vmem S8x128x128 .f32) (harg9 : arg9.IsWhole) (arg10 : Memref sig .tc .vmem S8x16x128 .f32) (harg10 : arg10.IsWhole) (arg11 : Memref sig .tc .vmem S128x8x128 .f32) (harg11 : arg11.IsWhole) (arg12 : Memref sig .tc .vmem S8x128 .f32) (harg12 : arg12.IsWhole) (hc0 : ¬cond0_0 i)
    (x0 : Vec Ideal S8x128x1024 .f32) (x1 : Vec Ideal S1x1024 .f32) (x2 : Vec Ideal S1024x1024 .bf16) (x3 : Vec Ideal S1024x1024 .bf16) (x4 : Vec Ideal S1024x128 .bf16) (x5 : Vec Ideal S1x128 .f32) (xs1 : Vec Ideal S8x128 .f32) :
    out0_B_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xs1 = kvBlock (k0_pay5 (F := Ideal) (k0_pay3 x0 x1) x2) := by
  funext y
  unfold out0_B_6
  refine View.read_writes_apply_of_pieces _ _ (kvBlock (k0_pay5 (F := Ideal) (k0_pay3 x0 x1) x2)) _ ?_ y (cover0_B_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xs1 y)
  unfold kernelRun0_B
  dsimp only
  have h0 := readAt_all harg1 x0 (off := ![0, 0, 0]) inb_S8x128x1024_S8x128x1024_0_0_0
  have h1 := readAt_all harg2 x1 (off := ![0, 0]) inb_S1x1024_S1x1024_0_0
  have h2 := readAt_all harg3 x2 (off := ![0, 0]) inb_S1024x1024_S1024x1024_0_0
  have e : kernelRun0_B.sl.r_2 (F := Ideal) c arg1 harg1 arg2 harg2 arg3 harg3 x0 x1 x2 = k0_pay5 (k0_pay3 x0 x1) x2 :=
    congrArg₂ (k0_pay5 (F := Ideal)) (congrArg₂ (k0_pay3 (F := Ideal)) h0 h1) h2
  rw [e]
  generalize k0_pay5 (F := Ideal) (k0_pay3 x0 x1) x2 = v
  intro q hq
  simp only [List.mem_cons, List.not_mem_nil, or_false] at hq
  rcases hq with rfl | rfl | rfl | rfl | rfl | rfl | rfl | rfl
  · exact piece_ok v (slab v 896 slices_S1024x1024_o0_896_S1024x128) 7 (fun b s l => slab_apply v 896 _ 7 rfl b s l) inb_S8x8x128x128_S8x1x128x128_0_7_0_0
  · exact piece_ok v (slab v 768 slices_S1024x1024_o0_768_S1024x128) 6 (fun b s l => slab_apply v 768 _ 6 rfl b s l) inb_S8x8x128x128_S8x1x128x128_0_6_0_0
  · exact piece_ok v (slab v 640 slices_S1024x1024_o0_640_S1024x128) 5 (fun b s l => slab_apply v 640 _ 5 rfl b s l) inb_S8x8x128x128_S8x1x128x128_0_5_0_0
  · exact piece_ok v (slab v 512 slices_S1024x1024_o0_512_S1024x128) 4 (fun b s l => slab_apply v 512 _ 4 rfl b s l) inb_S8x8x128x128_S8x1x128x128_0_4_0_0
  · exact piece_ok v (slab v 384 slices_S1024x1024_o0_384_S1024x128) 3 (fun b s l => slab_apply v 384 _ 3 rfl b s l) inb_S8x8x128x128_S8x1x128x128_0_3_0_0
  · exact piece_ok v (slab v 256 slices_S1024x1024_o0_256_S1024x128) 2 (fun b s l => slab_apply v 256 _ 2 rfl b s l) inb_S8x8x128x128_S8x1x128x128_0_2_0_0
  · exact piece_ok v (slab v 128 slices_S1024x1024_o0_128_S1024x128) 1 (fun b s l => slab_apply v 128 _ 1 rfl b s l) inb_S8x8x128x128_S8x1x128x128_0_1_0_0
  · exact piece_ok v (slab v 0 slices_S1024x1024_o0_0_S1024x128) 0 (fun b s l => slab_apply v 0 _ 0 rfl b s l) inb_S8x8x128x128_S8x1x128x128_0_0_0_0

/-- The values' block after the body, at a later point. -/
theorem outB_7 (c : Dev nD) (i : grid0.Coords) (arg1 : Memref sig .tc .vmem S8x128x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1x128 .f32) (harg6 : arg6.IsWhole) (arg7 : Memref sig .tc .vmem S8x8x128x128 .bf16) (harg7 : arg7.IsWhole) (arg8 : Memref sig .tc .vmem S8x8x128x128 .bf16) (harg8 : arg8.IsWhole) (arg9 : Memref sig .tc .vmem S8x128x128 .f32) (harg9 : arg9.IsWhole) (arg10 : Memref sig .tc .vmem S8x16x128 .f32) (harg10 : arg10.IsWhole) (arg11 : Memref sig .tc .vmem S128x8x128 .f32) (harg11 : arg11.IsWhole) (arg12 : Memref sig .tc .vmem S8x128 .f32) (harg12 : arg12.IsWhole) (hc0 : ¬cond0_0 i)
    (x0 : Vec Ideal S8x128x1024 .f32) (x1 : Vec Ideal S1x1024 .f32) (x2 : Vec Ideal S1024x1024 .bf16) (x3 : Vec Ideal S1024x1024 .bf16) (x4 : Vec Ideal S1024x128 .bf16) (x5 : Vec Ideal S1x128 .f32) (xs1 : Vec Ideal S8x128 .f32) :
    out0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xs1 = kvBlock (k0_pay275 (F := Ideal) (k0_pay3 x0 x1) x3) := by
  funext y
  unfold out0_B_7
  refine View.read_writes_apply_of_pieces _ _ (kvBlock (k0_pay275 (F := Ideal) (k0_pay3 x0 x1) x3)) _ ?_ y (cover0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xs1 y)
  unfold kernelRun0_B
  dsimp only
  have h0 := readAt_all harg1 x0 (off := ![0, 0, 0]) inb_S8x128x1024_S8x128x1024_0_0_0
  have h1 := readAt_all harg2 x1 (off := ![0, 0]) inb_S1x1024_S1x1024_0_0
  have h3 := readAt_all harg4 x3 (off := ![0, 0]) inb_S1024x1024_S1024x1024_0_0
  have er : kernelRun0_B.sl.r (F := Ideal) c arg1 harg1 arg2 harg2 x0 x1 = k0_pay3 x0 x1 := congrArg₂ (k0_pay3 (F := Ideal)) h0 h1
  have e28 : kernelRun0_B.sl.r_28 (F := Ideal) c arg1 harg1 arg2 harg2 arg4 harg4 x0 x1 x3 = k0_pay275 (k0_pay3 x0 x1) x3 := congrArg₂ (k0_pay275 (F := Ideal)) er h3
  have e29 : kernelRun0_B.sl.r_29 (F := Ideal) c arg1 harg1 arg2 harg2 arg4 harg4 x0 x1 x3 = k0_pay279 (k0_pay3 x0 x1) x3 := congrArg₂ (k0_pay279 (F := Ideal)) er h3
  have e30 : kernelRun0_B.sl.r_30 (F := Ideal) c arg1 harg1 arg2 harg2 arg4 harg4 x0 x1 x3 = k0_pay286 (k0_pay275 (k0_pay3 x0 x1) x3) := congrArg (k0_pay286 (F := Ideal)) e28
  have e31 : kernelRun0_B.sl.r_31 (F := Ideal) c arg1 harg1 arg2 harg2 arg4 harg4 x0 x1 x3 = k0_pay293 (k0_pay275 (k0_pay3 x0 x1) x3) := congrArg (k0_pay293 (F := Ideal)) e28
  have e0 : k0_pay277 (F := Ideal) (kernelRun0_B.sl.r c arg1 harg1 arg2 harg2 x0 x1)
      (View.readAt (Elt Ideal) arg4.view (Rect.unit (s := S1024x1024) ![0, 0] ![1024, 1024] inb_S1024x1024_S1024x1024_0_0).toLoadRect (harg4.unread x3))
      = k0_pay277 (k0_pay3 x0 x1) x3 := congrArg₂ (k0_pay277 (F := Ideal)) er h3
  rw [e28, e29, e30, e31, e0]
  unfold k0_pay277 k0_pay279
  generalize k0_pay275 (F := Ideal) (k0_pay3 x0 x1) x3 = v
  intro q hq
  simp only [List.mem_cons, List.not_mem_nil, or_false] at hq
  rcases hq with rfl | rfl | rfl | rfl | rfl | rfl | rfl | rfl
  · exact piece_ok v (slab v 896 slices_S1024x1024_o0_896_S1024x128) 7 (fun b s l => slab_apply v 896 _ 7 rfl b s l) inb_S8x8x128x128_S8x1x128x128_0_7_0_0
  · exact piece_ok v (slab v 768 slices_S1024x1024_o0_768_S1024x128) 6 (fun b s l => slab_apply v 768 _ 6 rfl b s l) inb_S8x8x128x128_S8x1x128x128_0_6_0_0
  · exact piece_ok v (slab v 640 slices_S1024x1024_o0_640_S1024x128) 5 (fun b s l => slab_apply v 640 _ 5 rfl b s l) inb_S8x8x128x128_S8x1x128x128_0_5_0_0
  · exact piece_ok v (slab v 512 slices_S1024x1024_o0_512_S1024x128) 4 (fun b s l => slab_apply v 512 _ 4 rfl b s l) inb_S8x8x128x128_S8x1x128x128_0_4_0_0
  · exact piece_ok v (slab v 384 slices_S1024x1024_o0_384_S1024x128) 3 (fun b s l => slab_apply v 384 _ 3 rfl b s l) inb_S8x8x128x128_S8x1x128x128_0_3_0_0
  · exact piece_ok v (slab v 256 slices_S1024x1024_o0_256_S1024x128) 2 (fun b s l => slab_apply v 256 _ 2 rfl b s l) inb_S8x8x128x128_S8x1x128x128_0_2_0_0
  · exact piece_ok v (slab v 128 slices_S1024x1024_o0_128_S1024x128) 1 (fun b s l => slab_apply v 128 _ 1 rfl b s l) inb_S8x8x128x128_S8x1x128x128_0_1_0_0
  · exact piece_ok v (slab v 0 slices_S1024x1024_o0_0_S1024x128) 0 (fun b s l => slab_apply v 0 _ 0 rfl b s l) inb_S8x8x128x128_S8x1x128x128_0_0_0_0

end Cert.Kernel3Ideal.Hand

end
-- ==== Proof.KvValue.lean ====
/-
  The key/value kernel's two arrays: at sequence `b`, head pair `p`, time `s` and lane `l`, the normalised row times a column.
-/
module

public import proofs.«01_k».proof.Proof.KvBlock

@[expose] public section

set_option maxRecDepth 16384

noncomputable section

namespace Cert.Kernel3Ideal.Hand

open Cert.Kernel3Ideal Cert.Kernel3Ideal.Gen Cert.Math
open Idealize.ShloMosaic Idealize.ShloMosaic.TcCoe

variable (m : (ℓ : Loc nD τ sig) → Buf (Elt Ideal) ℓ)

/-- The stream's row, the gains, and the two halves of the weights, off the arguments' arrays. -/
abbrev xRow (c : Dev nD) (b : Fin 8) (s : Fin 4096) (k : Fin 1024) : EReal := m ((c.tc : Thread nD τ).loc main_arg0) (ix3 b s k)
abbrev gain (c : Dev nD) (k : Fin 1024) : EReal := m ((c.tc : Thread nD τ).loc main_arg1) (ix1 k)
abbrev wKey (c : Dev nD) (k j : Fin 1024) : EReal := m ((c.tc : Thread nD τ).loc main_arg2) (ix2 k ⟨j.val, by omega⟩)
abbrev wVal (c : Dev nD) (k j : Fin 1024) : EReal := m ((c.tc : Thread nD τ).loc main_arg2) (ix2 k ⟨1024 + j.val, by omega⟩)

/-- The operations before the region, one after another. -/
theorem V_line (c : Dev nD) (b : Ref sig .tc) : V m c b = StableHlo.after
    [hostOps0, hostOps0_1, hostOps0_2, hostOps0_3].flatten (fun b => m (c, b)) (Proc.devRef .tc b) := rfl

theorem V0_apply (c : Dev nD) (k : Fin 1024) : V m c main_v0 (ix2 0 k) = gain m c k := by
  rw [V_line]
  simp only [hostOps0, hostOps0_1, hostOps0_2, hostOps0_3, List.flatten_cons, List.flatten_nil, List.append_nil, List.cons_append, List.nil_append]
  entry_read
  pointwise []

theorem V2_apply (c : Dev nD) (k j : Fin 1024) : V m c main_v2 (ix2 k j) = wKey m c k j := by
  rw [V_line]
  simp only [hostOps0, hostOps0_1, hostOps0_2, hostOps0_3, List.flatten_cons, List.flatten_nil, List.append_nil, List.cons_append, List.nil_append]
  entry_read
  pointwise []

theorem V4_apply (c : Dev nD) (k j : Fin 1024) : V m c main_v4 (ix2 k j) = wVal m c k j := by
  rw [V_line]
  simp only [hostOps0, hostOps0_1, hostOps0_2, hostOps0_3, List.flatten_cons, List.flatten_nil, List.append_nil, List.cons_append, List.nil_append]
  entry_read
  pointwise []

/-- The block indices of the windows at every point. -/
theorem idx : ∀ t : Fin cfg0.N, win0_0.index t = ![0, t.val, 0] ∧ win0_1.index t = ![0, 0] ∧ win0_2.index t = ![0, 0]
    ∧ win0_3.index t = ![0, 0] ∧ win0_6.index t = ![0, 0, t.val, 0] ∧ win0_7.index t = ![0, 0, t.val, 0] :=
  (by decide +kernel : ∀ t : Fin grid0.N, win0_0.index t = ![0, t.val, 0] ∧ win0_1.index t = ![0, 0] ∧ win0_2.index t = ![0, 0]
    ∧ win0_3.index t = ![0, 0] ∧ win0_6.index t = ![0, 0, t.val, 0] ∧ win0_7.index t = ![0, 0, t.val, 0])

theorem N_eq : cfg0.N = 32 := N_0

theorem iblk0_apply (c : Dev nD) (t : Fin cfg0.N) (b : Fin 8) (s : Fin 128) (k : Fin 1024) (S : Fin 4096) (hS : S.val = 128 * t.val + s.val) :
    iblk m c 0 t (ix3 b s k) = xRow m c b S k := by
  have hi := (idx t).1
  unfold xRow
  rw [← V_main_arg0 m c]
  blk_ext! [iblk, hi]

theorem iblk1_apply (c : Dev nD) (t : Fin cfg0.N) (k : Fin 1024) : iblk m c 1 t (ix2 0 k) = gain m c k := by
  have hi := (idx t).2.1
  rw [← V0_apply m c]
  blk_ext! [iblk, hi]

theorem iblk2_apply (c : Dev nD) (t : Fin cfg0.N) (k j : Fin 1024) : iblk m c 2 t (ix2 k j) = wKey m c k j := by
  have hi := (idx t).2.2.1
  rw [← V2_apply m c]
  blk_ext! [iblk, hi]

theorem iblk3_apply (c : Dev nD) (t : Fin cfg0.N) (k j : Fin 1024) : iblk m c 3 t (ix2 k j) = wVal m c k j := by
  have hi := (idx t).2.2.2.1
  rw [← V4_apply m c]
  blk_ext! [iblk, hi]

/-- The keys' array and the values'. -/
def GK (c : Dev nD) : Buf (Elt Ideal) ((c.tc : Thread nD τ).loc main_v9_0) := fun i : S8x8x4096x128.Idx =>
  vecMat (norm (xRow m c (i 0) (i 2)) (gain m c)) (wKey m c) (bcol (i 1) (i 3))
def GV (c : Dev nD) : Buf (Elt Ideal) ((c.tc : Thread nD τ).loc main_v9_1) := fun i : S8x8x4096x128.Idx =>
  vecMat (norm (xRow m c (i 0) (i 2)) (gain m c)) (wVal m c) (bcol (i 1) (i 3))

/-- What each point leaves in the two blocks. -/
theorem after6 (c : Dev nD) (t : Fin cfg0.N) :
    (dats m 0 c).after 6 t = kvBlock (k0_pay5 (F := Ideal) (k0_pay3 (iblk m c 0 t) (iblk m c 1 t)) (iblk m c 2 t)) := by
  rw [after0_6]
  by_cases h : t.val % 32 = 0
  · rw [outsAt0_A m c t h]; dsimp only; rw [outA_6]
  · rw [outsAt0_B m c t h]; dsimp only; rw [outB_6]

theorem after7 (c : Dev nD) (t : Fin cfg0.N) :
    (dats m 0 c).after 7 t = kvBlock (k0_pay275 (F := Ideal) (k0_pay3 (iblk m c 0 t) (iblk m c 1 t)) (iblk m c 3 t)) := by
  rw [after0_7]
  by_cases h : t.val % 32 = 0
  · rw [outsAt0_A m c t h]; dsimp only; rw [outA_7]
  · rw [outsAt0_B m c t h]; dsimp only; rw [outB_7]

/-- The normalised rows of a point. -/
theorem rows_eq (c : Dev nD) (t : Fin cfg0.N) (b : Fin 8) (s : Fin 128) (S : Fin 4096) (hS : S.val = 128 * t.val + s.val) :
    (fun k => k0_pay3 (F := Ideal) (iblk m c 0 t) (iblk m c 1 t) (ix2 (brow b s) k)) = norm (xRow m c b S) (gain m c) := by
  funext k
  rw [pay3_apply]
  simp only [iblk1_apply]
  rw [show (fun k => iblk m c 0 t (ix3 b s k)) = xRow m c b S from funext fun k => iblk0_apply m c t b s k S hS]

theorem key_apply (c : Dev nD) (t : Fin cfg0.N) (b p : Fin 8) (s l : Fin 128) (S : Fin 4096) (hS : S.val = 128 * t.val + s.val) :
    kvBlock (k0_pay5 (F := Ideal) (k0_pay3 (iblk m c 0 t) (iblk m c 1 t)) (iblk m c 2 t)) (ix4 b p s l)
      = vecMat (norm (xRow m c b S) (gain m c)) (wKey m c) (bcol p l) := by
  show k0_pay5 (F := Ideal) (k0_pay3 (iblk m c 0 t) (iblk m c 1 t)) (iblk m c 2 t) (ix2 (brow b s) (bcol p l)) = _
  rw [pay5_apply, rows_eq m c t b s S hS]
  simp only [iblk2_apply]

theorem val_apply (c : Dev nD) (t : Fin cfg0.N) (b p : Fin 8) (s l : Fin 128) (S : Fin 4096) (hS : S.val = 128 * t.val + s.val) :
    kvBlock (k0_pay275 (F := Ideal) (k0_pay3 (iblk m c 0 t) (iblk m c 1 t)) (iblk m c 3 t)) (ix4 b p s l)
      = vecMat (norm (xRow m c b S) (gain m c)) (wVal m c) (bcol p l) := by
  show k0_pay275 (F := Ideal) (k0_pay3 (iblk m c 0 t) (iblk m c 1 t)) (iblk m c 3 t) (ix2 (brow b s) (bcol p l)) = _
  rw [pay275_apply, rows_eq m c t b s S hS]
  simp only [iblk3_apply]

/-- The keys' array after the run. -/
theorem arrAt6 (c : Dev nD) : (dats m 0 c).arrAt 6 cfg0.N = GK m c := by
  refine (dats m 0 c).arrAt_eq_of_covers 6 _ (by decide +kernel) fun t hf y => ?_
  have hi := (idx t).2.2.2.2.1
  blk_simp
  rw [after6]
  obtain ⟨b, p, s, l, rfl⟩ : ∃ (b p : Fin 8) (s l : Fin 128), y = ix4 b p s l := ⟨y 0, y 1, y 2, y 3, by idx_ext⟩
  have e0 : (((win0_6.blk t).view.emb (ix4 b p s l)) 0 : Fin 8) = b := Fin.ext (by blk_simp [hi])
  have e1 : (((win0_6.blk t).view.emb (ix4 b p s l)) 1 : Fin 8) = p := Fin.ext (by blk_simp [hi])
  have e3 : (((win0_6.blk t).view.emb (ix4 b p s l)) 3 : Fin 128) = l := Fin.ext (by blk_simp [hi])
  have e2 : ((((win0_6.blk t).view.emb (ix4 b p s l)) 2 : Fin 4096) : ℕ) = 128 * t.val + s.val := by
    blk_simp [hi]; simp [ix4]; omega
  unfold GK
  rw [key_apply m c t b p s l _ e2, e0, e1, e3]

/-- The values' array after the run. -/
theorem arrAt7 (c : Dev nD) : (dats m 0 c).arrAt 7 cfg0.N = GV m c := by
  refine (dats m 0 c).arrAt_eq_of_covers 7 _ (by decide +kernel) fun t hf y => ?_
  have hi := (idx t).2.2.2.2.2
  blk_simp
  rw [after7]
  obtain ⟨b, p, s, l, rfl⟩ : ∃ (b p : Fin 8) (s l : Fin 128), y = ix4 b p s l := ⟨y 0, y 1, y 2, y 3, by idx_ext⟩
  have e0 : (((win0_7.blk t).view.emb (ix4 b p s l)) 0 : Fin 8) = b := Fin.ext (by blk_simp [hi])
  have e1 : (((win0_7.blk t).view.emb (ix4 b p s l)) 1 : Fin 8) = p := Fin.ext (by blk_simp [hi])
  have e3 : (((win0_7.blk t).view.emb (ix4 b p s l)) 3 : Fin 128) = l := Fin.ext (by blk_simp [hi])
  have e2 : ((((win0_7.blk t).view.emb (ix4 b p s l)) 2 : Fin 4096) : ℕ) = 128 * t.val + s.val := by
    blk_simp [hi]; simp [ix4]; omega
  unfold GV
  rw [val_apply m c t b p s l _ e2, e0, e1, e3]

end Cert.Kernel3Ideal.Hand

end
-- ==== Proof.KvRef.lean ====
/-
  The key/value reference's results at an index: the normalised row times a column of the weights.
-/
module

public import proofs.«01_k».proof.Proof.FfnPay
public import proofs.«01_k».proof.Proof.Gen.Reference3Ideal.Read

@[expose] public section

set_option maxRecDepth 16384

noncomputable section

namespace Cert.Reference3Ideal.Hand

open Cert.Reference3Ideal Cert.Reference3Ideal.Gen Cert.Reference3Ideal.Read Cert.Math
open Idealize.ShloMosaic Idealize.ShloMosaic.TcCoe

variable (x0 : FVec Ideal S8x4096x1024 .f32) (x1 : FVec Ideal S1024 .f32) (x2 : FVec Ideal S1024x2048 .f32)

/-- The normalised input. -/
theorem v12_eq (b : Fin 8) (s : Fin 4096) (k : Fin 1024) :
    val_main_v12 (F := Ideal) x0 x1 (ix3 b s k) = norm (fun k => x0 (ix3 b s k)) (fun k => x1 (ix1 k)) k := by
  pointwise [val_main_v12, val_main_v11, val_main_v10, val_main_v9, val_main_v8, val_main_v7,
    val_main_cst_1, val_main_v6, val_main_v5, val_main_cst_0, val_main_v4, val_main_v3, val_main_cst, val_main_v2, val_main_v1, val_main_v0]
  rfl

/-- The product. -/
theorem v13_eq (b : Fin 8) (s : Fin 4096) (j : Fin 2048) :
    val_main_v13 (F := Ideal) x0 x1 x2 (ix3 b s j)
      = vecMat (norm (fun k => x0 (ix3 b s k)) (fun k => x1 (ix1 k))) (fun k j => x2 (ix2 k j)) j := by
  pointwise [val_main_v13]
  simp only [v12_eq]; rfl

/-- The product laid out: `n` tells keys from values, `p` is the head pair. -/
theorem v15_eq (n : Fin 2) (b p : Fin 8) (s : Fin 4096) (l : Fin 128) (j : Fin 2048) (hj : j.val = 1024 * n.val + 128 * p.val + l.val) :
    val_main_v15 (F := Ideal) x0 x1 x2 (ix5 n b p s l) = val_main_v13 (F := Ideal) x0 x1 x2 (ix3 b s j) := by
  rw [val_main_v15_apply, val_main_v14_apply]
  congr 1
  funext a
  match a with
  | ⟨0, _⟩ => exact Fin.ext (by show ((((b.val * 4096 + s.val) * 2 + n.val) * 8 + p.val) * 128 + l.val) / 8388608 = b.val; omega)
  | ⟨1, _⟩ => exact Fin.ext (by show ((((b.val * 4096 + s.val) * 2 + n.val) * 8 + p.val) * 128 + l.val) / 2048 % 4096 = s.val; omega)
  | ⟨2, _⟩ => exact Fin.ext (by show ((((b.val * 4096 + s.val) * 2 + n.val) * 8 + p.val) * 128 + l.val) % 2048 = j.val; omega)

/-- The keys. -/
theorem v18_eq (b p : Fin 8) (s : Fin 4096) (l : Fin 128) (j : Fin 2048) (hj : j.val = 128 * p.val + l.val) :
    val_main_v18 (F := Ideal) x0 x1 x2 (ix4 b p s l)
      = vecMat (norm (fun k => x0 (ix3 b s k)) (fun k => x1 (ix1 k))) (fun k j => x2 (ix2 k j)) j := by
  rw [val_main_v18_apply, val_main_v17_apply, val_main_v16_apply, ← v13_eq, ← v15_eq x0 x1 x2 0 b p s l j (by simpa using hj)]
  refine Eq.trans (b := val_main_v15 (F := Ideal) x0 x1 x2 _) rfl ?_
  congr 1
  funext a
  match a with
  | ⟨0, _⟩ => rfl
  | ⟨1, _⟩ => exact Fin.ext (by show (((b.val * 8 + p.val) * 4096 + s.val) * 128 + l.val) / 4194304 % 8 = b.val; rw [show (((b.val * 8 + p.val) * 4096 + s.val) * 128 + l.val) / 4194304 = b.val by omega]; omega)
  | ⟨2, _⟩ => exact Fin.ext (by show (((b.val * 8 + p.val) * 4096 + s.val) * 128 + l.val) / 524288 % 8 = p.val; omega)
  | ⟨3, _⟩ => exact Fin.ext (by show (((b.val * 8 + p.val) * 4096 + s.val) * 128 + l.val) / 128 % 4096 = s.val; omega)
  | ⟨4, _⟩ => exact Fin.ext (by show (((b.val * 8 + p.val) * 4096 + s.val) * 128 + l.val) % 128 = l.val; omega)

/-- The values. -/
theorem v21_eq (b p : Fin 8) (s : Fin 4096) (l : Fin 128) (j : Fin 2048) (hj : j.val = 1024 + (128 * p.val + l.val)) :
    val_main_v21 (F := Ideal) x0 x1 x2 (ix4 b p s l)
      = vecMat (norm (fun k => x0 (ix3 b s k)) (fun k => x1 (ix1 k))) (fun k j => x2 (ix2 k j)) j := by
  rw [val_main_v21_apply, val_main_v20_apply, val_main_v19_apply, ← v13_eq, ← v15_eq x0 x1 x2 1 b p s l j (by show j.val = 1024 * 1 + 128 * p.val + l.val; omega)]
  refine Eq.trans (b := val_main_v15 (F := Ideal) x0 x1 x2 _) rfl ?_
  congr 1
  funext a
  match a with
  | ⟨0, _⟩ => rfl
  | ⟨1, _⟩ => exact Fin.ext (by show (((b.val * 8 + p.val) * 4096 + s.val) * 128 + l.val) / 4194304 % 8 = b.val; rw [show (((b.val * 8 + p.val) * 4096 + s.val) * 128 + l.val) / 4194304 = b.val by omega]; omega)
  | ⟨2, _⟩ => exact Fin.ext (by show (((b.val * 8 + p.val) * 4096 + s.val) * 128 + l.val) / 524288 % 8 = p.val; omega)
  | ⟨3, _⟩ => exact Fin.ext (by show (((b.val * 8 + p.val) * 4096 + s.val) * 128 + l.val) / 128 % 4096 = s.val; omega)
  | ⟨4, _⟩ => exact Fin.ext (by show (((b.val * 8 + p.val) * 4096 + s.val) * 128 + l.val) % 128 = l.val; omega)

end Cert.Reference3Ideal.Hand

end
-- ==== Proof.KvClaim.lean ====
/-
  The key/value call's claims: its two frames, the reference's frame, and the equality over the extended reals.
-/
module

public import proofs.«01_k».proof.Defs
public import proofs.«01_k».proof.Proof.KvValue
public import proofs.«01_k».proof.Proof.KvRef
public import proofs.«01_k».proof.Proof.Gen.Kernel3.Frame
public import proofs.«01_k».proof.Proof.Gen.Reference3Ideal.Run
public import Idealize.ShloMosaic.Lib.Claim

@[expose] public section

noncomputable section

namespace Cert.Kv

open Idealize.ShloMosaic Idealize.ShloMosaic.TcCoe Idealize.SL.Sem

/-- The kernel's frame at the machine's words. -/
theorem frame_P : Cert.quiescent_Kernel3 := fun m ρ _ => Cert.Kernel3.Gen.frame m ρ

/-- The kernel's frame over the extended reals. -/
theorem frame_PI : Cert.quiescent_Kernel3Ideal := fun m ρ _ => Cert.Kernel3Ideal.Gen.frame m ρ

/-- The reference's frame: host operations only, no semaphore declared. -/
theorem frame_RI : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The reference's keys are the function of the arguments that the kernel's array of keys holds. -/
theorem key_eq (m : (ℓ : Loc Cert.Kernel3Ideal.nD Cert.Kernel3Ideal.τ Cert.Kernel3Ideal.sig) → Buf (Elt Ideal) ℓ)
    (c : Dev Cert.Kernel3Ideal.nD) :
    Cert.Reference3Ideal.Read.val_main_v18 (F := Ideal)
        (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg2))
      = Cert.Kernel3Ideal.Hand.GK m c := by
  funext i
  obtain ⟨b, p, s, l, rfl⟩ : ∃ (b p : Fin 8) (s : Fin 4096) (l : Fin 128), i = ix4 b p s l := ⟨i 0, i 1, i 2, i 3, by idx_ext⟩
  rw [Cert.Reference3Ideal.Hand.v18_eq _ _ _ b p s l ⟨128 * p.val + l.val, by omega⟩ rfl]
  rfl

/-- The reference's values are the function of the arguments that the kernel's array of values holds. -/
theorem val_eq (m : (ℓ : Loc Cert.Kernel3Ideal.nD Cert.Kernel3Ideal.τ Cert.Kernel3Ideal.sig) → Buf (Elt Ideal) ℓ)
    (c : Dev Cert.Kernel3Ideal.nD) :
    Cert.Reference3Ideal.Read.val_main_v21 (F := Ideal)
        (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg2))
      = Cert.Kernel3Ideal.Hand.GV m c := by
  funext i
  obtain ⟨b, p, s, l, rfl⟩ : ∃ (b p : Fin 8) (s : Fin 4096) (l : Fin 128), i = ix4 b p s l := ⟨i 0, i 1, i 2, i 3, by idx_ext⟩
  rw [Cert.Reference3Ideal.Hand.v21_eq _ _ _ b p s l ⟨1024 + (128 * p.val + l.val), by omega⟩ rfl]
  rfl

/-- Kernel and reference end with equal keys and equal values over the extended reals. -/
theorem algebraic : Cert.algebraic_Kernel3Ideal_Reference3Ideal := by
  intro m g m' g' _ hagree
  refine ⟨fun c => Cert.Kernel3Ideal.Hand.GK m c, fun c => Cert.Kernel3Ideal.Hand.GV m c, ?_, ?_⟩
  · refine θ_run_mono (θ_run_and (Cert.Kernel3Ideal.Gen.frame m g) (Cert.Kernel3Ideal.Gen.run_main_quiescent m g)) ?_
    rintro r ⟨hf, hq, -⟩ c
    exact ⟨((hq c).1 6).trans (Cert.Kernel3Ideal.Hand.arrAt6 m c), ((hq c).1 7).trans (Cert.Kernel3Ideal.Hand.arrAt7 m c), hf.1 c⟩
  · refine θ_run_mono (Cert.Reference3Ideal.Value.run (F := Ideal) m' g') ?_
    intro r h c
    obtain ⟨h0, h1, h2, h3, h4⟩ := hagree c
    refine ⟨(h c).1.trans ?_, (h c).2.1.trans ?_, (h c).2.2⟩
    · rw [Cert.Reference3Ideal.Read.val_main_v18_eq, h0, h1, h2]
      exact key_eq m c
    · rw [Cert.Reference3Ideal.Read.val_main_v21_eq, h0, h1, h2]
      exact val_eq m c

end Cert.Kv

end
-- ==== Proof.lean ====
module

public import proofs.«01_k».proof.Defs
public import proofs.«01_k».proof.Proof.LruClaim
public import proofs.«01_k».proof.Proof.FfnClaim
public import proofs.«01_k».proof.Proof.KvClaim
public import Idealize.ShloMosaic.Adequacy
public import Idealize.ShloMosaic.Init

@[expose] public section

noncomputable section

namespace Cert.Proof

/-- Everything claimed: the facts of the nine programs, the frames, and for each call that its idealization preserves it and
that kernel and reference end with equal results. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Lru.frame_P, Cert.Lru.frame_PI, Cert.Lru.frame_RI, Cert.Ffn.frame_P, Cert.Ffn.frame_PI, Cert.Ffn.frame_RI,
    Cert.Kv.frame_P, Cert.Kv.frame_PI, Cert.Kv.frame_RI,
    trivial, Cert.Lru.algebraic, trivial, Cert.Ffn.algebraic, trivial, Cert.Kv.algebraic⟩

end Cert.Proof

end
